-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs2 [hPre_finite_inputs2 : Cert.Pre_finite_inputs2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs2 [hPre_finite_inputs2 : Cert.Pre_finite_inputs2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite_inputs18 [hPre_finite_inputs18 : Cert.Pre_finite_inputs18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite_inputs18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite_inputs18 [hPre_finite_inputs18 : Cert.Pre_finite_inputs18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite_inputs18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3))) = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite_inputs2 [hKernel2Ideal : Cert.Kernel2Ideal.Facts] [hPre_finite_inputs2 : Cert.Pre_finite_inputs2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite_inputs2 [hReference2Ideal : Cert.Reference2Ideal.Facts] [hPre_finite_inputs2 : Cert.Pre_finite_inputs2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Kernel18Ideal_pre_finite_inputs18 [hKernel18Ideal : Cert.Kernel18Ideal.Facts] [hPre_finite_inputs18 : Cert.Pre_finite_inputs18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite_inputs18 m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Reference18Ideal_pre_finite_inputs18 [hReference18Ideal : Cert.Reference18Ideal.Facts] [hPre_finite_inputs18 : Cert.Pre_finite_inputs18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite_inputs18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v12_3)) (v4 : (c : Dev Cert.KernelIdeal.nD) → Buf (Elt Ideal) ((c.tc : Thread Cert.KernelIdeal.nD Cert.KernelIdeal.τ).loc Cert.KernelIdeal.main_v12_4)) (v5 : (c : Dev Cert.KernelIdeal.nD) → Buf (Elt Ideal) ((c.tc : Thread Cert.KernelIdeal.nD Cert.KernelIdeal.τ).loc Cert.KernelIdeal.main_v12_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_v12_4) = v4 c
          ∧ r.2.mem ((c.tc : Thread Cert.KernelIdeal.nD Cert.KernelIdeal.τ).loc Cert.KernelIdeal.main_v12_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_v161) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_v105) = v3 c
          ∧ r.2.mem ((c.tc : Thread Cert.ReferenceIdeal.nD Cert.ReferenceIdeal.τ).loc Cert.ReferenceIdeal.main_v102) = v4 c
          ∧ r.2.mem ((c.tc : Thread Cert.ReferenceIdeal.nD Cert.ReferenceIdeal.τ).loc Cert.ReferenceIdeal.main_v165) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_finite_inputs2 [hKernel2Ideal : Cert.Kernel2Ideal.Facts] [hReference2Ideal : Cert.Reference2Ideal.Facts] [hPre_finite_inputs2 : Cert.Pre_finite_inputs2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3_0)) (v1 : (c : Dev Cert.Kernel2Ideal.nD) → Buf (Elt Ideal) ((c.tc : Thread Cert.Kernel2Ideal.nD Cert.Kernel2Ideal.τ).loc Cert.Kernel2Ideal.main_v3_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3_0) = v0 c
          ∧ r.2.mem ((c.tc : Thread Cert.Kernel2Ideal.nD Cert.Kernel2Ideal.τ).loc Cert.Kernel2Ideal.main_v3_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_v8) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v7_0)) (v1 : (c : Dev Cert.Kernel10Ideal.nD) → Buf (Elt Ideal) ((c.tc : Thread Cert.Kernel10Ideal.nD Cert.Kernel10Ideal.τ).loc Cert.Kernel10Ideal.main_v7_1)) (v2 : (c : Dev Cert.Kernel10Ideal.nD) → Buf (Elt Ideal) ((c.tc : Thread Cert.Kernel10Ideal.nD Cert.Kernel10Ideal.τ).loc Cert.Kernel10Ideal.main_v7_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7_0) = v0 c
          ∧ r.2.mem ((c.tc : Thread Cert.Kernel10Ideal.nD Cert.Kernel10Ideal.τ).loc Cert.Kernel10Ideal.main_v7_1) = v1 c
          ∧ r.2.mem ((c.tc : Thread Cert.Kernel10Ideal.nD Cert.Kernel10Ideal.τ).loc Cert.Kernel10Ideal.main_v7_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_v1) = v1 c
          ∧ r.2.mem ((c.tc : Thread Cert.Reference10Ideal.nD Cert.Reference10Ideal.τ).loc Cert.Reference10Ideal.main_v4) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v38) = v0 c
          ∧ r.2.mem ((c.tc : Thread Cert.Reference14Ideal.nD Cert.Reference14Ideal.τ).loc Cert.Reference14Ideal.main_v39) = v1 c
          ∧ r.2.mem ((c.tc : Thread Cert.Reference14Ideal.nD Cert.Reference14Ideal.τ).loc Cert.Reference14Ideal.main_v40) = v2 c
          ∧ r.2.mem ((c.tc : Thread Cert.Reference14Ideal.nD Cert.Reference14Ideal.τ).loc Cert.Reference14Ideal.main_v37) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)) (v4 : (c : Dev Cert.Kernel15Ideal.nD) → Buf (Elt Ideal) ((c.tc : Thread Cert.Kernel15Ideal.nD Cert.Kernel15Ideal.τ).loc Cert.Kernel15Ideal.main_v0_4)) (v5 : (c : Dev Cert.Kernel15Ideal.nD) → Buf (Elt Ideal) ((c.tc : Thread Cert.Kernel15Ideal.nD Cert.Kernel15Ideal.τ).loc Cert.Kernel15Ideal.main_v0_5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_v0_4) = v4 c
          ∧ r.2.mem ((c.tc : Thread Cert.Kernel15Ideal.nD Cert.Kernel15Ideal.τ).loc Cert.Kernel15Ideal.main_v0_5) = v5 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v54) = v0 c
          ∧ r.2.mem ((c.tc : Thread Cert.Reference15Ideal.nD Cert.Reference15Ideal.τ).loc Cert.Reference15Ideal.main_v61) = v1 c
          ∧ r.2.mem ((c.tc : Thread Cert.Reference15Ideal.nD Cert.Reference15Ideal.τ).loc Cert.Reference15Ideal.main_v60) = v2 c
          ∧ r.2.mem ((c.tc : Thread Cert.Reference15Ideal.nD Cert.Reference15Ideal.τ).loc Cert.Reference15Ideal.main_v37) = v3 c
          ∧ r.2.mem ((c.tc : Thread Cert.Reference15Ideal.nD Cert.Reference15Ideal.τ).loc Cert.Reference15Ideal.main_v32) = v4 c
          ∧ r.2.mem ((c.tc : Thread Cert.Reference15Ideal.nD Cert.Reference15Ideal.τ).loc Cert.Reference15Ideal.main_v29) = v5 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)) (v4 : (c : Dev Cert.Kernel16Ideal.nD) → Buf (Elt Ideal) ((c.tc : Thread Cert.Kernel16Ideal.nD Cert.Kernel16Ideal.τ).loc Cert.Kernel16Ideal.main_v0_4)) (v5 : (c : Dev Cert.Kernel16Ideal.nD) → Buf (Elt Ideal) ((c.tc : Thread Cert.Kernel16Ideal.nD Cert.Kernel16Ideal.τ).loc Cert.Kernel16Ideal.main_v0_5)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_v0_4) = v4 c
          ∧ r.2.mem ((c.tc : Thread Cert.Kernel16Ideal.nD Cert.Kernel16Ideal.τ).loc Cert.Kernel16Ideal.main_v0_5) = v5 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v56) = v0 c
          ∧ r.2.mem ((c.tc : Thread Cert.Reference16Ideal.nD Cert.Reference16Ideal.τ).loc Cert.Reference16Ideal.main_v65) = v1 c
          ∧ r.2.mem ((c.tc : Thread Cert.Reference16Ideal.nD Cert.Reference16Ideal.τ).loc Cert.Reference16Ideal.main_v64) = v2 c
          ∧ r.2.mem ((c.tc : Thread Cert.Reference16Ideal.nD Cert.Reference16Ideal.τ).loc Cert.Reference16Ideal.main_v39) = v3 c
          ∧ r.2.mem ((c.tc : Thread Cert.Reference16Ideal.nD Cert.Reference16Ideal.τ).loc Cert.Reference16Ideal.main_v34) = v4 c
          ∧ r.2.mem ((c.tc : Thread Cert.Reference16Ideal.nD Cert.Reference16Ideal.τ).loc Cert.Reference16Ideal.main_v31) = v5 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v50) = v0 c
          ∧ r.2.mem ((c.tc : Thread Cert.Reference17Ideal.nD Cert.Reference17Ideal.τ).loc Cert.Reference17Ideal.main_v33) = v1 c
          ∧ r.2.mem ((c.tc : Thread Cert.Reference17Ideal.nD Cert.Reference17Ideal.τ).loc Cert.Reference17Ideal.main_v28) = v2 c
          ∧ r.2.mem ((c.tc : Thread Cert.Reference17Ideal.nD Cert.Reference17Ideal.τ).loc Cert.Reference17Ideal.main_v25) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal_pre_finite_inputs18 [hKernel18Ideal : Cert.Kernel18Ideal.Facts] [hReference18Ideal : Cert.Reference18Ideal.Facts] [hPre_finite_inputs18 : Cert.Pre_finite_inputs18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite_inputs18 m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v59) = v0 c
          ∧ r.2.mem ((c.tc : Thread Cert.Reference18Ideal.nD Cert.Reference18Ideal.τ).loc Cert.Reference18Ideal.main_v33) = v1 c
          ∧ r.2.mem ((c.tc : Thread Cert.Reference18Ideal.nD Cert.Reference18Ideal.τ).loc Cert.Reference18Ideal.main_v30) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)) (v2 : (c : Dev Cert.Kernel19Ideal.nD) → Buf (Elt Ideal) ((c.tc : Thread Cert.Kernel19Ideal.nD Cert.Kernel19Ideal.τ).loc Cert.Kernel19Ideal.main_v1_2)) (v3 : (c : Dev Cert.Kernel19Ideal.nD) → Buf (Elt Ideal) ((c.tc : Thread Cert.Kernel19Ideal.nD Cert.Kernel19Ideal.τ).loc Cert.Kernel19Ideal.main_v1_3)) (v4 : (c : Dev Cert.Kernel19Ideal.nD) → Buf (Elt Ideal) ((c.tc : Thread Cert.Kernel19Ideal.nD Cert.Kernel19Ideal.τ).loc Cert.Kernel19Ideal.main_v1_4)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_v1_2) = v2 c
          ∧ r.2.mem ((c.tc : Thread Cert.Kernel19Ideal.nD Cert.Kernel19Ideal.τ).loc Cert.Kernel19Ideal.main_v1_3) = v3 c
          ∧ r.2.mem ((c.tc : Thread Cert.Kernel19Ideal.nD Cert.Kernel19Ideal.τ).loc Cert.Kernel19Ideal.main_v1_4) = v4 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v54) = v0 c
          ∧ r.2.mem ((c.tc : Thread Cert.Reference19Ideal.nD Cert.Reference19Ideal.τ).loc Cert.Reference19Ideal.main_v62) = v1 c
          ∧ r.2.mem ((c.tc : Thread Cert.Reference19Ideal.nD Cert.Reference19Ideal.τ).loc Cert.Reference19Ideal.main_v61) = v2 c
          ∧ r.2.mem ((c.tc : Thread Cert.Reference19Ideal.nD Cert.Reference19Ideal.τ).loc Cert.Reference19Ideal.main_v38) = v3 c
          ∧ r.2.mem ((c.tc : Thread Cert.Reference19Ideal.nD Cert.Reference19Ideal.τ).loc Cert.Reference19Ideal.main_v63) = v4 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v21) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_v24) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v7) = v0 c
          ∧ r.2.mem ((c.tc : Thread Cert.Reference22Ideal.nD Cert.Reference22Ideal.τ).loc Cert.Reference22Ideal.main_v26) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v20) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hPre_finite_inputs : Cert.Pre_finite_inputs.Facts) (hPre_finite_inputs2 : Cert.Pre_finite_inputs2.Facts) (hPre_finite_inputs18 : Cert.Pre_finite_inputs18.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Kernel2Ideal_pre_finite_inputs2 (hKernel2Ideal := hKernel2Ideal) (hPre_finite_inputs2 := hPre_finite_inputs2)
    ∧ quiescent_Reference2Ideal (hReference2Ideal := hReference2Ideal)
    ∧ quiescent_Reference2Ideal_pre_finite_inputs2 (hReference2Ideal := hReference2Ideal) (hPre_finite_inputs2 := hPre_finite_inputs2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_finite_inputs18 (hKernel18Ideal := hKernel18Ideal) (hPre_finite_inputs18 := hPre_finite_inputs18)
    ∧ quiescent_Reference18Ideal (hReference18Ideal := hReference18Ideal)
    ∧ quiescent_Reference18Ideal_pre_finite_inputs18 (hReference18Ideal := hReference18Ideal) (hPre_finite_inputs18 := hPre_finite_inputs18)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal_pre_finite_inputs2 (hKernel2Ideal := hKernel2Ideal) (hReference2Ideal := hReference2Ideal) (hPre_finite_inputs2 := hPre_finite_inputs2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_finite_inputs18 (hKernel18Ideal := hKernel18Ideal) (hReference18Ideal := hReference18Ideal) (hPre_finite_inputs18 := hPre_finite_inputs18)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
-- ==== Pre_finite_inputs.lean ====
abbrev S2048x6144 : Shape := ⟨2, ![2048, 6144]⟩
abbrev S1x6144 : Shape := ⟨2, ![1, 6144]⟩
abbrev S1x1024 : Shape := ⟨2, ![1, 1024]⟩
abbrev S1x8x128x128 : Shape := ⟨4, ![1, 8, 128, 128]⟩
abbrev S1x8x128 : Shape := ⟨3, ![1, 8, 128]⟩
abbrev S2048x1024 : Shape := ⟨2, ![2048, 1024]⟩
abbrev S_ : Shape := ⟨0, ![]⟩

class Facts : Prop where
  slices_S2048x6144_S2048x1024_0_0 : S2048x6144.Slices ![0, 0] S2048x1024
  bcast_S_S2048x1024 : S_.BroadcastsInDim S2048x1024 (![] : Fin 0 → Fin S2048x1024.rank)
  reducesTo_S2048x1024_S_d0_1 : S2048x1024.ReducesTo [0, 1] S_
  h_S_ : 0 < S_.numel
  slices_S1x6144_S1x1024_0_0 : S1x6144.Slices ![0, 0] S1x1024
  bcast_S_S1x1024 : S_.BroadcastsInDim S1x1024 (![] : Fin 0 → Fin S1x1024.rank)
  reducesTo_S1x1024_S_d0_1 : S1x1024.ReducesTo [0, 1] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_

variable [Facts]

def fn_part2 {F : FTy → Type} [FloatOps F] (main_v28 : IVec S_ 1) (main_v33 : IVec S2048x1024 1) : IVec S_ 1 :=
  let main_c_12 : IVec S_ 1 := constantI S_ 1 1#1
  let main_v34 : IVec S_ 1 := (fun x v => Host.reduce IntOp.andi x v reducesTo_S2048x1024_S_d0_1 h_S_) main_v33 main_c_12
  let main_v35 : IVec S_ 1 := andi main_v28 main_v34
  main_v35

def fn_part1 {F : FTy → Type} [FloatOps F] (main_arg2 : FVec F S1x1024 .f32) (main_arg4 : FVec F S1x8x128x128 .f32) (main_arg6 : FVec F S2048x1024 .f32) (main_v14 : IVec S_ 1) (main_v16 : IVec S1x1024 1) : IVec S_ 1 :=
  let main_cst_5 : FVec F S_ .f32 := constant S_ .f32 0xFF800000#32
  let main_v17 : FVec F S1x1024 .f32 := broadcastInDim S1x1024 ![] bcast_S_S1x1024 main_cst_5
  let main_v18 : IVec S1x1024 1 := cmpf .ogt main_arg2 main_v17
  let main_v19 : IVec S1x1024 1 := andi main_v16 main_v18
  let main_c_6 : IVec S_ 1 := constantI S_ 1 1#1
  let main_v20 : IVec S_ 1 := (fun x v => Host.reduce IntOp.andi x v reducesTo_S1x1024_S_d0_1 h_S_) main_v19 main_c_6
  let main_v21 : IVec S_ 1 := andi main_v14 main_v20
  let main_cst_7 : FVec F S_ .f32 := constant S_ .f32 0x7F800000#32
  let main_v22 : FVec F S1x8x128x128 .f32 := broadcastInDim S1x8x128x128 ![] bcast_S_S1x8x128x128 main_cst_7
  let main_v23 : IVec S1x8x128x128 1 := cmpf .olt main_arg4 main_v22
  let main_cst_8 : FVec F S_ .f32 := constant S_ .f32 0xFF800000#32
  let main_v24 : FVec F S1x8x128x128 .f32 := broadcastInDim S1x8x128x128 ![] bcast_S_S1x8x128x128 main_cst_8
  let main_v25 : IVec S1x8x128x128 1 := cmpf .ogt main_arg4 main_v24
  let main_v26 : IVec S1x8x128x128 1 := andi main_v23 main_v25
  let main_c_9 : IVec S_ 1 := constantI S_ 1 1#1
  let main_v27 : IVec S_ 1 := (fun x v => Host.reduce IntOp.andi x v reducesTo_S1x8x128x128_S_d0_1_2_3 h_S_) main_v26 main_c_9
  let main_v28 : IVec S_ 1 := andi main_v21 main_v27
  let main_cst_10 : FVec F S_ .f32 := constant S_ .f32 0x7F800000#32
  let main_v29 : FVec F S2048x1024 .f32 := broadcastInDim S2048x1024 ![] bcast_S_S2048x1024 main_cst_10
  let main_v30 : IVec S2048x1024 1 := cmpf .olt main_arg6 main_v29
  let main_cst_11 : FVec F S_ .f32 := constant S_ .f32 0xFF800000#32
  let main_v31 : FVec F S2048x1024 .f32 := broadcastInDim S2048x1024 ![] bcast_S_S2048x1024 main_cst_11
  let main_v32 : IVec S2048x1024 1 := cmpf .ogt main_arg6 main_v31
  let main_v33 : IVec S2048x1024 1 := andi main_v30 main_v32
  fn_part2 (F := F) main_v28 main_v33

def fn {F : FTy → Type} [FloatOps F] (main_arg0 : FVec F S2048x6144 .f32) (main_arg1 : FVec F S1x6144 .f32) (main_arg2 : FVec F S1x1024 .f32) (main_arg3 : FVec F S1x1024 .f32) (main_arg4 : FVec F S1x8x128x128 .f32) (main_arg5 : FVec F S1x8x128 .f32) (main_arg6 : FVec F S2048x1024 .f32) : IVec S_ 1 :=
  let main_v0 : FVec F S2048x1024 .f32 := (extractStridedSlice S2048x1024 ![0, 0] · slices_S2048x6144_S2048x1024_0_0) main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_cst_0 : FVec F S_ .f32 := constant S_ .f32 0xFF800000#32
  let main_v3 : FVec F S2048x1024 .f32 := broadcastInDim S2048x1024 ![] bcast_S_S2048x1024 main_cst_0
  let main_v4 : IVec S2048x1024 1 := cmpf .ogt main_v0 main_v3
  let main_v5 : IVec S2048x1024 1 := andi main_v2 main_v4
  let main_c : IVec S_ 1 := constantI S_ 1 1#1
  let main_v6 : IVec S_ 1 := (fun x v => Host.reduce IntOp.andi x v reducesTo_S2048x1024_S_d0_1 h_S_) main_v5 main_c
  let main_v7 : FVec F S1x1024 .f32 := (extractStridedSlice S1x1024 ![0, 0] · slices_S1x6144_S1x1024_0_0) main_arg1
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_cst_2 : FVec F S_ .f32 := constant S_ .f32 0xFF800000#32
  let main_v10 : FVec F S1x1024 .f32 := broadcastInDim S1x1024 ![] bcast_S_S1x1024 main_cst_2
  let main_v11 : IVec S1x1024 1 := cmpf .ogt main_v7 main_v10
  let main_v12 : IVec S1x1024 1 := andi main_v9 main_v11
  let main_c_3 : IVec S_ 1 := constantI S_ 1 1#1
  let main_v13 : IVec S_ 1 := (fun x v => Host.reduce IntOp.andi x v reducesTo_S1x1024_S_d0_1 h_S_) main_v12 main_c_3
  let main_v14 : IVec S_ 1 := andi main_v6 main_v13
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_arg2 main_v15
  fn_part1 (F := F) main_arg2 main_arg4 main_arg6 main_v14 main_v16
-- ==== Pre_finite_inputs18.lean ====
abbrev S2048x1024 : Shape := ⟨2, ![2048, 1024]⟩
abbrev S1x1024 : Shape := ⟨2, ![1, 1024]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x1024 .f32) (main_arg1 : FVec F S1x1024 .f32) (main_arg2 : FVec F S1x1024 .f32) (main_arg3 : FVec F S2048x1024 .f32) : IVec S_ 1 :=
  let main_cst : FVec F S_ .f32 := constant S_ .f32 0x7F800000#32
  let main_v0 : FVec F S1x1024 .f32 := broadcastInDim S1x1024 ![] bcast_S_S1x1024 main_cst
  let main_v1 : IVec S1x1024 1 := cmpf .olt main_arg1 main_v0
  let main_cst_0 : FVec F S_ .f32 := constant S_ .f32 0xFF800000#32
  let main_v2 : FVec F S1x1024 .f32 := broadcastInDim S1x1024 ![] bcast_S_S1x1024 main_cst_0
  let main_v3 : IVec S1x1024 1 := cmpf .ogt main_arg1 main_v2
  let main_v4 : IVec S1x1024 1 := andi main_v1 main_v3
  let main_c : IVec S_ 1 := constantI S_ 1 1#1
  let main_v5 : IVec S_ 1 := (fun x v => Host.reduce IntOp.andi x v reducesTo_S1x1024_S_d0_1 h_S_) main_v4 main_c
  let main_cst_1 : FVec F S_ .f32 := constant S_ .f32 0x7F800000#32
  let main_v6 : FVec F S2048x1024 .f32 := broadcastInDim S2048x1024 ![] bcast_S_S2048x1024 main_cst_1
  let main_v7 : IVec S2048x1024 1 := cmpf .olt main_arg3 main_v6
  let main_cst_2 : FVec F S_ .f32 := constant S_ .f32 0xFF800000#32
  let main_v8 : FVec F S2048x1024 .f32 := broadcastInDim S2048x1024 ![] bcast_S_S2048x1024 main_cst_2
  let main_v9 : IVec S2048x1024 1 := cmpf .ogt main_arg3 main_v8
  let main_v10 : IVec S2048x1024 1 := andi main_v7 main_v9
  let main_c_3 : IVec S_ 1 := constantI S_ 1 1#1
  let main_v11 : IVec S_ 1 := (fun x v => Host.reduce IntOp.andi x v reducesTo_S2048x1024_S_d0_1 h_S_) main_v10 main_c_3
  let main_v12 : IVec S_ 1 := andi main_v5 main_v11
  main_v12
-- ==== Pre_finite_inputs2.lean ====
abbrev S2048x1024 : Shape := ⟨2, ![2048, 1024]⟩
abbrev S4096x1024 : Shape := ⟨2, ![4096, 1024]⟩
abbrev S2048x4096 : Shape := ⟨2, ![2048, 4096]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S2048x4096 : S_.BroadcastsInDim S2048x4096 (![] : Fin 0 → Fin S2048x4096.rank)
  reducesTo_S2048x4096_S_d0_1 : S2048x4096.ReducesTo [0, 1] S_

variable [Facts]

def fn_part1 {F : FTy → Type} [FloatOps F] (main_arg3 : FVec F S2048x4096 .f32) (main_v12 : IVec S_ 1) (main_v14 : IVec S2048x4096 1) (main_v15 : FVec F S2048x4096 .f32) : IVec S_ 1 :=
  let main_v16 : IVec S2048x4096 1 := cmpf .ogt main_arg3 main_v15
  let main_v17 : IVec S2048x4096 1 := andi main_v14 main_v16
  let main_c_6 : IVec S_ 1 := constantI S_ 1 1#1
  let main_v18 : IVec S_ 1 := (fun x v => Host.reduce IntOp.andi x v reducesTo_S2048x4096_S_d0_1 h_S_) main_v17 main_c_6
  let main_v19 : IVec S_ 1 := andi main_v12 main_v18
  main_v19

def fn {F : FTy → Type} [FloatOps F] (main_arg0 : FVec F S2048x1024 .f32) (main_arg1 : FVec F S4096x1024 .f32) (main_arg2 : FVec F S2048x4096 .f32) (main_arg3 : FVec F S2048x4096 .f32) : IVec S_ 1 :=
  let main_cst : FVec F S_ .f32 := constant S_ .f32 0x7F800000#32
  let main_v0 : FVec F S2048x1024 .f32 := broadcastInDim S2048x1024 ![] bcast_S_S2048x1024 main_cst
  let main_v1 : IVec S2048x1024 1 := cmpf .olt main_arg0 main_v0
  let main_cst_0 : FVec F S_ .f32 := constant S_ .f32 0xFF800000#32
  let main_v2 : FVec F S2048x1024 .f32 := broadcastInDim S2048x1024 ![] bcast_S_S2048x1024 main_cst_0
  let main_v3 : IVec S2048x1024 1 := cmpf .ogt main_arg0 main_v2
  let main_v4 : IVec S2048x1024 1 := andi main_v1 main_v3
  let main_c : IVec S_ 1 := constantI S_ 1 1#1
  let main_v5 : IVec S_ 1 := (fun x v => Host.reduce IntOp.andi x v reducesTo_S2048x1024_S_d0_1 h_S_) main_v4 main_c
  let main_cst_1 : FVec F S_ .f32 := constant S_ .f32 0x7F800000#32
  let main_v6 : FVec F S4096x1024 .f32 := broadcastInDim S4096x1024 ![] bcast_S_S4096x1024 main_cst_1
  let main_v7 : IVec S4096x1024 1 := cmpf .olt main_arg1 main_v6
  let main_cst_2 : FVec F S_ .f32 := constant S_ .f32 0xFF800000#32
  let main_v8 : FVec F S4096x1024 .f32 := broadcastInDim S4096x1024 ![] bcast_S_S4096x1024 main_cst_2
  let main_v9 : IVec S4096x1024 1 := cmpf .ogt main_arg1 main_v8
  let main_v10 : IVec S4096x1024 1 := andi main_v7 main_v9
  let main_c_3 : IVec S_ 1 := constantI S_ 1 1#1
  let main_v11 : IVec S_ 1 := (fun x v => Host.reduce IntOp.andi x v reducesTo_S4096x1024_S_d0_1 h_S_) main_v10 main_c_3
  let main_v12 : IVec S_ 1 := andi main_v5 main_v11
  let main_cst_4 : FVec F S_ .f32 := constant S_ .f32 0x7F800000#32
  let main_v13 : FVec F S2048x4096 .f32 := broadcastInDim S2048x4096 ![] bcast_S_S2048x4096 main_cst_4
  let main_v14 : IVec S2048x4096 1 := cmpf .olt main_arg3 main_v13
  let main_cst_5 : FVec F S_ .f32 := constant S_ .f32 0xFF800000#32
  let main_v15 : FVec F S2048x4096 .f32 := broadcastInDim S2048x4096 ![] bcast_S_S2048x4096 main_cst_5
  fn_part1 (F := F) main_arg3 main_v12 main_v14 main_v15
-- ==== Kernel.lean ====
abbrev S2048x6144 : Shape := ⟨2, ![2048, 6144]⟩
abbrev S1x6144 : Shape := ⟨2, ![1, 6144]⟩
abbrev S1x1024 : Shape := ⟨2, ![1, 1024]⟩
abbrev S1x8x128x128 : Shape := ⟨4, ![1, 8, 128, 128]⟩
abbrev S1x8x128 : Shape := ⟨3, ![1, 8, 128]⟩
abbrev S2048x1024 : Shape := ⟨2, ![2048, 1024]⟩
abbrev S_ : Shape := ⟨0, ![]⟩
abbrev S128x128 : Shape := ⟨2, ![128, 128]⟩
abbrev S1x128x128 : Shape := ⟨3, ![1, 128, 128]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S2048x2048 : Shape := ⟨2, ![2048, 2048]⟩
abbrev S1x2048 : Shape := ⟨2, ![1, 2048]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S128 : Shape := ⟨1, ![128]⟩
abbrev S128x1 : Shape := ⟨2, ![128, 1]⟩
abbrev S1024 : Shape := ⟨1, ![1024]⟩
abbrev S2048 : Shape := ⟨1, ![2048]⟩

abbrev nBuf : Space → Nat
  | .hbm => 38
  | .vmem => 19
  | .smem => 0
  | _ => 0

abbrev bufTy : (tb : Table) → Fin (tcTables nBuf tb) → BufTy
  | .hbm, ⟨0, _⟩ => ⟨S2048x6144, .f32⟩
  | .hbm, ⟨1, _⟩ => ⟨S1x6144, .f32⟩
  | .hbm, ⟨2, _⟩ => ⟨S1x1024, .f32⟩
  | .hbm, ⟨3, _⟩ => ⟨S1x1024, .f32⟩
  | .hbm, ⟨4, _⟩ => ⟨S1x8x128x128, .f32⟩
  | .hbm, ⟨5, _⟩ => ⟨S1x8x128, .f32⟩
  | .hbm, ⟨6, _⟩ => ⟨S2048x1024, .f32⟩
  | .hbm, ⟨7, _⟩ => ⟨S_, .i1⟩
  | .hbm, ⟨8, _⟩ => ⟨S128x128, .i1⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S_, .i1⟩
  | .hbm, ⟨16, _⟩ => ⟨S128x128, .i1⟩
  | .hbm, ⟨17, _⟩ => ⟨S128x128, .i1⟩
  | .hbm, ⟨18, _⟩ => ⟨S1x128x128, .i1⟩
  | .hbm, ⟨19, _⟩ => ⟨S8x128x128, .f32⟩
  | .hbm, ⟨20, _⟩ => ⟨S_, .f32⟩
  | .hbm, ⟨21, _⟩ => ⟨S_, .f32⟩
  | .hbm, ⟨22, _⟩ => ⟨S8x128x128, .i1⟩
  | .hbm, ⟨23, _⟩ => ⟨S8x128x128, .f32⟩
  | .hbm, ⟨24, _⟩ => ⟨S8x128x128, .f32⟩
  | .hbm, ⟨25, _⟩ => ⟨S8x128x128, .bf16⟩
  | .hbm, ⟨26, _⟩ => ⟨S8x128x128, .f32⟩
  | .hbm, ⟨27, _⟩ => ⟨S8x128x128, .bf16⟩
  | .hbm, ⟨28, _⟩ => ⟨S8x128, .f32⟩
  | .hbm, ⟨29, _⟩ => ⟨S128x8, .f32⟩
  | .hbm, ⟨30, _⟩ => ⟨S128x8x128, .f32⟩
  | .hbm, ⟨31, _⟩ => ⟨S128x1024, .f32⟩
  | .hbm, ⟨32, _⟩ => ⟨S2048x2048, .bf16⟩
  | .hbm, ⟨33, _⟩ => ⟨S1x2048, .f32⟩
  | .hbm, ⟨34, _⟩ => ⟨S1x1024, .f32⟩
  | .hbm, ⟨35, _⟩ => ⟨S1x1024, .f32⟩
  | .hbm, ⟨36, _⟩ => ⟨S8x128x128, .f32⟩
  | .hbm, ⟨37, _⟩ => ⟨S128x1024, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x1024, .f32⟩
  | .local _ .vmem, ⟨4, _⟩ => ⟨S1x1024, .f32⟩
  | .local _ .vmem, ⟨5, _⟩ => ⟨S8x128x128, .bf16⟩
  | .local _ .vmem, ⟨6, _⟩ => ⟨S8x128x128, .bf16⟩
  | .local _ .vmem, ⟨7, _⟩ => ⟨S128x1024, .f32⟩
  | .local _ .vmem, ⟨8, _⟩ => ⟨S256x1024, .f32⟩
  | .local _ .vmem, ⟨9, _⟩ => ⟨S256x1024, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x1024, .f32⟩
  | .local _ .vmem, ⟨14, _⟩ => ⟨S1x1024, .f32⟩
  | .local _ .vmem, ⟨15, _⟩ => ⟨S8x128x128, .f32⟩
  | .local _ .vmem, ⟨16, _⟩ => ⟨S128x1024, .f32⟩
  | .local _ .vmem, ⟨17, _⟩ => ⟨S256x1024, .f32⟩
  | .local _ .vmem, ⟨18, _⟩ => ⟨S256x1024, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12_0 : Ref sig .tc := ⟨.hbm, 32, rfl⟩
abbrev main_v12_1 : Ref sig .tc := ⟨.hbm, 33, rfl⟩
abbrev main_v12_2 : Ref sig .tc := ⟨.hbm, 34, rfl⟩
abbrev main_v12_3 : Ref sig .tc := ⟨.hbm, 35, rfl⟩
abbrev main_v12_4 : Ref sig .tc := ⟨.hbm, 36, rfl⟩
abbrev main_v12_5 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S2048x6144 : Shape := ⟨2, ![2048, 6144]⟩
abbrev S1x6144 : Shape := ⟨2, ![1, 6144]⟩
abbrev S1x1024 : Shape := ⟨2, ![1, 1024]⟩
abbrev S1x8x128x128 : Shape := ⟨4, ![1, 8, 128, 128]⟩
abbrev S1x8x128 : Shape := ⟨3, ![1, 8, 128]⟩
abbrev S2048x1024 : Shape := ⟨2, ![2048, 1024]⟩
abbrev S2048x2048 : Shape := ⟨2, ![2048, 2048]⟩
abbrev S1x2048 : Shape := ⟨2, ![1, 2048]⟩
abbrev S8x128x128 : Shape := ⟨3, ![8, 128, 128]⟩
abbrev S8x128 : Shape := ⟨2, ![8, 128]⟩
abbrev S_ : Shape := ⟨0, ![]⟩
abbrev S2048 : Shape := ⟨1, ![2048]⟩
abbrev S2048x1 : Shape := ⟨2, ![2048, 1]⟩
abbrev S16x128x8x128 : Shape := ⟨4, ![16, 128, 8, 128]⟩
abbrev S128x128 : Shape := ⟨2, ![128, 128]⟩
abbrev S1x128x128 : Shape := ⟨3, ![1, 128, 128]⟩
abbrev S8x16x128x128 : Shape := ⟨4, ![8, 16, 128, 128]⟩
abbrev S128x8 : Shape := ⟨2, ![128, 8]⟩
abbrev S1x128x8x1 : Shape := ⟨4, ![1, 128, 8, 1]⟩
abbrev S1024 : Shape := ⟨1, ![1024]⟩
abbrev S128x8x128 : Shape := ⟨3, ![128, 8, 128]⟩
abbrev S128x1024 : Shape := ⟨2, ![128, 1024]⟩

abbrev nBuf : Space → Nat
  | .hbm => 227
  | .vmem => 0
  | .smem => 0
  | _ => 0

abbrev hbmTy0_0 (i : Nat) : BufTy := match i % 128 with
  | 0 => ⟨S2048x6144, .f32⟩
  | 1 => ⟨S1x6144, .f32⟩
  | 2 => ⟨S1x1024, .f32⟩
  | 3 => ⟨S1x1024, .f32⟩
  | 4 => ⟨S1x8x128x128, .f32⟩
  | 5 => ⟨S1x8x128, .f32⟩
  | 6 => ⟨S2048x1024, .f32⟩
  | 7 => ⟨S2048x2048, .f32⟩
  | 8 => ⟨S1x2048, .f32⟩
  | 9 => ⟨S8x128x128, .f32⟩
  | 10 => ⟨S8x128, .f32⟩
  | 11 => ⟨S2048x2048, .f32⟩
  | 12 => ⟨S2048x2048, .f32⟩
  | 13 => ⟨S2048x1024, .f32⟩
  | 14 => ⟨S2048x1024, .f32⟩
  | 15 => ⟨S2048x1024, .f32⟩
  | 16 => ⟨S2048x1024, .f32⟩
  | 17 => ⟨S2048x1024, .f32⟩
  | 18 => ⟨S_, .f32⟩
  | 19 => ⟨S2048x1024, .f32⟩
  | 20 => ⟨S2048x1024, .f32⟩
  | 21 => ⟨S_, .f32⟩
  | 22 => ⟨S2048x1024, .f32⟩
  | 23 => ⟨S2048x1024, .f32⟩
  | 24 => ⟨S2048x1024, .f32⟩
  | 25 => ⟨S_, .f32⟩
  | 26 => ⟨S2048x1024, .f32⟩
  | 27 => ⟨S2048x1024, .f32⟩
  | 28 => ⟨S2048x1024, .f32⟩
  | 29 => ⟨S_, .f32⟩
  | 30 => ⟨S2048x1024, .f32⟩
  | 31 => ⟨S2048x1024, .f32⟩
  | 32 => ⟨S_, .f32⟩
  | 33 => ⟨S2048x1024, .f32⟩
  | 34 => ⟨S2048x1024, .f32⟩
  | 35 => ⟨S2048x1024, .f32⟩
  | 36 => ⟨S_, .f32⟩
  | 37 => ⟨S2048x1024, .f32⟩
  | 38 => ⟨S2048x1024, .f32⟩
  | 39 => ⟨S_, .f32⟩
  | 40 => ⟨S2048x1024, .f32⟩
  | 41 => ⟨S2048x1024, .f32⟩
  | 42 => ⟨S2048x1024, .f32⟩
  | 43 => ⟨S2048x1024, .f32⟩
  | 44 => ⟨S2048x1024, .f32⟩
  | 45 => ⟨S2048x1024, .f32⟩
  | 46 => ⟨S_, .f32⟩
  | 47 => ⟨S2048x1024, .f32⟩
  | 48 => ⟨S2048x1024, .f32⟩
  | 49 => ⟨S_, .f32⟩
  | 50 => ⟨S2048x1024, .f32⟩
  | 51 => ⟨S2048x1024, .f32⟩
  | 52 => ⟨S2048x1024, .f32⟩
  | 53 => ⟨S_, .f32⟩
  | 54 => ⟨S2048x1024, .f32⟩
  | 55 => ⟨S2048x1024, .f32⟩
  | 56 => ⟨S2048x1024, .f32⟩
  | 57 => ⟨S_, .f32⟩
  | 58 => ⟨S2048x1024, .f32⟩
  | 59 => ⟨S2048x1024, .f32⟩
  | 60 => ⟨S_, .f32⟩
  | 61 => ⟨S2048x1024, .f32⟩
  | 62 => ⟨S2048x1024, .f32⟩
  | 63 => ⟨S2048x1024, .f32⟩
  | 64 => ⟨S_, .f32⟩
  | 65 => ⟨S2048x1024, .f32⟩
  | 66 => ⟨S2048x1024, .f32⟩
  | 67 => ⟨S_, .f32⟩
  | 68 => ⟨S2048x1024, .f32⟩
  | 69 => ⟨S2048x1024, .f32⟩
  | 70 => ⟨S2048x1024, .f32⟩
  | 71 => ⟨S_, .f32⟩
  | 72 => ⟨S2048, .f32⟩
  | 73 => ⟨S2048x1, .f32⟩
  | 74 => ⟨S_, .f32⟩
  | 75 => ⟨S2048x1, .f32⟩
  | 76 => ⟨S2048x1, .f32⟩
  | 77 => ⟨S2048x1024, .f32⟩
  | 78 => ⟨S2048x1024, .f32⟩
  | 79 => ⟨S2048x1024, .f32⟩
  | 80 => ⟨S_, .f32⟩
  | 81 => ⟨S2048x1024, .f32⟩
  | 82 => ⟨S2048x1024, .f32⟩
  | 83 => ⟨S_, .f32⟩
  | 84 => ⟨S2048, .f32⟩
  | 85 => ⟨S2048x1, .f32⟩
  | 86 => ⟨S_, .f32⟩
  | 87 => ⟨S2048x1, .f32⟩
  | 88 => ⟨S2048x1, .f32⟩
  | 89 => ⟨S2048x1024, .f32⟩
  | 90 => ⟨S2048x1024, .f32⟩
  | 91 => ⟨S_, .f32⟩
  | 92 => ⟨S2048x1, .f32⟩
  | 93 => ⟨S2048x1, .f32⟩
  | 94 => ⟨S2048x1, .f32⟩
  | 95 => ⟨S2048x1, .f32⟩
  | 96 => ⟨S_, .f32⟩
  | 97 => ⟨S2048x1, .f32⟩
  | 98 => ⟨S2048x1, .f32⟩
  | 99 => ⟨S2048x1024, .f32⟩
  | 100 => ⟨S2048x1024, .f32⟩
  | 101 => ⟨S2048x1024, .f32⟩
  | 102 => ⟨S2048x1024, .f32⟩
  | 103 => ⟨S2048x1024, .f32⟩
  | 104 => ⟨S2048x1024, .f32⟩
  | 105 => ⟨S16x128x8x128, .f32⟩
  | 106 => ⟨S_, .i1⟩
  | 107 => ⟨S128x128, .i1⟩
  | 108 => ⟨S128x128, .i32⟩
  | 109 => ⟨S_, .i32⟩
  | 110 => ⟨S128x128, .i32⟩
  | 111 => ⟨S128x128, .i32⟩
  | 112 => ⟨S128x128, .i32⟩
  | 113 => ⟨S128x128, .i1⟩
  | 114 => ⟨S_, .i1⟩
  | 115 => ⟨S128x128, .i1⟩
  | 116 => ⟨S128x128, .i1⟩
  | 117 => ⟨S1x128x128, .i1⟩
  | 118 => ⟨S_, .f32⟩
  | 119 => ⟨S8x128x128, .f32⟩
  | 120 => ⟨S8x128x128, .i1⟩
  | 121 => ⟨S8x128x128, .f32⟩
  | 122 => ⟨S_, .f32⟩
  | 123 => ⟨S8x128x128, .f32⟩
  | 124 => ⟨S8x16x128x128, .f32⟩
  | 125 => ⟨S16x128x8x128, .f32⟩
  | 126 => ⟨S128x8, .f32⟩
  | 127 => ⟨S1x128x8x1, .f32⟩
  | _ => ⟨S2048x6144, .f32⟩

abbrev hbmTy0_1 (i : Nat) : BufTy := match i % 128 with
  | 0 => ⟨S16x128x8x128, .f32⟩
  | 1 => ⟨S16x128x8x128, .f32⟩
  | 2 => ⟨S2048x1024, .f32⟩
  | 3 => ⟨S2048x1024, .f32⟩
  | 4 => ⟨S2048x1024, .f32⟩
  | 5 => ⟨S2048x1024, .f32⟩
  | 6 => ⟨S16x128x8x128, .f32⟩
  | 7 => ⟨S_, .f32⟩
  | 8 => ⟨S128x8, .f32⟩
  | 9 => ⟨S1x128x8x1, .f32⟩
  | 10 => ⟨S_, .f32⟩
  | 11 => ⟨S128x8, .f32⟩
  | 12 => ⟨S8x128, .f32⟩
  | 13 => ⟨S8x16x128x128, .f32⟩
  | 14 => ⟨S8x128x128, .f32⟩
  | 15 => ⟨S8x16x128x128, .f32⟩
  | 16 => ⟨S16x128x8x128, .f32⟩
  | 17 => ⟨S_, .f32⟩
  | 18 => ⟨S8x128x128, .f32⟩
  | 19 => ⟨S8x128x128, .f32⟩
  | 20 => ⟨S2048x1024, .f32⟩
  | 21 => ⟨S_, .f32⟩
  | 22 => ⟨S1024, .f32⟩
  | 23 => ⟨S1x1024, .f32⟩
  | 24 => ⟨S2048x1024, .f32⟩
  | 25 => ⟨S_, .f32⟩
  | 26 => ⟨S1024, .f32⟩
  | 27 => ⟨S1x1024, .f32⟩
  | 28 => ⟨S2048x1024, .f32⟩
  | 29 => ⟨S2048x1024, .f32⟩
  | 30 => ⟨S2048x1024, .f32⟩
  | 31 => ⟨S_, .f32⟩
  | 32 => ⟨S2048, .f32⟩
  | 33 => ⟨S2048x1, .f32⟩
  | 34 => ⟨S2048x1024, .f32⟩
  | 35 => ⟨S2048x1024, .f32⟩
  | 36 => ⟨S2048x1, .f32⟩
  | 37 => ⟨S2048x1024, .f32⟩
  | 38 => ⟨S_, .f32⟩
  | 39 => ⟨S2048, .f32⟩
  | 40 => ⟨S2048x1, .f32⟩
  | 41 => ⟨S_, .f32⟩
  | 42 => ⟨S2048x1, .f32⟩
  | 43 => ⟨S2048x1, .f32⟩
  | 44 => ⟨S_, .f32⟩
  | 45 => ⟨S2048, .f32⟩
  | 46 => ⟨S2048x1024, .f32⟩
  | 47 => ⟨S2048x1024, .f32⟩
  | 48 => ⟨S2048x1024, .f32⟩
  | 49 => ⟨S_, .f32⟩
  | 50 => ⟨S2048, .f32⟩
  | 51 => ⟨S2048x1, .f32⟩
  | 52 => ⟨S2048x1024, .f32⟩
  | 53 => ⟨S2048x1, .f32⟩
  | 54 => ⟨S_, .f32⟩
  | 55 => ⟨S2048x1, .f32⟩
  | 56 => ⟨S2048x1, .f32⟩
  | 57 => ⟨S_, .f32⟩
  | 58 => ⟨S2048, .f32⟩
  | 59 => ⟨S2048x1024, .f32⟩
  | 60 => ⟨S2048x1024, .f32⟩
  | 61 => ⟨S2048x1024, .f32⟩
  | 62 => ⟨S2048x1024, .f32⟩
  | 63 => ⟨S_, .f32⟩
  | 64 => ⟨S2048x1024, .f32⟩
  | 65 => ⟨S2048x1024, .f32⟩
  | 66 => ⟨S2048x1024, .f32⟩
  | 67 => ⟨S_, .f32⟩
  | 68 => ⟨S2048x1024, .f32⟩
  | 69 => ⟨S2048x1024, .f32⟩
  | 70 => ⟨S2048x1024, .f32⟩
  | 71 => ⟨S_, .f32⟩
  | 72 => ⟨S2048x1024, .f32⟩
  | 73 => ⟨S2048x1024, .f32⟩
  | 74 => ⟨S2048x1024, .f32⟩
  | 75 => ⟨S2048x1024, .f32⟩
  | 76 => ⟨S2048x1024, .f32⟩
  | 77 => ⟨S2048x1024, .f32⟩
  | 78 => ⟨S_, .f32⟩
  | 79 => ⟨S2048x1024, .f32⟩
  | 80 => ⟨S2048x1024, .f32⟩
  | 81 => ⟨S2048x1024, .f32⟩
  | 82 => ⟨S_, .f32⟩
  | 83 => ⟨S2048x1024, .f32⟩
  | 84 => ⟨S2048x1024, .f32⟩
  | 85 => ⟨S2048x1024, .f32⟩
  | 86 => ⟨S_, .f32⟩
  | 87 => ⟨S2048x1024, .f32⟩
  | 88 => ⟨S2048x1024, .f32⟩
  | 89 => ⟨S2048x1024, .f32⟩
  | 90 => ⟨S2048x1024, .f32⟩
  | 91 => ⟨S2048x2048, .f32⟩
  | 92 => ⟨S_, .f32⟩
  | 93 => ⟨S2048, .f32⟩
  | 94 => ⟨S1x2048, .f32⟩
  | 95 => ⟨S2048x2048, .bf16⟩
  | 96 => ⟨S128x8, .f32⟩
  | 97 => ⟨S128x8x128, .f32⟩
  | 98 => ⟨S128x1024, .f32⟩
  | _ => ⟨S2048x6144, .f32⟩

abbrev hbmTy (i : Nat) : BufTy := match i / 128 with
  | 0 => hbmTy0_0 i
  | 1 => hbmTy0_1 i
  | _ => ⟨S2048x6144, .f32⟩

abbrev bufTy : (tb : Table) → Fin (tcTables nBuf tb) → BufTy
  | .hbm, ⟨i, _⟩ => hbmTy i
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_cst_12 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_13 : Ref sig .tc := ⟨.hbm, 71, rfl⟩
abbrev main_v50 : Ref sig .tc := ⟨.hbm, 72, rfl⟩
abbrev main_v51 : Ref sig .tc := ⟨.hbm, 73, rfl⟩
abbrev main_cst_14 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_15 : Ref sig .tc := ⟨.hbm, 80, rfl⟩
abbrev main_v57 : Ref sig .tc := ⟨.hbm, 81, rfl⟩
abbrev main_v58 : Ref sig .tc := ⟨.hbm, 82, rfl⟩
abbrev main_cst_16 : Ref sig .tc := ⟨.hbm, 83, rfl⟩
abbrev main_v59 : Ref sig .tc := ⟨.hbm, 84, rfl⟩
abbrev main_v60 : Ref sig .tc := ⟨.hbm, 85, rfl⟩
abbrev main_cst_17 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_18 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_19 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c : Ref sig .tc := ⟨.hbm, 106, rfl⟩
abbrev main_v78 : Ref sig .tc := ⟨.hbm, 107, rfl⟩
abbrev main_call0_v0 : Ref sig .tc := ⟨.hbm, 108, rfl⟩
abbrev main_call0_c : Ref sig .tc := ⟨.hbm, 109, rfl⟩
abbrev main_call0_v1 : Ref sig .tc := ⟨.hbm, 110, rfl⟩
abbrev main_call0_v2 : Ref sig .tc := ⟨.hbm, 111, rfl⟩
abbrev main_call0_v3 : Ref sig .tc := ⟨.hbm, 112, rfl⟩
abbrev main_call0_v4 : Ref sig .tc := ⟨.hbm, 113, rfl⟩
abbrev main_call0_c_0 : Ref sig .tc := ⟨.hbm, 114, rfl⟩
abbrev main_call0_v5 : Ref sig .tc := ⟨.hbm, 115, rfl⟩
abbrev main_v79 : Ref sig .tc := ⟨.hbm, 116, rfl⟩
abbrev main_v80 : Ref sig .tc := ⟨.hbm, 117, rfl⟩
abbrev main_cst_20 : Ref sig .tc := ⟨.hbm, 118, rfl⟩
abbrev main_v81 : Ref sig .tc := ⟨.hbm, 119, rfl⟩
abbrev main_v82_1 : Ref sig .tc := ⟨.hbm, 120, rfl⟩
abbrev main_v82_0 : Ref sig .tc := ⟨.hbm, 121, rfl⟩
abbrev main_call1_cst : Ref sig .tc := ⟨.hbm, 122, rfl⟩
abbrev main_v82_2 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_cst_21 : Ref sig .tc := ⟨.hbm, 135, rfl⟩
abbrev main_v94 : Ref sig .tc := ⟨.hbm, 136, rfl⟩
abbrev main_v95 : Ref sig .tc := ⟨.hbm, 137, rfl⟩
abbrev main_cst_22 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_call2_cst : Ref sig .tc := ⟨.hbm, 145, rfl⟩
abbrev main_call2_v0 : Ref sig .tc := ⟨.hbm, 146, rfl⟩
abbrev main_v102 : Ref sig .tc := ⟨.hbm, 147, rfl⟩
abbrev main_v103 : Ref sig .tc := ⟨.hbm, 148, rfl⟩
abbrev main_cst_23 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_24 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_25 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_26 : Ref sig .tc := ⟨.hbm, 166, rfl⟩
abbrev main_v118 : Ref sig .tc := ⟨.hbm, 167, rfl⟩
abbrev main_v119 : Ref sig .tc := ⟨.hbm, 168, rfl⟩
abbrev main_cst_27 : Ref sig .tc := ⟨.hbm, 169, rfl⟩
abbrev main_v120 : Ref sig .tc := ⟨.hbm, 170, rfl⟩
abbrev main_v121 : Ref sig .tc := ⟨.hbm, 171, rfl⟩
abbrev main_cst_28 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_cst_29 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_cst_30 : Ref sig .tc := ⟨.hbm, 182, rfl⟩
abbrev main_v130 : Ref sig .tc := ⟨.hbm, 183, rfl⟩
abbrev main_v131 : Ref sig .tc := ⟨.hbm, 184, rfl⟩
abbrev main_cst_31 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_v135 : Ref sig .tc := ⟨.hbm, 189, rfl⟩
abbrev main_v136 : Ref sig .tc := ⟨.hbm, 190, rfl⟩
abbrev main_cst_32 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_cst_33 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_cst_34 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_cst_35 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_cst_36 : Ref sig .tc := ⟨.hbm, 210, rfl⟩
abbrev main_v152 : Ref sig .tc := ⟨.hbm, 211, rfl⟩
abbrev main_v153 : Ref sig .tc := ⟨.hbm, 212, rfl⟩
abbrev main_v154 : Ref sig .tc := ⟨.hbm, 213, rfl⟩
abbrev main_cst_37 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_cst_38 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩

abbrev nD : Nat := 1
abbrev τ : Topo := Topo.v7x

variable {F : FTy → Type} [FloatOps F]
-- ==== Kernel2.lean ====
abbrev S2048x1024 : Shape := ⟨2, ![2048, 1024]⟩
abbrev S4096x1024 : Shape := ⟨2, ![4096, 1024]⟩
abbrev S2048x4096 : Shape := ⟨2, ![2048, 4096]⟩
abbrev S4x1024x1024 : Shape := ⟨3, ![4, 1024, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 9
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S2048x4096, .f32⟩
  | .hbm, ⟨3, _⟩ => ⟨S2048x4096, .f32⟩
  | .hbm, ⟨4, _⟩ => ⟨S2048x1024, .bf16⟩
  | .hbm, ⟨5, _⟩ => ⟨S4x1024x1024, .f32⟩
  | .hbm, ⟨6, _⟩ => ⟨S4x1024x1024, .bf16⟩
  | .hbm, ⟨7, _⟩ => ⟨S2048x4096, .bf16⟩
  | .hbm, ⟨8, _⟩ => ⟨S2048x4096, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S2048x1024 : Shape := ⟨2, ![2048, 1024]⟩
abbrev S4096x1024 : Shape := ⟨2, ![4096, 1024]⟩
abbrev S2048x4096 : Shape := ⟨2, ![2048, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S2048x4096, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x4096, .f32⟩
  | .hbm, ⟨16, _⟩ => ⟨S2048x4096, .f32⟩
  | .hbm, ⟨17, _⟩ => ⟨S2048x4096, .f32⟩
  | .hbm, ⟨18, _⟩ => ⟨S2048x1024, .f32⟩
  | .hbm, ⟨19, _⟩ => ⟨S2048x4096, .f32⟩
  | .hbm, ⟨20, _⟩ => ⟨S2048x4096, .f32⟩
  | .hbm, ⟨21, _⟩ => ⟨S2048x4096, .f32⟩
  | .hbm, ⟨22, _⟩ => ⟨S2048x4096, .f32⟩
  | .hbm, ⟨23, _⟩ => ⟨S2048x4096, .f32⟩
  | .hbm, ⟨24, _⟩ => ⟨S2048x4096, .f32⟩
  | .hbm, ⟨25, _⟩ => ⟨S2048x4096, .f32⟩
  | .hbm, ⟨26, _⟩ => ⟨S2048x4096, .bf16⟩
  | .hbm, ⟨27, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩

abbrev nD : Nat := 1
abbrev τ : Topo := Topo.v7x

variable {F : FTy → Type} [FloatOps F]
-- ==== Kernel3.lean ====
abbrev S2048x4096 : Shape := ⟨2, ![2048, 4096]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S2048x1024 : Shape := ⟨2, ![2048, 1024]⟩
abbrev S1024x1024 : Shape := ⟨2, ![1024, 1024]⟩
abbrev S1x1024x1024 : Shape := ⟨3, ![1, 1024, 1024]⟩

abbrev nBuf : Space → Nat
  | .hbm => 13
  | .vmem => 11
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S1024x4096, .f32⟩
  | .hbm, ⟨3, _⟩ => ⟨S1024x4096, .f32⟩
  | .hbm, ⟨4, _⟩ => ⟨S2048x4096, .bf16⟩
  | .hbm, ⟨5, _⟩ => ⟨S2048x4096, .bf16⟩
  | .hbm, ⟨6, _⟩ => ⟨S1024x4x1024, .f32⟩
  | .hbm, ⟨7, _⟩ => ⟨S4x1024x1024, .f32⟩
  | .hbm, ⟨8, _⟩ => ⟨S4x1024x1024, .bf16⟩
  | .hbm, ⟨9, _⟩ => ⟨S1024x4x1024, .f32⟩
  | .hbm, ⟨10, _⟩ => ⟨S4x1024x1024, .f32⟩
  | .hbm, ⟨11, _⟩ => ⟨S4x1024x1024, .bf16⟩
  | .hbm, ⟨12, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 1, 8], ![false, false, false]⟩

def k0_cond4 (i : grid0.Coords) : BitVec 1 :=
  let arg2 : BitVec 32 := BitVec.ofNat 32 (i 2).val
  let c7_i32_5 : BitVec 32 := 7#32
  let v13 : BitVec 1 := Scalar.cmpi .eq arg2 c7_i32_5
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg2 c3_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.minsi arg2 c3_i32
  let c0_i32 : BitVec 32 := 0#32
  let c0_i32_0 : BitVec 32 := 0#32
  ![v0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let v1 : BitVec 32 := Scalar.maxsi v0 c0_i32
  let c0_i32_0 : BitVec 32 := 0#32
  let c0_i32_1 : BitVec 32 := 0#32
  ![v1.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S2048x4096 : Shape := ⟨2, ![2048, 4096]⟩
abbrev S1024x4096 : Shape := ⟨2, ![1024, 4096]⟩
abbrev S_ : Shape := ⟨0, ![]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S1024x4096, .f32⟩
  | .hbm, ⟨3, _⟩ => ⟨S1024x4096, .f32⟩
  | .hbm, ⟨4, _⟩ => ⟨S_, .f32⟩
  | .hbm, ⟨5, _⟩ => ⟨S2048x1024, .f32⟩
  | .hbm, ⟨6, _⟩ => ⟨S2048x4096, .f32⟩
  | .hbm, ⟨7, _⟩ => ⟨S2048x4096, .f32⟩
  | .hbm, ⟨8, _⟩ => ⟨S2048x1024, .f32⟩
  | .hbm, ⟨9, _⟩ => ⟨S2048x1024, .f32⟩
  | .hbm, ⟨10, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel4.lean ====
abbrev S2048x1024 : Shape := ⟨2, ![2048, 1024]⟩
abbrev S2048x4096 : Shape := ⟨2, ![2048, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x1024, .bf16⟩
  | .hbm, ⟨3, _⟩ => ⟨S2048x4096, .bf16⟩
  | .hbm, ⟨4, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1024x1024, .bf16⟩
  | .local _ .vmem, ⟨4, _⟩ => ⟨S1x1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x1024 : Shape := ⟨2, ![2048, 1024]⟩
abbrev S2048x4096 : Shape := ⟨2, ![2048, 4096]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S_, .f32⟩
  | .hbm, ⟨3, _⟩ => ⟨S1024x4096, .f32⟩
  | .hbm, ⟨4, _⟩ => ⟨S2048x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | .hbm, ⟨9, _⟩ => ⟨S4x1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S2048x4096 : Shape := ⟨2, ![2048, 4096]⟩
abbrev S2048x1024 : Shape := ⟨2, ![2048, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S2048x4096, .bf16⟩
  | .hbm, ⟨3, _⟩ => ⟨S2048x1024, .bf16⟩
  | .hbm, ⟨4, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1024x1024, .bf16⟩
  | .local _ .vmem, ⟨4, _⟩ => ⟨S1x1024x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S_, .f32⟩
  | .hbm, ⟨3, _⟩ => ⟨S4096x1024, .f32⟩
  | .hbm, ⟨4, _⟩ => ⟨S2048x1024, .f32⟩
  | .hbm, ⟨5, _⟩ => ⟨S1024x4096, .f32⟩
  | .hbm, ⟨6, _⟩ => ⟨S4096x1024, .f32⟩
  | .hbm, ⟨7, _⟩ => ⟨S4x1024x1024, .f32⟩
  | .hbm, ⟨8, _⟩ => ⟨S4x1024x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S2048x1024 : Shape := ⟨2, ![2048, 1024]⟩
abbrev S2048x6144 : Shape := ⟨2, ![2048, 6144]⟩
abbrev S4x1024x1536 : Shape := ⟨3, ![4, 1024, 1536]⟩
abbrev S2048x1536 : Shape := ⟨2, ![2048, 1536]⟩
abbrev S1x1024x1536 : Shape := ⟨3, ![1, 1024, 1536]⟩
abbrev S1024x1536 : Shape := ⟨2, ![1024, 1536]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x6144, .f32⟩
  | .hbm, ⟨2, _⟩ => ⟨S2048x1024, .bf16⟩
  | .hbm, ⟨3, _⟩ => ⟨S2048x6144, .bf16⟩
  | .hbm, ⟨4, _⟩ => ⟨S4x1024x1536, .bf16⟩
  | .local _ .vmem, ⟨0, _⟩ => ⟨S2048x1024, .bf16⟩
  | .local _ .vmem, ⟨1, _⟩ => ⟨S2048x1536, .bf16⟩
  | .local _ .vmem, ⟨2, _⟩ => ⟨S2048x1536, .bf16⟩
  | .local _ .vmem, ⟨3, _⟩ => ⟨S1x1024x1536, .bf16⟩
  | .local _ .vmem, ⟨4, _⟩ => ⟨S1x1024x1536, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2048x1024 : Shape := ⟨2, ![2048, 1024]⟩
abbrev S2048x6144 : Shape := ⟨2, ![2048, 6144]⟩
abbrev S_ : Shape := ⟨0, ![]⟩
abbrev S1024x6144 : Shape := ⟨2, ![1024, 6144]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x6144, .f32⟩
  | .hbm, ⟨2, _⟩ => ⟨S_, .f32⟩
  | .hbm, ⟨3, _⟩ => ⟨S1024x6144, .f32⟩
  | .hbm, ⟨4, _⟩ => ⟨S2048x6144, .f32⟩
  | .hbm, ⟨5, _⟩ => ⟨S6144x1024, .f32⟩
  | .hbm, ⟨6, _⟩ => ⟨S1024x6144, .f32⟩
  | .hbm, ⟨7, _⟩ => ⟨S1024x4x1536, .f32⟩
  | .hbm, ⟨8, _⟩ => ⟨S4x1024x1536, .f32⟩
  | .hbm, ⟨9, _⟩ => ⟨S4x1024x1536, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S2048x1024 : Shape := ⟨2, ![2048, 1024]⟩
abbrev S4x256x1024 : Shape := ⟨3, ![4, 256, 1024]⟩
abbrev S2048x256 : Shape := ⟨2, ![2048, 256]⟩
abbrev S1x256x1024 : Shape := ⟨3, ![1, 256, 1024]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S4x256x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S1x256x1024, .bf16⟩
  | .local _ .vmem, ⟨4, _⟩ => ⟨S1x256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x1024 : Shape := ⟨2, ![2048, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | .hbm, ⟨7, _⟩ => ⟨S4x256x1024, .f32⟩
  | .hbm, ⟨8, _⟩ => ⟨S4x256x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S2048x6144 : Shape := ⟨2, ![2048, 6144]⟩
abbrev S1024x6144 : Shape := ⟨2, ![1024, 6144]⟩
abbrev S1024x4x1536 : Shape := ⟨3, ![1024, 4, 1536]⟩
abbrev S4x1024x1536 : Shape := ⟨3, ![4, 1024, 1536]⟩
abbrev S2048x1024 : Shape := ⟨2, ![2048, 1024]⟩
abbrev S1024x1536 : Shape := ⟨2, ![1024, 1536]⟩
abbrev S1x1024x1536 : Shape := ⟨3, ![1, 1024, 1536]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2048x6144, .f32⟩
  | .hbm, ⟨1, _⟩ => ⟨S1024x6144, .f32⟩
  | .hbm, ⟨2, _⟩ => ⟨S2048x6144, .bf16⟩
  | .hbm, ⟨3, _⟩ => ⟨S1024x4x1536, .f32⟩
  | .hbm, ⟨4, _⟩ => ⟨S4x1024x1536, .f32⟩
  | .hbm, ⟨5, _⟩ => ⟨S4x1024x1536, .bf16⟩
  | .hbm, ⟨6, _⟩ => ⟨S2048x1024, .f32⟩
  | .local _ .vmem, ⟨0, _⟩ => ⟨S1024x1536, .bf16⟩
  | .local _ .vmem, ⟨1, _⟩ => ⟨S1024x1536, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x6144 : Shape := ⟨2, ![2048, 6144]⟩
abbrev S1024x6144 : Shape := ⟨2, ![1024, 6144]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S1024x6144, .f32⟩
  | .hbm, ⟨2, _⟩ => ⟨S_, .f32⟩
  | .hbm, ⟨3, _⟩ => ⟨S2048x1024, .f32⟩
  | .hbm, ⟨4, _⟩ => ⟨S2048x6144, .f32⟩
  | .hbm, ⟨5, _⟩ => ⟨S2048x1024, .f32⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel9.lean ====
abbrev S2048x1024 : Shape := ⟨2, ![2048, 1024]⟩
abbrev S1024x1024 : Shape := ⟨2, ![1024, 1024]⟩
abbrev S4x256x1024 : Shape := ⟨3, ![4, 256, 1024]⟩
abbrev S1x256x1024 : Shape := ⟨3, ![1, 256, 1024]⟩
abbrev S1024x256 : Shape := ⟨2, ![1024, 256]⟩
abbrev S256x1024 : Shape := ⟨2, ![256, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .bf16⟩
  | .hbm, ⟨3, _⟩ => ⟨S4x256x1024, .f32⟩
  | .hbm, ⟨4, _⟩ => ⟨S4x256x1024, .bf16⟩
  | .hbm, ⟨5, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1024x256, .f32⟩
  | .local _ .vmem, ⟨5, _⟩ => ⟨S1024x256, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel10.lean ====
abbrev S2048x1024 : Shape := ⟨2, ![2048, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S2048x4096 : Shape := ⟨2, ![2048, 4096]⟩
abbrev S1024x1024 : Shape := ⟨2, ![1024, 1024]⟩
abbrev S1x1024x1024 : Shape := ⟨3, ![1, 1024, 1024]⟩

abbrev nBuf : Space → Nat
  | .hbm => 13
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S1024x4096, .f32⟩
  | .hbm, ⟨3, _⟩ => ⟨S2048x1024, .bf16⟩
  | .hbm, ⟨4, _⟩ => ⟨S1024x4x1024, .f32⟩
  | .hbm, ⟨5, _⟩ => ⟨S4x1024x1024, .f32⟩
  | .hbm, ⟨6, _⟩ => ⟨S4x1024x1024, .bf16⟩
  | .hbm, ⟨7, _⟩ => ⟨S1024x4x1024, .f32⟩
  | .hbm, ⟨8, _⟩ => ⟨S4x1024x1024, .f32⟩
  | .hbm, ⟨9, _⟩ => ⟨S4x1024x1024, .bf16⟩
  | .hbm, ⟨10, _⟩ => ⟨S2048x4096, .f32⟩
  | .hbm, ⟨11, _⟩ => ⟨S2048x4096, .f32⟩
  | .hbm, ⟨12, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev main_v7_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S1024x4096, .f32⟩
  | .hbm, ⟨3, _⟩ => ⟨S2048x4096, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S_, .f32⟩
  | .hbm, ⟨11, _⟩ => ⟨S2048x4096, .f32⟩
  | .hbm, ⟨12, _⟩ => ⟨S2048x4096, .f32⟩
  | .hbm, ⟨13, _⟩ => ⟨S2048x4096, .f32⟩
  | .hbm, ⟨14, _⟩ => ⟨S2048x4096, .f32⟩
  | .hbm, ⟨15, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel11.lean ====
abbrev S2048x4096 : Shape := ⟨2, ![2048, 4096]⟩
abbrev S4096x1024 : Shape := ⟨2, ![4096, 1024]⟩
abbrev S4x1024x1024 : Shape := ⟨3, ![4, 1024, 1024]⟩
abbrev S2048x1024 : Shape := ⟨2, ![2048, 1024]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x4096, .bf16⟩
  | .hbm, ⟨3, _⟩ => ⟨S4x1024x1024, .f32⟩
  | .hbm, ⟨4, _⟩ => ⟨S4x1024x1024, .bf16⟩
  | .hbm, ⟨5, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2048x4096 : Shape := ⟨2, ![2048, 4096]⟩
abbrev S4096x1024 : Shape := ⟨2, ![4096, 1024]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S2048x1024 : Shape := ⟨2, ![2048, 1024]⟩
abbrev S1024x6144 : Shape := ⟨2, ![1024, 6144]⟩
abbrev S1024x4x1536 : Shape := ⟨3, ![1024, 4, 1536]⟩
abbrev S4x1024x1536 : Shape := ⟨3, ![4, 1024, 1536]⟩
abbrev S2048x6144 : Shape := ⟨2, ![2048, 6144]⟩
abbrev S1024x1024 : Shape := ⟨2, ![1024, 1024]⟩
abbrev S1x1024x1536 : Shape := ⟨3, ![1, 1024, 1536]⟩
abbrev S1024x1536 : Shape := ⟨2, ![1024, 1536]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x6144, .f32⟩
  | .hbm, ⟨2, _⟩ => ⟨S2048x1024, .bf16⟩
  | .hbm, ⟨3, _⟩ => ⟨S1024x4x1536, .f32⟩
  | .hbm, ⟨4, _⟩ => ⟨S4x1024x1536, .f32⟩
  | .hbm, ⟨5, _⟩ => ⟨S4x1024x1536, .bf16⟩
  | .hbm, ⟨6, _⟩ => ⟨S2048x6144, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1536, .bf16⟩
  | .local _ .vmem, ⟨3, _⟩ => ⟨S1x1024x1536, .bf16⟩
  | .local _ .vmem, ⟨4, _⟩ => ⟨S1024x1536, .f32⟩
  | .local _ .vmem, ⟨5, _⟩ => ⟨S1024x1536, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x1024 : Shape := ⟨2, ![2048, 1024]⟩
abbrev S1024x6144 : Shape := ⟨2, ![1024, 6144]⟩
abbrev S2048x6144 : Shape := ⟨2, ![2048, 6144]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x6144, .f32⟩
  | .hbm, ⟨2, _⟩ => ⟨S2048x6144, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S2048x1024 : Shape := ⟨2, ![2048, 1024]⟩
abbrev S1024x1024 : Shape := ⟨2, ![1024, 1024]⟩
abbrev S4x256x1024 : Shape := ⟨3, ![4, 256, 1024]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .bf16⟩
  | .hbm, ⟨3, _⟩ => ⟨S4x256x1024, .f32⟩
  | .hbm, ⟨4, _⟩ => ⟨S4x256x1024, .bf16⟩
  | .hbm, ⟨5, _⟩ => ⟨S2048x1024, .f32⟩
  | .local _ .vmem, ⟨0, _⟩ => ⟨S1024x256, .bf16⟩
  | .local _ .vmem, ⟨1, _⟩ => ⟨S1024x256, .bf16⟩
  | .local _ .vmem, ⟨2, _⟩ => ⟨S1x256x1024, .bf16⟩
  | .local _ .vmem, ⟨3, _⟩ => ⟨S1x256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, v26.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2048x1024 : Shape := ⟨2, ![2048, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel14.lean ====
abbrev S2048x6144 : Shape := ⟨2, ![2048, 6144]⟩
abbrev S2048x1024 : Shape := ⟨2, ![2048, 1024]⟩
abbrev S1x6144 : Shape := ⟨2, ![1, 6144]⟩
abbrev S2048x2048 : Shape := ⟨2, ![2048, 2048]⟩
abbrev S1x2048 : Shape := ⟨2, ![1, 2048]⟩
abbrev S256x2048 : Shape := ⟨2, ![256, 2048]⟩
abbrev S256x1024 : Shape := ⟨2, ![256, 1024]⟩
abbrev S2048 : Shape := ⟨1, ![2048]⟩

abbrev nBuf : Space → Nat
  | .hbm => 9
  | .vmem => 16
  | .smem => 0
  | _ => 0

abbrev bufTy : (tb : Table) → Fin (tcTables nBuf tb) → BufTy
  | .hbm, ⟨0, _⟩ => ⟨S2048x6144, .f32⟩
  | .hbm, ⟨1, _⟩ => ⟨S2048x1024, .f32⟩
  | .hbm, ⟨2, _⟩ => ⟨S2048x1024, .f32⟩
  | .hbm, ⟨3, _⟩ => ⟨S1x6144, .f32⟩
  | .hbm, ⟨4, _⟩ => ⟨S2048x1024, .f32⟩
  | .hbm, ⟨5, _⟩ => ⟨S2048x2048, .bf16⟩
  | .hbm, ⟨6, _⟩ => ⟨S2048x1024, .bf16⟩
  | .hbm, ⟨7, _⟩ => ⟨S2048x1024, .bf16⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x2048, .f32⟩
  | .local _ .vmem, ⟨7, _⟩ => ⟨S256x1024, .f32⟩
  | .local _ .vmem, ⟨8, _⟩ => ⟨S256x1024, .f32⟩
  | .local _ .vmem, ⟨9, _⟩ => ⟨S256x2048, .bf16⟩
  | .local _ .vmem, ⟨10, _⟩ => ⟨S256x2048, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S1x2048, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference14Ideal.lean ====
abbrev S2048x6144 : Shape := ⟨2, ![2048, 6144]⟩
abbrev S2048x1024 : Shape := ⟨2, ![2048, 1024]⟩
abbrev S1x6144 : Shape := ⟨2, ![1, 6144]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩

abbrev nBuf : Space → Nat
  | .hbm => 53
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S2048x1024, .f32⟩
  | .hbm, ⟨2, _⟩ => ⟨S2048x1024, .f32⟩
  | .hbm, ⟨3, _⟩ => ⟨S1x6144, .f32⟩
  | .hbm, ⟨4, _⟩ => ⟨S2048x1024, .f32⟩
  | .hbm, ⟨5, _⟩ => ⟨S2048x2048, .f32⟩
  | .hbm, ⟨6, _⟩ => ⟨S1x2048, .f32⟩
  | .hbm, ⟨7, _⟩ => ⟨S2048x2048, .f32⟩
  | .hbm, ⟨8, _⟩ => ⟨S2048x2048, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S2048x2048, .bf16⟩
  | .hbm, ⟨51, _⟩ => ⟨S2048x1024, .bf16⟩
  | .hbm, ⟨52, _⟩ => ⟨S2048x1024, .bf16⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel15.lean ====
abbrev S2048x1024 : Shape := ⟨2, ![2048, 1024]⟩
abbrev S1x9216 : Shape := ⟨2, ![1, 9216]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 12
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x9216, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .bf16⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c7_i32 : BitVec 32 := 7#32
  let c0_i32_0 : BitVec 32 := 0#32
  ![c0_i32.toNat, c7_i32.toNat]

def cc0_transform_5 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference15Ideal.lean ====
abbrev S2048x1024 : Shape := ⟨2, ![2048, 1024]⟩
abbrev S1x9216 : Shape := ⟨2, ![1, 9216]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 80
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x9216, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S2048x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1, .f32⟩
  | .hbm, ⟨62, _⟩ => ⟨S_, .f32⟩
  | .hbm, ⟨63, _⟩ => ⟨S2048x1, .f32⟩
  | .hbm, ⟨64, _⟩ => ⟨S2048x1, .f32⟩
  | .hbm, ⟨65, _⟩ => ⟨S_, .f32⟩
  | .hbm, ⟨66, _⟩ => ⟨S2048, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== Kernel16.lean ====
abbrev S2048x1024 : Shape := ⟨2, ![2048, 1024]⟩
abbrev S1x9216 : Shape := ⟨2, ![1, 9216]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 12
  | .vmem => 20
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x9216, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .bf16⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_5 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference16Ideal.lean ====
abbrev S2048x1024 : Shape := ⟨2, ![2048, 1024]⟩
abbrev S1x9216 : Shape := ⟨2, ![1, 9216]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 86
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x9216, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S_, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S2048x1024, .f32⟩
  | .hbm, ⟨62, _⟩ => ⟨S2048x1024, .f32⟩
  | .hbm, ⟨63, _⟩ => ⟨S2048x1024, .f32⟩
  | .hbm, ⟨64, _⟩ => ⟨S2048x1, .f32⟩
  | .hbm, ⟨65, _⟩ => ⟨S_, .f32⟩
  | .hbm, ⟨66, _⟩ => ⟨S2048x1, .f32⟩
  | .hbm, ⟨67, _⟩ => ⟨S2048x1, .f32⟩
  | .hbm, ⟨68, _⟩ => ⟨S_, .f32⟩
  | .hbm, ⟨69, _⟩ => ⟨S2048, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S_, .f32⟩
  | .hbm, ⟨83, _⟩ => ⟨S1x1024, .f32⟩
  | .hbm, ⟨84, _⟩ => ⟨S1x1024, .f32⟩
  | .hbm, ⟨85, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_11 : Ref sig .tc := ⟨.hbm, 79, rfl⟩
abbrev main_v61 : Ref sig .tc := ⟨.hbm, 80, rfl⟩
abbrev main_v62 : Ref sig .tc := ⟨.hbm, 81, rfl⟩
abbrev main_cst_12 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]
-- ==== Kernel17.lean ====
abbrev S2048x1024 : Shape := ⟨2, ![2048, 1024]⟩
abbrev S1x9216 : Shape := ⟨2, ![1, 9216]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1x9216, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference17Ideal.lean ====
abbrev S2048x1024 : Shape := ⟨2, ![2048, 1024]⟩
abbrev S1x9216 : Shape := ⟨2, ![1, 9216]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 67
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x9216, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S2048x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048, .f32⟩
  | .hbm, ⟨52, _⟩ => ⟨S2048x1, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1, .f32⟩
  | .hbm, ⟨57, _⟩ => ⟨S_, .f32⟩
  | .hbm, ⟨58, _⟩ => ⟨S2048x1, .f32⟩
  | .hbm, ⟨59, _⟩ => ⟨S2048x1, .f32⟩
  | .hbm, ⟨60, _⟩ => ⟨S_, .f32⟩
  | .hbm, ⟨61, _⟩ => ⟨S2048, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]
-- ==== Kernel18.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference18Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 95
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S2048, .f32⟩
  | .hbm, ⟨67, _⟩ => ⟨S2048x1, .f32⟩
  | .hbm, ⟨68, _⟩ => ⟨S2048x1024, .f32⟩
  | .hbm, ⟨69, _⟩ => ⟨S2048x1024, .f32⟩
  | .hbm, ⟨70, _⟩ => ⟨S2048x1, .f32⟩
  | .hbm, ⟨71, _⟩ => ⟨S2048x1024, .f32⟩
  | .hbm, ⟨72, _⟩ => ⟨S_, .f32⟩
  | .hbm, ⟨73, _⟩ => ⟨S2048, .f32⟩
  | .hbm, ⟨74, _⟩ => ⟨S2048x1, .f32⟩
  | .hbm, ⟨75, _⟩ => ⟨S_, .f32⟩
  | .hbm, ⟨76, _⟩ => ⟨S2048x1, .f32⟩
  | .hbm, ⟨77, _⟩ => ⟨S2048x1, .f32⟩
  | .hbm, ⟨78, _⟩ => ⟨S_, .f32⟩
  | .hbm, ⟨79, _⟩ => ⟨S2048, .f32⟩
  | .hbm, ⟨80, _⟩ => ⟨S2048x1024, .f32⟩
  | .hbm, ⟨81, _⟩ => ⟨S2048x1024, .f32⟩
  | .hbm, ⟨82, _⟩ => ⟨S2048x1024, .f32⟩
  | .hbm, ⟨83, _⟩ => ⟨S_, .f32⟩
  | .hbm, ⟨84, _⟩ => ⟨S2048, .f32⟩
  | .hbm, ⟨85, _⟩ => ⟨S2048x1, .f32⟩
  | .hbm, ⟨86, _⟩ => ⟨S2048x1024, .f32⟩
  | .hbm, ⟨87, _⟩ => ⟨S2048x1, .f32⟩
  | .hbm, ⟨88, _⟩ => ⟨S_, .f32⟩
  | .hbm, ⟨89, _⟩ => ⟨S2048x1, .f32⟩
  | .hbm, ⟨90, _⟩ => ⟨S2048x1, .f32⟩
  | .hbm, ⟨91, _⟩ => ⟨S_, .f32⟩
  | .hbm, ⟨92, _⟩ => ⟨S2048, .f32⟩
  | .hbm, ⟨93, _⟩ => ⟨S2048x1024, .f32⟩
  | .hbm, ⟨94, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v27_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v27_1 : Ref sig .tc := ⟨.hbm, 49, rfl⟩
abbrev main_v27_0 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v28 : Ref sig .tc := ⟨.hbm, 54, rfl⟩
abbrev main_cst_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_v46 : Ref sig .tc := ⟨.hbm, 77, rfl⟩
abbrev main_cst_11 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_cst_12 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_cst_14 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩

abbrev nD : Nat := 1
abbrev τ : Topo := Topo.v7x

variable {F : FTy → Type} [FloatOps F]
-- ==== Kernel19.lean ====
abbrev S2048x1024 : Shape := ⟨2, ![2048, 1024]⟩
abbrev S1x9216 : Shape := ⟨2, ![1, 9216]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 11
  | .vmem => 15
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x9216, .f32⟩
  | .hbm, ⟨3, _⟩ => ⟨S1x1024, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S2048x1024, .bf16⟩
  | .hbm, ⟨8, _⟩ => ⟨S1x1024, .f32⟩
  | .hbm, ⟨9, _⟩ => ⟨S1x1024, .f32⟩
  | .hbm, ⟨10, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | .local _ .vmem, ⟨14, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference19Ideal.lean ====
abbrev S2048x1024 : Shape := ⟨2, ![2048, 1024]⟩
abbrev S1x9216 : Shape := ⟨2, ![1, 9216]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S8x128 : Shape := ⟨2, ![8, 128]⟩

abbrev nBuf : Space → Nat
  | .hbm => 88
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x9216, .f32⟩
  | .hbm, ⟨3, _⟩ => ⟨S1x1024, .f32⟩
  | .hbm, ⟨4, _⟩ => ⟨S2048x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S_, .f32⟩
  | .hbm, ⟨39, _⟩ => ⟨S2048, .f32⟩
  | .hbm, ⟨40, _⟩ => ⟨S2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S2048, .f32⟩
  | .hbm, ⟨49, _⟩ => ⟨S_, .f32⟩
  | .hbm, ⟨50, _⟩ => ⟨S2048, .f32⟩
  | .hbm, ⟨51, _⟩ => ⟨S2048, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S_, .f32⟩
  | .hbm, ⟨62, _⟩ => ⟨S2048, .f32⟩
  | .hbm, ⟨63, _⟩ => ⟨S2048x1, .f32⟩
  | .hbm, ⟨64, _⟩ => ⟨S2048x1024, .f32⟩
  | .hbm, ⟨65, _⟩ => ⟨S2048x1024, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S_, .f32⟩
  | .hbm, ⟨71, _⟩ => ⟨S2048, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S_, .f32⟩
  | .hbm, ⟨84, _⟩ => ⟨S1x1024, .f32⟩
  | .hbm, ⟨85, _⟩ => ⟨S1x1024, .f32⟩
  | .hbm, ⟨86, _⟩ => ⟨S2048x1024, .bf16⟩
  | .hbm, ⟨87, _⟩ => ⟨S8x128, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_cst_9 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_cst_11 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_16 : Ref sig .tc := ⟨.hbm, 80, rfl⟩
abbrev main_v58 : Ref sig .tc := ⟨.hbm, 81, rfl⟩
abbrev main_v59 : Ref sig .tc := ⟨.hbm, 82, rfl⟩
abbrev main_cst_17 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]
-- ==== Kernel20.lean ====
abbrev S2048x6144 : Shape := ⟨2, ![2048, 6144]⟩
abbrev S2048x1024 : Shape := ⟨2, ![2048, 1024]⟩
abbrev S1x6144 : Shape := ⟨2, ![1, 6144]⟩
abbrev S256x2048 : Shape := ⟨2, ![256, 2048]⟩
abbrev S256x1024 : Shape := ⟨2, ![256, 1024]⟩
abbrev S1x2048 : Shape := ⟨2, ![1, 2048]⟩

abbrev nBuf : Space → Nat
  | .hbm => 5
  | .vmem => 9
  | .smem => 0
  | _ => 0

abbrev bufTy : (tb : Table) → Fin (tcTables nBuf tb) → BufTy
  | .hbm, ⟨0, _⟩ => ⟨S2048x6144, .f32⟩
  | .hbm, ⟨1, _⟩ => ⟨S2048x1024, .f32⟩
  | .hbm, ⟨2, _⟩ => ⟨S2048x1024, .f32⟩
  | .hbm, ⟨3, _⟩ => ⟨S1x6144, .f32⟩
  | .hbm, ⟨4, _⟩ => ⟨S2048x1024, .bf16⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x2048, .f32⟩
  | .local _ .vmem, ⟨7, _⟩ => ⟨S256x1024, .bf16⟩
  | .local _ .vmem, ⟨8, _⟩ => ⟨S256x1024, .bf16⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference20Ideal.lean ====
abbrev S2048x6144 : Shape := ⟨2, ![2048, 6144]⟩
abbrev S2048x1024 : Shape := ⟨2, ![2048, 1024]⟩
abbrev S1x6144 : Shape := ⟨2, ![1, 6144]⟩
abbrev S2048x2048 : Shape := ⟨2, ![2048, 2048]⟩
abbrev S1x2048 : Shape := ⟨2, ![1, 2048]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S2048x6144, .f32⟩
  | .hbm, ⟨1, _⟩ => ⟨S2048x1024, .f32⟩
  | .hbm, ⟨2, _⟩ => ⟨S2048x1024, .f32⟩
  | .hbm, ⟨3, _⟩ => ⟨S1x6144, .f32⟩
  | .hbm, ⟨4, _⟩ => ⟨S2048x2048, .f32⟩
  | .hbm, ⟨5, _⟩ => ⟨S1x2048, .f32⟩
  | .hbm, ⟨6, _⟩ => ⟨S2048x2048, .f32⟩
  | .hbm, ⟨7, _⟩ => ⟨S2048x2048, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .bf16⟩
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel21.lean ====
abbrev S2048x1024 : Shape := ⟨2, ![2048, 1024]⟩
abbrev S1x9216 : Shape := ⟨2, ![1, 9216]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x9216, .f32⟩
  | .hbm, ⟨3, _⟩ => ⟨S1x1024, .f32⟩
  | .hbm, ⟨4, _⟩ => ⟨S2048x1024, .f32⟩
  | .hbm, ⟨5, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c7_i32 : BitVec 32 := 7#32
  let c0_i32_0 : BitVec 32 := 0#32
  ![c0_i32.toNat, c7_i32.toNat]

def cc0_transform_5 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S2048x1024 : Shape := ⟨2, ![2048, 1024]⟩
abbrev S1x9216 : Shape := ⟨2, ![1, 9216]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x9216, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel22.lean ====
abbrev S2048x1024 : Shape := ⟨2, ![2048, 1024]⟩
abbrev S1x9216 : Shape := ⟨2, ![1, 9216]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x9216, .f32⟩
  | .hbm, ⟨3, _⟩ => ⟨S1x1024, .f32⟩
  | .hbm, ⟨4, _⟩ => ⟨S2048x1024, .f32⟩
  | .hbm, ⟨5, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_5 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S2048x1024 : Shape := ⟨2, ![2048, 1024]⟩
abbrev S1x9216 : Shape := ⟨2, ![1, 9216]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 36
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x9216, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel23.lean ====
abbrev S2048x1024 : Shape := ⟨2, ![2048, 1024]⟩
abbrev S1x9216 : Shape := ⟨2, ![1, 9216]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x9216, .f32⟩
  | .hbm, ⟨2, _⟩ => ⟨S1x1024, .f32⟩
  | .hbm, ⟨3, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference23Ideal.lean ====
abbrev S2048x1024 : Shape := ⟨2, ![2048, 1024]⟩
abbrev S1x9216 : Shape := ⟨2, ![1, 9216]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 28
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x9216, .f32⟩
  | .hbm, ⟨2, _⟩ => ⟨S1x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S1x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel24.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference24Ideal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== Proof.Spec.lean ====
/-
  The mathematics of the spatial gating unit's backward pass, on extended reals, with no program in sight.

  One token row has a gate half and a value half of 1024 columns each. Both go through the tanh form of gelu; the value
  half is then normalised (mean, variance, gain, bias), mixed along the 128 tokens of its chunk by a causal matrix of its
  head (8 heads of 128 columns), and multiplies the gate half.
-/
module

public import Idealize.ShloMosaic.Lib.Pointwise

@[expose] public section

noncomputable section

namespace Cert.Gate

open Idealize.ShloMosaic

/-! ## The constants, as the programs' float words -/

/-- The float word nearest to the square root of two over pi. -/
def cT : EReal := Ideal.ofBits .f32 1061962282#32
/-- The float word nearest to 0.044715. -/
def cC : EReal := Ideal.ofBits .f32 1027024659#32
/-- One half. -/
def half : EReal := Ideal.ofBits .f32 1056964608#32
/-- Minus one half. -/
def mhalf : EReal := Ideal.ofBits .f32 3204448256#32
/-- The row length 1024. -/
def len : EReal := Ideal.ofBits .f32 1149239296#32
/-- The float word nearest to one millionth. -/
def eps : EReal := Ideal.ofBits .f32 897988541#32

/-! ## gelu and its derivative -/

/-- The hyperbolic tangent inside gelu. -/
def th (x : EReal) : EReal := Ideal.tanh (cT * (x + cC * (x * x * x)))
/-- The factor of `x` in gelu. -/
def hm (x : EReal) : EReal := half * (1 + th x)
/-- gelu. -/
def act (x : EReal) : EReal := x * hm x
/-- The derivative of the hyperbolic tangent, as a product. -/
def dt (x : EReal) : EReal := (1 + th x) * (1 - th x)
/-- The cotangent at the tanh's argument over the cube's coefficient, for the cotangent `w` of gelu. -/
def inner (w x : EReal) : EReal := cT * (half * (x * w) * dt x)
/-- The cotangent of gelu's argument, the cube's derivative taken as three times the square. -/
def dact (w x : EReal) : EReal := w * hm x + inner w x + cC * inner w x * (3 * (x * x))
/-- The same, the cube's derivative taken factor by factor. -/
def dactSteps (w x : EReal) : EReal :=
  w * hm x + inner w x + x * x * (cC * inner w x) + x * (cC * inner w x * x) + cC * inner w x * x * x

/-- An extended real three times is the sum of three of it. -/
theorem three_mul (a : EReal) : 3 * a = a + a + a := by
  have h : (3 : EReal) = ((3 : ℝ) : EReal) := rfl
  induction a with
  | bot => rw [h, EReal.coe_mul_bot_of_pos (by norm_num)]; rfl
  | top => rw [h, EReal.coe_mul_top_of_pos (by norm_num)]; rfl
  | coe r => rw [h, ← EReal.coe_mul, ← EReal.coe_add, ← EReal.coe_add]; congr 1; ring

/-- An extended real two times is the sum of two of it. -/
theorem two_mul' (a : EReal) : 2 * a = a + a := by
  have h : (2 : EReal) = ((2 : ℝ) : EReal) := rfl
  induction a with
  | bot => rw [h, EReal.coe_mul_bot_of_pos (by norm_num)]; rfl
  | top => rw [h, EReal.coe_mul_top_of_pos (by norm_num)]; rfl
  | coe r => rw [h, ← EReal.coe_mul, ← EReal.coe_add]; congr 1; ring

/-- The two readings of gelu's derivative agree at every extended real. -/
theorem dactSteps_eq (w x : EReal) : dactSteps w x = dact w x := by
  have e : cC * inner w x * (3 * (x * x)) = 3 * (cC * inner w x * (x * x)) := by ac_rfl
  have h1 : x * x * (cC * inner w x) = cC * inner w x * (x * x) := by ac_rfl
  have h2 : x * (cC * inner w x * x) = cC * inner w x * (x * x) := by ac_rfl
  have h3 : cC * inner w x * x * x = cC * inner w x * (x * x) := by ac_rfl
  unfold dactSteps dact
  rw [e, three_mul, h1, h2, h3]
  simp only [add_assoc]

/-! ## The normalisation of one row -/

/-- A row's mean. -/
def mean (a : ℕ → EReal) : EReal := Ideal.div (∑ j : Fin 1024, a j) len
/-- A row's deviation from its mean. -/
def dev (a : ℕ → EReal) (j : ℕ) : EReal := a j - mean a
/-- A row's variance plus the epsilon. -/
def var (a : ℕ → EReal) : EReal := Ideal.div (∑ j : Fin 1024, dev a j * dev a j) len + eps
/-- The reciprocal of the row's deviation. -/
def rstd (a : ℕ → EReal) : EReal := Ideal.rsqrt (var a)
/-- The normalised row. -/
def nrm (a : ℕ → EReal) (j : ℕ) : EReal := dev a j * rstd a
/-- The derivative of the reciprocal root at the variance. -/
def drstd (a : ℕ → EReal) : EReal := mhalf * Ideal.div (rstd a) (var a)
/-- The cotangent of the variance over the row length, for the cotangent `v` of the normalised row. -/
def cvar (a v : ℕ → EReal) : EReal := Ideal.div ((∑ j : Fin 1024, dev a j * v j) * drstd a) len

/-- The cotangent of the deviations, the square's derivative taken factor by factor. -/
def ddevSteps (a v : ℕ → EReal) (j : ℕ) : EReal := v j * rstd a + dev a j * cvar a v + cvar a v * dev a j
/-- The cotangent of the row before the normalisation: one sum over the row of the negated deviations' cotangent. -/
def dnrmSteps (a v : ℕ → EReal) (j : ℕ) : EReal :=
  ddevSteps a v j + Ideal.div (∑ k : Fin 1024, (0 - ddevSteps a v k)) len

/-- The part of the cotangent of the deviations that comes through the variance. -/
def ddevVar (a v : ℕ → EReal) (j : ℕ) : EReal := cvar a v * (2 * dev a j)
/-- The cotangent of the row before the normalisation: the two parts negated and summed each by itself. -/
def dnrm (a v : ℕ → EReal) (j : ℕ) : EReal :=
  v j * rstd a + ddevVar a v j
    + Ideal.div (∑ k : Fin 1024, -(v k * rstd a) + ∑ k : Fin 1024, -(ddevVar a v k)) len

/-- Factor by factor or two times: the cotangent of the deviations. -/
theorem ddevSteps_eq (a v : ℕ → EReal) (j : ℕ) : ddevSteps a v j = v j * rstd a + ddevVar a v j := by
  have e : ddevVar a v j = 2 * (cvar a v * dev a j) := by unfold ddevVar; ac_rfl
  unfold ddevSteps
  rw [e, two_mul', mul_comm (dev a j), add_assoc]

/-- The negation of a sum of a real number and an extended real. -/
theorem neg_add_of_real {g : EReal} (h₁ : g ≠ ⊥) (h₂ : g ≠ ⊤) (t : EReal) : -(g + t) = -g + -t := by
  rw [EReal.neg_add (.inl h₁) (.inl h₂), sub_eq_add_neg]

/-- Where the direct part of the cotangent is finite, the two readings of the normalisation's backward agree. -/
theorem dnrmSteps_eq (a v : ℕ → EReal) (h : ∀ k : Fin 1024, v k * rstd a ≠ ⊥ ∧ v k * rstd a ≠ ⊤) (j : ℕ) :
    dnrmSteps a v j = dnrm a v j := by
  unfold dnrmSteps dnrm
  rw [ddevSteps_eq, ← Finset.sum_add_distrib]
  congr 2
  refine Finset.sum_congr rfl fun k _ => ?_
  rw [zero_sub, ddevSteps_eq, neg_add_of_real (h k).1 (h k).2]

/-! ## The whole pass -/

/-- One where the token read is not after the token written, zero elsewhere. -/
def ind (t s : ℕ) : EReal := if s ≤ t then 1 else 0

/-- What the pass reads: the gate and value halves before gelu, the norm's gain and bias, the causal mixing matrices and
    their bias, the cotangent of the output; rows, columns, heads and tokens are numbers. -/
structure Data where
  /-- the gate half before gelu, row and column -/
  pu : ℕ → ℕ → EReal
  /-- the value half before gelu, row and column -/
  pv : ℕ → ℕ → EReal
  /-- the norm's gain -/
  g : ℕ → EReal
  /-- the norm's bias -/
  b : ℕ → EReal
  /-- the causal mixing matrix: head, token written, token read -/
  w : ℕ → ℕ → ℕ → EReal
  /-- the mixing's bias: head, token written -/
  bs : ℕ → ℕ → EReal
  /-- the cotangent of the output, row and column -/
  dy : ℕ → ℕ → EReal

namespace Data

variable (D : Data)

/-- The gate. -/
def u (r d : ℕ) : EReal := act (D.pu r d)
/-- The value half after gelu. -/
def a (r d : ℕ) : EReal := act (D.pv r d)
/-- The normalised value half with gain and bias. -/
def vln (r d : ℕ) : EReal := nrm (D.a r) d * D.g d + D.b d
/-- The mixed value half. -/
def vmix (r d : ℕ) : EReal :=
  (∑ s : Fin 128, D.w (d / 128) (r % 128) s * D.vln (128 * (r / 128) + s) d) + D.bs (d / 128) (r % 128)
/-- The cotangent of the gate. -/
def du (r d : ℕ) : EReal := D.dy r d * D.vmix r d
/-- The cotangent of the mixed value half. -/
def dvm (r d : ℕ) : EReal := D.dy r d * D.u r d
/-- The cotangent of the normalised value half with gain and bias: the transposed mixing. -/
def q (r d : ℕ) : EReal := ∑ s : Fin 128, D.w (d / 128) s (r % 128) * D.dvm (128 * (r / 128) + s) d
/-- The cotangent of the value half after gelu. -/
def da (r d : ℕ) : EReal := dnrm (D.a r) (fun j => D.q r j * D.g j) d
/-- The same in the steps of the kernel. -/
def daSteps (r d : ℕ) : EReal := dnrmSteps (D.a r) (fun j => D.q r j * D.g j) d
/-- The cotangent of the projection's columns: the gate half, then the value half. -/
def duv (r c : ℕ) : EReal :=
  if c < 1024 then dact (D.du r c) (D.pu r c) else dact (D.da r (c - 1024)) (D.pv r (c - 1024))
/-- The same in the steps of the kernel. -/
def duvSteps (r c : ℕ) : EReal :=
  if c < 1024 then dactSteps (D.du r c) (D.pu r c) else dactSteps (D.daSteps r (c - 1024)) (D.pv r (c - 1024))

/-- What the normalised rows of chunk `c` add to the cotangent of the causal matrices. -/
def dwsAt (c h t s : ℕ) : EReal :=
  ∑ e : Fin 128, D.dvm (128 * c + t) (128 * h + e) * D.vln (128 * c + s) (128 * h + e)
/-- What chunk `c` adds to the cotangent of the mixing's bias. -/
def dbsAt (c t h : ℕ) : EReal := ∑ e : Fin 128, D.dvm (128 * c + t) (128 * h + e)

/-- The direct part of the normalisation's cotangent is finite in every row. -/
def Tame : Prop := ∀ r, ∀ k : Fin 1024, D.q r k * D.g k * rstd (D.a r) ≠ ⊥ ∧ D.q r k * D.g k * rstd (D.a r) ≠ ⊤

/-- On tame data the steps of the kernel give the projection's cotangent. -/
theorem duvSteps_eq (h : D.Tame) (r c : ℕ) : D.duvSteps r c = D.duv r c := by
  unfold duvSteps duv
  split
  · exact dactSteps_eq _ _
  · rw [dactSteps_eq, daSteps, dnrmSteps_eq _ _ (h r), da]

/-! ## The results of the pass -/

/-- The column sums of the projection's cotangent. -/
def sumDuv (c : ℕ) : EReal := ∑ r : Fin 2048, D.duv r c
/-- The cotangent of the gain. -/
def dg (d : ℕ) : EReal := ∑ r : Fin 2048, nrm (D.a r) d * D.q r d
/-- The cotangent of the norm's bias. -/
def db (d : ℕ) : EReal := ∑ r : Fin 2048, D.q r d
/-- The cotangent of the mixing matrices: zero where the mask is. -/
def dws (h t s : ℕ) : EReal := if s ≤ t then ∑ c : Fin 16, D.dwsAt c h t s else 0
/-- The cotangent of the mixing's bias. -/
def dbs (t h : ℕ) : EReal := ∑ c : Fin 16, D.dbsAt c t h

end Data

/-- A matrix index is the pair of its coordinates. -/
theorem exists_ix2 {n k : ℕ} (x : (⟨2, ![n, k]⟩ : Shape).Idx) : ∃ (i : Fin n) (e : Fin k), x = ix2 i e :=
  ⟨x 0, x 1, eq_ix2 x⟩

/-- An index of a three-dimensional array is the triple of its coordinates. -/
theorem exists_ix3 {n k l : ℕ} (x : (⟨3, ![n, k, l]⟩ : Shape).Idx) : ∃ (i : Fin n) (e : Fin k) (f : Fin l), x = ix3 i e f :=
  ⟨x 0, x 1, x 2, eq_ix3 x⟩

end Cert.Gate

end
-- ==== Proof.Args.lean ====
/-
  The pass's data read off the seven argument arrays, and what finite arguments say of it.
-/
module

public import proofs.«01_k».proof.Proof.Spec
public import Idealize.ShloMosaic.Lib.WordCmp

@[expose] public section

noncomputable section

namespace Cert.Gate

open Idealize.ShloMosaic

/-! ## Finite extended reals -/

/-- A finite extended real. -/
def IsFin (x : EReal) : Prop := ∃ r : ℝ, x = r

/-- It is neither infinity. -/
theorem IsFin.ne {x : EReal} (h : IsFin x) : x ≠ ⊥ ∧ x ≠ ⊤ := by
  obtain ⟨r, rfl⟩ := h; exact ⟨EReal.coe_ne_bot r, EReal.coe_ne_top r⟩
/-- Zero is finite. -/
theorem IsFin.zero : IsFin 0 := ⟨0, rfl⟩
/-- One is finite. -/
theorem IsFin.one : IsFin 1 := ⟨1, rfl⟩
/-- A sum of finite ones is finite. -/
theorem IsFin.add {x y : EReal} (hx : IsFin x) (hy : IsFin y) : IsFin (x + y) := by
  obtain ⟨r, rfl⟩ := hx; obtain ⟨s, rfl⟩ := hy; exact ⟨r + s, (EReal.coe_add r s).symm⟩
/-- A product of finite ones is finite. -/
theorem IsFin.mul {x y : EReal} (hx : IsFin x) (hy : IsFin y) : IsFin (x * y) := by
  obtain ⟨r, rfl⟩ := hx; obtain ⟨s, rfl⟩ := hy; exact ⟨r * s, (EReal.coe_mul r s).symm⟩
/-- A finite sum of finite terms is finite. -/
theorem IsFin.sum {ι : Type} (s : Finset ι) (f : ι → EReal) (h : ∀ i, IsFin (f i)) : IsFin (∑ i ∈ s, f i) := by
  classical
  induction s using Finset.induction_on with
  | empty => exact IsFin.zero
  | insert a s ha ih => rw [Finset.sum_insert ha]; exact (h a).add ih
/-- An extended real strictly between the infinities is finite. -/
theorem IsFin.of_lt {x : EReal} (h₁ : x < ⊤) (h₂ : ⊥ < x) : IsFin x := by
  induction x with
  | bot => exact absurd h₂ (lt_irrefl _)
  | top => exact absurd h₁ (lt_irrefl _)
  | coe r => exact ⟨r, rfl⟩

/-- The tangent's factor is finite. -/
theorem cT_fin : IsFin cT := ⟨_, by unfold cT; simp [Ideal.ofBits, Ideal.ieee, -EReal.coe_mul]; rfl⟩
/-- The cube's coefficient is finite. -/
theorem cC_fin : IsFin cC := ⟨_, by unfold cC; simp [Ideal.ofBits, Ideal.ieee, -EReal.coe_mul]; rfl⟩
/-- One half is finite. -/
theorem half_fin : IsFin half := ⟨_, by unfold half; simp [Ideal.ofBits, Ideal.ieee, -EReal.coe_mul]; rfl⟩
/-- The row length is 1024. -/
theorem len_eq : len = ((1024 : ℝ) : EReal) := by
  unfold len; simp [Ideal.ofBits, Ideal.ieee, -EReal.coe_mul]; norm_num
/-- The epsilon is positive. -/
theorem eps_pos : 0 < eps := by
  unfold eps; simp [Ideal.ofBits, Ideal.ieee, -EReal.coe_mul]

/-- The hyperbolic tangent of any extended real is finite. -/
theorem tanh_fin (x : EReal) : IsFin (Ideal.tanh x) := by
  induction x with
  | bot => exact ⟨-1, rfl⟩
  | top => exact ⟨1, rfl⟩
  | coe r => exact ⟨_, rfl⟩

/-- gelu of a finite number is finite. -/
theorem act_fin {x : EReal} (h : IsFin x) : IsFin (act x) :=
  h.mul (half_fin.mul (IsFin.one.add (tanh_fin _)))

/-- The reciprocal root of a positive extended real is finite. -/
theorem rsqrt_fin {x : EReal} (h : 0 < x) : IsFin (Ideal.rsqrt x) := by
  induction x with
  | bot => exact absurd h (by simp)
  | top => exact ⟨0, rfl⟩
  | coe r =>
    have hr : 0 < r := by exact_mod_cast h
    rw [Ideal.rsqrt_coe, if_neg (not_lt.mpr hr.le), if_neg hr.ne']
    exact ⟨_, rfl⟩

/-- A square is not negative. -/
theorem sq_nonneg' (x : EReal) : 0 ≤ x * x := by
  induction x with
  | bot => simp
  | top => simp
  | coe r => rw [← EReal.coe_mul]; exact_mod_cast mul_self_nonneg r

/-- A row's variance plus the epsilon is positive, whatever the row. -/
theorem var_pos (a : ℕ → EReal) : 0 < var a := by
  unfold var
  rw [len_eq, Ideal.div_coe (by norm_num)]
  have h : 0 ≤ ∑ j : Fin 1024, dev a j * dev a j := Finset.sum_nonneg fun j _ => sq_nonneg' _
  have h2 : (0 : EReal) ≤ (∑ j : Fin 1024, dev a j * dev a j) * ((1 / 1024 : ℝ) : EReal) :=
    mul_nonneg h (by exact_mod_cast (by norm_num : (0 : ℝ) ≤ 1 / 1024))
  exact lt_of_lt_of_le eps_pos (le_add_of_nonneg_left h2)

/-- The reciprocal of a row's deviation is finite, whatever the row. -/
theorem rstd_fin (a : ℕ → EReal) : IsFin (rstd a) := rsqrt_fin (var_pos a)

/-- Where the gate half, the gain, the causal matrices and the output's cotangent are finite, the data are tame. -/
theorem Data.tame_of_fin (D : Data) (hpu : ∀ r d, IsFin (D.pu r d)) (hg : ∀ d, IsFin (D.g d))
    (hw : ∀ h t s, IsFin (D.w h t s)) (hdy : ∀ r d, IsFin (D.dy r d)) : D.Tame := by
  intro r k
  refine IsFin.ne ((IsFin.mul (IsFin.sum _ _ fun s => ?_) (hg _)).mul (rstd_fin _))
  exact (hw _ _ _).mul ((hdy _ _).mul (act_fin (hpu _ _)))

/-! ## The data of seven arrays -/

/-- The causal mask, as words compare it: an entry where the token read is not after the token written, zero elsewhere. -/
theorem causal_select (t s : Fin 128) (x : EReal) :
    (Scalar.select (Scalar.select (IntOp.cmpi .sge (IntOp.addi (BitVec.ofNat 32 t.val) 0#32) (BitVec.ofNat 32 s.val)) 1#1 0#1) x 0 : EReal)
      = if s ≤ t then x else 0 := by
  have e : IntOp.addi (BitVec.ofNat 32 t.val) 0#32 = BitVec.ofNat 32 t.val := BitVec.add_zero _
  rw [e, WordCmp.cmpi_sge_ofNat (by omega) (by omega)]
  by_cases h : s ≤ t
  · have h' : s.val ≤ t.val := h
    simp only [h, h', if_true]
    rfl
  · have h' : ¬s.val ≤ t.val := h
    simp only [h, h', if_false]
    rfl

/-- An array at two numbers, zero outside it. -/
def at2 {n k : ℕ} (f : Fin n → Fin k → EReal) (i j : ℕ) : EReal :=
  if h : i < n ∧ j < k then f ⟨i, h.1⟩ ⟨j, h.2⟩ else 0

/-- Inside the array it is the array's element. -/
theorem at2_eq {n k : ℕ} (f : Fin n → Fin k → EReal) {i j : ℕ} (hi : i < n) (hj : j < k) : at2 f i j = f ⟨i, hi⟩ ⟨j, hj⟩ :=
  dif_pos ⟨hi, hj⟩

/-- It is finite where the array's elements are. -/
theorem at2_fin {n k : ℕ} (f : Fin n → Fin k → EReal) (i j : ℕ) (h : ∀ hi hj, IsFin (f ⟨i, hi⟩ ⟨j, hj⟩)) : IsFin (at2 f i j) := by
  unfold at2; split
  · exact h _ _
  · exact IsFin.zero

/-- The data of the pass, from the projection and its bias, the norm's gain and bias, the mixing matrices (masked here) and
    their bias, and the cotangent of the output. -/
def dataOf (x0 : Fin 2048 → Fin 6144 → EReal) (x1 : Fin 1 → Fin 6144 → EReal) (x2 x3 : Fin 1 → Fin 1024 → EReal)
    (x4 : Fin 8 → Fin 128 → Fin 128 → EReal) (x5 : Fin 8 → Fin 128 → EReal) (x6 : Fin 2048 → Fin 1024 → EReal) : Data where
  pu r d := if d < 1024 then at2 x0 r d + at2 x1 0 d else 0
  pv r d := at2 x0 r (1024 + d) + at2 x1 0 (1024 + d)
  g d := at2 x2 0 d
  b d := at2 x3 0 d
  w h t s := if s ≤ t then at2 (fun (h : Fin 8) (k : Fin (128 * 128)) => x4 h ⟨k / 128, by omega⟩ ⟨k % 128, by omega⟩) h (128 * t + s) else 0
  bs h t := at2 x5 h t
  dy r d := at2 x6 r d

/-- The masked mixing matrix inside the array. -/
theorem dataOf_w (x0 x1 x2 x3 x4 x5 x6) (h : Fin 8) (t s : Fin 128) :
    (dataOf x0 x1 x2 x3 x4 x5 x6).w h t s = if s ≤ t then x4 h t s else 0 := by
  have e : (s.val ≤ t.val) = (s ≤ t) := rfl
  simp only [dataOf, e]
  refine if_congr Iff.rfl ?_ rfl
  rw [at2_eq _ h.isLt (by omega : 128 * t.val + s.val < 128 * 128)]
  congr 1 <;> apply Fin.ext <;> dsimp <;> omega

/-- Where the gate's half of the projection and of its bias, the gain, the matrices and the cotangent are finite, the data
    are tame. -/
theorem dataOf_tame {x0 x1 x2 x3 x4 x5 x6} (h0 : ∀ r (d : Fin 1024), IsFin (x0 r ⟨d, by omega⟩))
    (h1 : ∀ r (d : Fin 1024), IsFin (x1 r ⟨d, by omega⟩)) (h2 : ∀ r d, IsFin (x2 r d)) (h4 : ∀ h t s, IsFin (x4 h t s))
    (h6 : ∀ r d, IsFin (x6 r d)) : (dataOf x0 x1 x2 x3 x4 x5 x6).Tame := by
  refine Data.tame_of_fin _ (fun r d => ?_) (fun d => ?_) (fun h t s => ?_) (fun r d => ?_)
  · simp only [dataOf]
    split
    · rename_i hd
      exact (at2_fin _ _ _ fun hi _ => h0 ⟨r, hi⟩ ⟨d, hd⟩).add (at2_fin _ _ _ fun hi _ => h1 ⟨0, hi⟩ ⟨d, hd⟩)
    · exact IsFin.zero
  · exact at2_fin _ _ _ fun _ _ => h2 _ _
  · simp only [dataOf]
    split
    · exact at2_fin _ _ _ fun _ _ => h4 _ _ _
    · exact IsFin.zero
  · exact at2_fin _ _ _ fun _ _ => h6 _ _

end Cert.Gate

end
-- ==== Proof.Tiles.lean ====
/-
  The tiles of one grid point: what the point stores in its two scratch buffers and adds to the two accumulated blocks,
  each read at an index.

  A point holds 256 token rows, two chunks of 128, and eight heads of 128 columns: sixteen tiles.
-/
module

public import proofs.«01_k».proof.Proof.Spec
public import proofs.«01_k».proof.Proof.Gen.KernelIdeal.Value
public import Idealize.ShloMosaic.Lib.Pipeline.ValueKit
public import Idealize.ShloMosaic.Lib.Pipeline.ReadBack
public import Idealize.ShloMosaic.Lib.WordCmp

@[expose] public section

set_option maxHeartbeats 2000000

noncomputable section

namespace Cert.KernelIdeal.Gen

open Idealize.ShloMosaic Idealize.ShloMosaic.TcCoe Cert.Gate

/-- Stores that are blocks of one function and tile the buffer leave that function, whatever was stored before. -/
theorem canon_of_piecesOf {S : Shape} {e : EltTy} (G : S.Idx → Elt Ideal e) (L' L : List (View.Piece (Elt Ideal) S e))
    (hc : ∀ y, ∃ p ∈ L, y ∈ p.1.set) (h : View.PiecesOf G L) : View.canon (L ++ L') = G :=
  funext fun y => View.canon_append_of_piecesOf G L' L h y (hc y)

/-- The causal mask as the kernel computes it: one where the token read is not after the token written. -/
theorem mask_eq (t s : Fin 128) :
    (FloatOps.sitofp .f32 (BitVec.setWidth 32 (IntOp.cmpi .sge (BitVec.ofNat 32 t.val) (BitVec.ofNat 32 s.val))) : Ideal .f32)
      = ind t s := by
  rw [WordCmp.cmpi_sge_ofNat (by omega) (by omega)]
  unfold ind
  by_cases h : s.val ≤ t.val
  · simp only [h, decide_true, if_true]
    show (((1 : BitVec 32).toInt : ℝ) : EReal) = 1
    simp
  · simp only [h, decide_false, if_false]
    show (((0 : BitVec 32).toInt : ℝ) : EReal) = 0
    simp

/-- What the tiles of grid point `p` read: the gate `U`, the rounded value half `V`, the causal matrices `x4` and their
    transposes `x5`, the mixing's bias `x6`, the cotangent's rows `x7`. -/
structure Rows (D : Data) (p : ℕ) (U : FVec Ideal S256x1024 .f32) (V : FVec Ideal S256x1024 .bf16)
    (x4 x5 : Vec Ideal S8x128x128 .bf16) (x6 : Vec Ideal S128x1024 .f32) (x7 : Vec Ideal S256x1024 .f32) : Prop where
  /-- the gate -/
  u : ∀ i d, U (ix2 i d) = D.u (256 * p + i) d
  /-- the normalised value half -/
  v : ∀ i d, V (ix2 i d) = D.vln (256 * p + i) d
  /-- the causal matrices -/
  w : ∀ h t s, x4 (ix3 h t s) = D.w h t s
  /-- their transposes -/
  wt : ∀ h t s, x5 (ix3 h t s) = D.w h s t
  /-- the mixing's bias, each value once per column of its head -/
  bs : ∀ t d, x6 (ix2 t d) = D.bs (d.val / 128) t
  /-- the cotangent -/
  dy : ∀ i d, x7 (ix2 i d) = D.dy (256 * p + i) d

/-- A term of the mixing at equal numbers. -/
theorem mixTerm_congr (D : Data) {h h' t t' s s' r r' d d' : ℕ} (e₁ : h = h') (e₂ : t = t') (e₃ : s = s') (e₄ : r = r')
    (e₅ : d = d') : D.w h t s * D.vln r d = D.w h' t' s' * D.vln r' d' := by subst e₁ e₂ e₃ e₄ e₅; rfl

/-- A term of the gate's product at equal numbers. -/
theorem gateTerm_congr (D : Data) {r r' d d' : ℕ} (e₁ : r = r') (e₂ : d = d') :
    D.dy r d * D.u r d = D.dy r' d' * D.u r' d' := by subst e₁ e₂; rfl

/-- A term of the transposed mixing at equal numbers. -/
theorem backTerm_congr (D : Data) {h h' t t' s s' r r' d d' : ℕ} (e₁ : h = h') (e₂ : t = t') (e₃ : s = s') (e₄ : r = r')
    (e₅ : d = d') : D.w h t s * (D.dy r d * D.u r d) = D.w h' t' s' * (D.dy r' d' * D.u r' d') := by
  subst e₁ e₂ e₃ e₄ e₅; rfl

/-- A term of the causal matrices' cotangent at equal numbers. -/
theorem gramTerm_congr (D : Data) {r r' d d' q q' : ℕ} (e₁ : r = r') (e₂ : d = d') (e₃ : q = q') :
    D.dy r d * D.u r d * D.vln q d = D.dy r' d' * D.u r' d' * D.vln q' d' := by subst e₁ e₂ e₃; rfl

variable {D : Data} {p : ℕ} {V : FVec Ideal S256x1024 .bf16} {U : FVec Ideal S256x1024 .f32}
  {x4 x5 : Vec Ideal S8x128x128 .bf16} {x6 : Vec Ideal S128x1024 .f32} {x7 : Vec Ideal S256x1024 .f32}

/-- The stores of the transposed mixing of the cotangent. -/
abbrev qPieces (U : FVec Ideal S256x1024 .f32) (x5 : Vec Ideal S8x128x128 .bf16) (x7 : Vec Ideal S256x1024 .f32) :
    List (View.Piece (Elt Ideal) S256x1024 .f32) :=
    [⟨Rect.unit ![128, 896] ![128, 128] inb_S256x1024_S128x128_128_896, k0_pay164 (k0_pay163 U x7) (View.ld x5 (Rect.unit ![7, 0, 0] ![1, 128, 128] inb_S8x128x128_S1x128x128_7_0_0))⟩,
      ⟨Rect.unit ![128, 768] ![128, 128] inb_S256x1024_S128x128_128_768, k0_pay156 (k0_pay155 U x7 (View.ld x5 (Rect.unit ![6, 0, 0] ![1, 128, 128] inb_S8x128x128_S1x128x128_6_0_0)))⟩,
      ⟨Rect.unit ![128, 640] ![128, 128] inb_S256x1024_S128x128_128_640, k0_pay147 U x7 (View.ld x5 (Rect.unit ![5, 0, 0] ![1, 128, 128] inb_S8x128x128_S1x128x128_5_0_0))⟩,
      ⟨Rect.unit ![128, 512] ![128, 128] inb_S256x1024_S128x128_128_512, k0_pay138 U x7 (View.ld x5 (Rect.unit ![4, 0, 0] ![1, 128, 128] inb_S8x128x128_S1x128x128_4_0_0))⟩,
      ⟨Rect.unit ![128, 384] ![128, 128] inb_S256x1024_S128x128_128_384, k0_pay130 U x7 (View.ld x5 (Rect.unit ![3, 0, 0] ![1, 128, 128] inb_S8x128x128_S1x128x128_3_0_0))⟩,
      ⟨Rect.unit ![128, 256] ![128, 128] inb_S256x1024_S128x128_128_256, k0_pay120 U x7 (View.ld x5 (Rect.unit ![2, 0, 0] ![1, 128, 128] inb_S8x128x128_S1x128x128_2_0_0))⟩,
      ⟨Rect.unit ![128, 128] ![128, 128] inb_S256x1024_S128x128_128_128, k0_pay112 U x7 (View.ld x5 (Rect.unit ![1, 0, 0] ![1, 128, 128] inb_S8x128x128_S1x128x128_1_0_0))⟩,
      ⟨Rect.unit ![128, 0] ![128, 128] inb_S256x1024_S128x128_128_0, k0_pay103 U (k0_pay98 x7) (View.ld x5 (Rect.unit ![0, 0, 0] ![1, 128, 128] inb_S8x128x128_S1x128x128_0_0_0))⟩,
      ⟨Rect.unit ![0, 896] ![128, 128] inb_S256x1024_S128x128_0_896, k0_pay94 (k0_pay89 x7) (k0_pay91 U) (View.ld x5 (Rect.unit ![7, 0, 0] ![1, 128, 128] inb_S8x128x128_S1x128x128_7_0_0))⟩,
      ⟨Rect.unit ![0, 768] ![128, 128] inb_S256x1024_S128x128_0_768, k0_pay85 (k0_pay83 U x7) (k0_pay84 (View.ld x5 (Rect.unit ![6, 0, 0] ![1, 128, 128] inb_S8x128x128_S1x128x128_6_0_0)))⟩,
      ⟨Rect.unit ![0, 640] ![128, 128] inb_S256x1024_S128x128_0_640, k0_pay76 U x7 (View.ld x5 (Rect.unit ![5, 0, 0] ![1, 128, 128] inb_S8x128x128_S1x128x128_5_0_0))⟩,
      ⟨Rect.unit ![0, 512] ![128, 128] inb_S256x1024_S128x128_0_512, k0_pay67 U x7 (View.ld x5 (Rect.unit ![4, 0, 0] ![1, 128, 128] inb_S8x128x128_S1x128x128_4_0_0))⟩,
      ⟨Rect.unit ![0, 384] ![128, 128] inb_S256x1024_S128x128_0_384, k0_pay58 U x7 (View.ld x5 (Rect.unit ![3, 0, 0] ![1, 128, 128] inb_S8x128x128_S1x128x128_3_0_0))⟩,
      ⟨Rect.unit ![0, 256] ![128, 128] inb_S256x1024_S128x128_0_256, k0_pay49 U x7 (View.ld x5 (Rect.unit ![2, 0, 0] ![1, 128, 128] inb_S8x128x128_S1x128x128_2_0_0))⟩,
      ⟨Rect.unit ![0, 128] ![128, 128] inb_S256x1024_S128x128_0_128, k0_pay41 U x7 (View.ld x5 (Rect.unit ![1, 0, 0] ![1, 128, 128] inb_S8x128x128_S1x128x128_1_0_0))⟩,
      ⟨Rect.unit ![0, 0] ![128, 128] inb_S256x1024_S128x128_0_0, k0_pay33 U x7 (View.ld x5 (Rect.unit ![0, 0, 0] ![1, 128, 128] inb_S8x128x128_S1x128x128_0_0_0))⟩]

/-- After its sixteen stores the buffer of the transposed mixing of the cotangent holds it. -/
theorem scratch_q (H : Rows D p U V x4 x5 x6 x7) :
    (View.whole cc0_scratch1).readCov (qPieces U x5 x7)
      (Rect.unit (s := S256x1024) ![0, 0] ![256, 1024] inb_S256x1024_S256x1024_0_0).toLoadRect
    = fun y : S256x1024.Idx => D.q (256 * p + (y 0).val) (y 1).val := by
  refine (View.readCov_eq_canon_ld (View.whole cc0_scratch1) (qPieces U x5 x7) _
    (View.cover_of_tiledL _ S128x128.size (by sl_kernel_rfl))).trans ?_
  have e := canon_of_piecesOf (fun y : S256x1024.Idx => D.q (256 * p + (y 0).val) (y 1).val) [] (qPieces U x5 x7)
      (View.cover_of_tiledL _ S128x128.size (by sl_kernel_rfl)) ?_
  · funext y
    rw [List.append_nil] at e
    rw [View.ld_apply]
    exact (congrFun e _).trans (by simp)
  refine ⟨?_, ?_, ?_, ?_, ?_, ?_, ?_, ?_, ?_, ?_, ?_, ?_, ?_, ?_, ?_, ?_, trivial⟩
  all_goals
    intro x
    obtain ⟨i, e, rfl⟩ := exists_ix2 (n := 128) (k := 128) x
    simp only [ValueKit.rect_emb_unit_val]
    unfold_payloads
    pointwise
    simp only [H.wt, H.dy, H.u]
    unfold Data.q Data.dvm
    exact Finset.sum_congr rfl fun s _ => backTerm_congr D (by (try dsimp) <;> omega) (by (try dsimp) <;> omega) (by (try dsimp) <;> omega) (by (try dsimp) <;> omega) (by (try dsimp) <;> omega)

/-- The stores of the gate's cotangent. -/
abbrev duPieces (x2 x3 : Vec Ideal S1x1024 .f32) (v28 v36 : FVec Ideal S256x1024 .f32) (x4 : Vec Ideal S8x128x128 .bf16)
    (x6 : Vec Ideal S128x1024 .f32) (x7 : Vec Ideal S256x1024 .f32) :
    List (View.Piece (Elt Ideal) S256x1024 .f32) :=
    [⟨Rect.unit ![128, 896] ![128, 128] inb_S256x1024_S128x128_128_896, k0_pay161 (k0_pay25 x2 x3 v28 v36) x7 (View.ld x4 (Rect.unit ![7, 0, 0] ![1, 128, 128] inb_S8x128x128_S1x128x128_7_0_0)) (View.ld x6 (Rect.unit ![0, 896] ![128, 128] inb_S128x1024_S128x128_0_896))⟩,
      ⟨Rect.unit ![128, 768] ![128, 128] inb_S256x1024_S128x128_128_768, k0_pay152 (k0_pay25 x2 x3 v28 v36) x7 (View.ld x4 (Rect.unit ![6, 0, 0] ![1, 128, 128] inb_S8x128x128_S1x128x128_6_0_0)) (View.ld x6 (Rect.unit ![0, 768] ![128, 128] inb_S128x1024_S128x128_0_768))⟩,
      ⟨Rect.unit ![128, 640] ![128, 128] inb_S256x1024_S128x128_128_640, k0_pay144 (k0_pay25 x2 x3 v28 v36) x7 (View.ld x4 (Rect.unit ![5, 0, 0] ![1, 128, 128] inb_S8x128x128_S1x128x128_5_0_0)) (View.ld x6 (Rect.unit ![0, 640] ![128, 128] inb_S128x1024_S128x128_0_640))⟩,
      ⟨Rect.unit ![128, 512] ![128, 128] inb_S256x1024_S128x128_128_512, k0_pay135 (k0_pay25 x2 x3 v28 v36) x7 (View.ld x4 (Rect.unit ![4, 0, 0] ![1, 128, 128] inb_S8x128x128_S1x128x128_4_0_0)) (View.ld x6 (Rect.unit ![0, 512] ![128, 128] inb_S128x1024_S128x128_0_512))⟩,
      ⟨Rect.unit ![128, 384] ![128, 128] inb_S256x1024_S128x128_128_384, k0_pay127 (k0_pay25 x2 x3 v28 v36) x7 (View.ld x4 (Rect.unit ![3, 0, 0] ![1, 128, 128] inb_S8x128x128_S1x128x128_3_0_0)) (View.ld x6 (Rect.unit ![0, 384] ![128, 128] inb_S128x1024_S128x128_0_384))⟩,
      ⟨Rect.unit ![128, 256] ![128, 128] inb_S256x1024_S128x128_128_256, k0_pay117 x7 (k0_pay115 (k0_pay25 x2 x3 v28 v36)) (View.ld x4 (Rect.unit ![2, 0, 0] ![1, 128, 128] inb_S8x128x128_S1x128x128_2_0_0)) (View.ld x6 (Rect.unit ![0, 256] ![128, 128] inb_S128x1024_S128x128_0_256))⟩,
      ⟨Rect.unit ![128, 128] ![128, 128] inb_S256x1024_S128x128_128_128, k0_pay109 x7 (k0_pay107 (k0_pay25 x2 x3 v28 v36) (View.ld x4 (Rect.unit ![1, 0, 0] ![1, 128, 128] inb_S8x128x128_S1x128x128_1_0_0))) (View.ld x6 (Rect.unit ![0, 128] ![128, 128] inb_S128x1024_S128x128_0_128))⟩,
      ⟨Rect.unit ![128, 0] ![128, 128] inb_S256x1024_S128x128_128_0, k0_pay100 (k0_pay99 (k0_pay25 x2 x3 v28 v36) x7 (View.ld x4 (Rect.unit ![0, 0, 0] ![1, 128, 128] inb_S8x128x128_S1x128x128_0_0_0)) (View.ld x6 (Rect.unit ![0, 0] ![128, 128] inb_S128x1024_S128x128_0_0)))⟩,
      ⟨Rect.unit ![0, 896] ![128, 128] inb_S256x1024_S128x128_0_896, k0_pay90 (k0_pay25 x2 x3 v28 v36) x7 (View.ld x4 (Rect.unit ![7, 0, 0] ![1, 128, 128] inb_S8x128x128_S1x128x128_7_0_0)) (View.ld x6 (Rect.unit ![0, 896] ![128, 128] inb_S128x1024_S128x128_0_896))⟩,
      ⟨Rect.unit ![0, 768] ![128, 128] inb_S256x1024_S128x128_0_768, k0_pay81 (k0_pay25 x2 x3 v28 v36) x7 (View.ld x4 (Rect.unit ![6, 0, 0] ![1, 128, 128] inb_S8x128x128_S1x128x128_6_0_0)) (View.ld x6 (Rect.unit ![0, 768] ![128, 128] inb_S128x1024_S128x128_0_768))⟩,
      ⟨Rect.unit ![0, 640] ![128, 128] inb_S256x1024_S128x128_0_640, k0_pay73 (k0_pay25 x2 x3 v28 v36) x7 (View.ld x4 (Rect.unit ![5, 0, 0] ![1, 128, 128] inb_S8x128x128_S1x128x128_5_0_0)) (View.ld x6 (Rect.unit ![0, 640] ![128, 128] inb_S128x1024_S128x128_0_640))⟩,
      ⟨Rect.unit ![0, 512] ![128, 128] inb_S256x1024_S128x128_0_512, k0_pay64 (k0_pay25 x2 x3 v28 v36) x7 (View.ld x4 (Rect.unit ![4, 0, 0] ![1, 128, 128] inb_S8x128x128_S1x128x128_4_0_0)) (View.ld x6 (Rect.unit ![0, 512] ![128, 128] inb_S128x1024_S128x128_0_512))⟩,
      ⟨Rect.unit ![0, 384] ![128, 128] inb_S256x1024_S128x128_0_384, k0_pay55 (k0_pay25 x2 x3 v28 v36) x7 (View.ld x4 (Rect.unit ![3, 0, 0] ![1, 128, 128] inb_S8x128x128_S1x128x128_3_0_0)) (View.ld x6 (Rect.unit ![0, 384] ![128, 128] inb_S128x1024_S128x128_0_384))⟩,
      ⟨Rect.unit ![0, 256] ![128, 128] inb_S256x1024_S128x128_0_256, k0_pay46 (k0_pay25 x2 x3 v28 v36) x7 (View.ld x4 (Rect.unit ![2, 0, 0] ![1, 128, 128] inb_S8x128x128_S1x128x128_2_0_0)) (View.ld x6 (Rect.unit ![0, 256] ![128, 128] inb_S128x1024_S128x128_0_256))⟩,
      ⟨Rect.unit ![0, 128] ![128, 128] inb_S256x1024_S128x128_0_128, k0_pay38 x7 (k0_pay36 (k0_pay25 x2 x3 v28 v36)) (View.ld x4 (Rect.unit ![1, 0, 0] ![1, 128, 128] inb_S8x128x128_S1x128x128_1_0_0)) (View.ld x6 (Rect.unit ![0, 128] ![128, 128] inb_S128x1024_S128x128_0_128))⟩,
      ⟨Rect.unit ![0, 0] ![128, 128] inb_S256x1024_S128x128_0_0, k0_pay30 x7 (k0_pay28 x2 x3 v28 v36 (View.ld x4 (Rect.unit ![0, 0, 0] ![1, 128, 128] inb_S8x128x128_S1x128x128_0_0_0))) (View.ld x6 (Rect.unit ![0, 0] ![128, 128] inb_S128x1024_S128x128_0_0))⟩]

/-- After its sixteen stores the buffer of the gate's cotangent holds it. -/
theorem scratch_du {x2 x3 : Vec Ideal S1x1024 .f32} {v28 v36 : FVec Ideal S256x1024 .f32}
    (H : Rows D p U (k0_pay25 x2 x3 v28 v36) x4 x5 x6 x7) :
    (View.whole cc0_scratch0).readCov (duPieces x2 x3 v28 v36 x4 x6 x7)
      (Rect.unit (s := S256x1024) ![0, 0] ![256, 1024] inb_S256x1024_S256x1024_0_0).toLoadRect
    = fun y : S256x1024.Idx => D.du (256 * p + (y 0).val) (y 1).val := by
  refine (View.readCov_eq_canon_ld (View.whole cc0_scratch0) (duPieces x2 x3 v28 v36 x4 x6 x7) _
    (View.cover_of_tiledL _ S128x128.size (by sl_kernel_rfl))).trans ?_
  have e := canon_of_piecesOf (fun y : S256x1024.Idx => D.du (256 * p + (y 0).val) (y 1).val) [] (duPieces x2 x3 v28 v36 x4 x6 x7)
      (View.cover_of_tiledL _ S128x128.size (by sl_kernel_rfl)) ?_
  · funext y
    rw [List.append_nil] at e
    rw [View.ld_apply]
    exact (congrFun e _).trans (by simp)
  refine ⟨?_, ?_, ?_, ?_, ?_, ?_, ?_, ?_, ?_, ?_, ?_, ?_, ?_, ?_, ?_, ?_, trivial⟩
  all_goals
    intro x
    obtain ⟨i, e, rfl⟩ := exists_ix2 (n := 128) (k := 128) x
    simp only [ValueKit.rect_emb_unit_val]
    (try unfold k0_pay28); (try unfold k0_pay27)
    generalize k0_pay25 x2 x3 v28 v36 = V at H ⊢
    unfold_payloads
    pointwise
    simp only [H.w, H.dy, H.v, H.bs]
    unfold Data.du Data.vmix
    refine congr_arg₂ _ (congr_arg₂ D.dy (by (try dsimp) <;> omega) (by (try dsimp) <;> omega)) (congr_arg₂ _ (Finset.sum_congr rfl fun s _ => ?_) (congr_arg₂ D.bs (by (try dsimp) <;> omega) (by (try dsimp) <;> omega)))
    exact mixTerm_congr D (by (try dsimp) <;> omega) (by (try dsimp) <;> omega) (by (try dsimp) <;> omega) (by (try dsimp) <;> omega) (by (try dsimp) <;> omega)

/-- What a point adds to the cotangent of the causal matrices' block: each head's two chunks, first one then the other. -/
theorem block_dws {x2 x3 : Vec Ideal S1x1024 .f32} {v28 v36 : FVec Ideal S256x1024 .f32} (X : Vec Ideal S8x128x128 .f32)
    (rest : List (View.Piece (Elt Ideal) S8x128x128 .f32)) (H : Rows D p U (k0_pay25 x2 x3 v28 v36) x4 x5 x6 x7) :
    View.canon ([⟨Rect.unit ![7, 0, 0] ![1, 128, 128] inb_S8x128x128_S1x128x128_7_0_0, k0_pay165 k0_pay26 (k0_pay159 (k0_pay25 x2 x3 v28 v36)) (k0_pay163 U x7) (k0_pay95 k0_pay26 (k0_pay88 (k0_pay25 x2 x3 v28 v36)) (k0_pay89 x7) (k0_pay91 U) (View.ld X (Rect.unit ![7, 0, 0] ![1, 128, 128] inb_S8x128x128_S1x128x128_7_0_0)))⟩,
      ⟨Rect.unit ![6, 0, 0] ![1, 128, 128] inb_S8x128x128_S1x128x128_6_0_0, k0_pay157 k0_pay26 (k0_pay150 (k0_pay25 x2 x3 v28 v36)) (k0_pay154 U x7) (k0_pay86 k0_pay26 (k0_pay79 (k0_pay25 x2 x3 v28 v36)) (k0_pay83 U x7) (View.ld X (Rect.unit ![6, 0, 0] ![1, 128, 128] inb_S8x128x128_S1x128x128_6_0_0)))⟩,
      ⟨Rect.unit ![5, 0, 0] ![1, 128, 128] inb_S8x128x128_S1x128x128_5_0_0, k0_pay148 k0_pay26 (k0_pay142 (k0_pay25 x2 x3 v28 v36)) (k0_pay146 U x7) (k0_pay77 k0_pay26 (k0_pay71 (k0_pay25 x2 x3 v28 v36)) (k0_pay75 U x7) (View.ld X (Rect.unit ![5, 0, 0] ![1, 128, 128] inb_S8x128x128_S1x128x128_5_0_0)))⟩,
      ⟨Rect.unit ![4, 0, 0] ![1, 128, 128] inb_S8x128x128_S1x128x128_4_0_0, k0_pay140 (k0_pay139 U (k0_pay25 x2 x3 v28 v36) x7 k0_pay26 (k0_pay69 k0_pay26 (k0_pay62 (k0_pay25 x2 x3 v28 v36)) (k0_pay66 U x7) (k0_pay68 (View.ld X (Rect.unit ![4, 0, 0] ![1, 128, 128] inb_S8x128x128_S1x128x128_4_0_0))) (constant S128x128 FTy.f32 0#32)))⟩,
      ⟨Rect.unit ![3, 0, 0] ![1, 128, 128] inb_S8x128x128_S1x128x128_3_0_0, k0_pay131 U (k0_pay25 x2 x3 v28 v36) x7 k0_pay26 (k0_pay60 (k0_pay59 U (k0_pay25 x2 x3 v28 v36) x7 k0_pay26 (View.ld X (Rect.unit ![3, 0, 0] ![1, 128, 128] inb_S8x128x128_S1x128x128_3_0_0))))⟩,
      ⟨Rect.unit ![2, 0, 0] ![1, 128, 128] inb_S8x128x128_S1x128x128_2_0_0, k0_pay121 U x7 k0_pay26 (k0_pay115 (k0_pay25 x2 x3 v28 v36)) (k0_pay50 U (k0_pay25 x2 x3 v28 v36) x7 k0_pay26 (View.ld X (Rect.unit ![2, 0, 0] ![1, 128, 128] inb_S8x128x128_S1x128x128_2_0_0)))⟩,
      ⟨Rect.unit ![1, 0, 0] ![1, 128, 128] inb_S8x128x128_S1x128x128_1_0_0, k0_pay113 U x7 k0_pay26 (k0_pay106 (k0_pay25 x2 x3 v28 v36)) (k0_pay42 U x7 k0_pay26 (k0_pay36 (k0_pay25 x2 x3 v28 v36)) (View.ld X (Rect.unit ![1, 0, 0] ![1, 128, 128] inb_S8x128x128_S1x128x128_1_0_0)))⟩,
      ⟨Rect.unit ![0, 0, 0] ![1, 128, 128] inb_S8x128x128_S1x128x128_0_0_0, k0_pay104 U k0_pay26 (k0_pay97 (k0_pay25 x2 x3 v28 v36)) (k0_pay98 x7) (k0_pay34 U x7 k0_pay26 (k0_pay27 x2 x3 v28 v36) (View.ld X (Rect.unit ![0, 0, 0] ![1, 128, 128] inb_S8x128x128_S1x128x128_0_0_0)))⟩] ++ rest)
    = fun y => X y + ind (y 1) (y 2) * D.dwsAt (2 * p) (y 0) (y 1) (y 2)
        + ind (y 1) (y 2) * D.dwsAt (2 * p + 1) (y 0) (y 1) (y 2) := by
  refine canon_of_piecesOf _ rest _ (View.cover_of_tiledL _ S1x128x128.size (by sl_kernel_rfl)) ?_
  refine ⟨?_, ?_, ?_, ?_, ?_, ?_, ?_, ?_, trivial⟩
  all_goals
    intro x
    obtain ⟨h, i, e, rfl⟩ := exists_ix3 (n := 1) (k := 128) (l := 128) x
    obtain rfl : h = 0 := Subsingleton.elim _ _
    simp only [ValueKit.rect_emb_unit_val]
    (try unfold k0_pay28); (try unfold k0_pay27)
    generalize k0_pay25 x2 x3 v28 v36 = V at H ⊢
    unfold_payloads
    pointwise
    simp only [H.v, H.dy, H.u, mask_eq]
    unfold Data.dwsAt Data.dvm
    refine congr_arg₂ _ (congr_arg₂ _ (congrArg X ?_) (congr_arg₂ _ ?_ ?_)) (congr_arg₂ _ ?_ ?_)
    · funext a; fin_cases a <;> apply Fin.ext <;> simp
    · simp
    · exact Finset.sum_congr rfl fun s _ => gramTerm_congr D (by (try dsimp) <;> omega) (by (try dsimp) <;> omega) (by (try dsimp) <;> omega)
    · simp
    · exact Finset.sum_congr rfl fun s _ => gramTerm_congr D (by (try dsimp) <;> omega) (by (try dsimp) <;> omega) (by (try dsimp) <;> omega)

/-- What a point adds to the cotangent of the mixing's bias: each head's two chunks, first one then the other. -/
theorem block_dbs (X : Vec Ideal S128x1024 .f32)
    (rest : List (View.Piece (Elt Ideal) S128x1024 .f32)) (H : Rows D p U V x4 x5 x6 x7) :
    View.canon ([⟨Rect.unit ![0, 896] ![128, 128] inb_S128x1024_S128x128_0_896, k0_pay166 (k0_pay162 U x7) (k0_pay96 (k0_pay89 x7) (k0_pay91 U) (View.ld X (Rect.unit ![0, 896] ![128, 128] inb_S128x1024_S128x128_0_896)))⟩,
      ⟨Rect.unit ![0, 768] ![128, 128] inb_S128x1024_S128x128_0_768, k0_pay158 (k0_pay153 U x7) (k0_pay87 (k0_pay82 U x7) (View.ld X (Rect.unit ![0, 768] ![128, 128] inb_S128x1024_S128x128_0_768)))⟩,
      ⟨Rect.unit ![0, 640] ![128, 128] inb_S128x1024_S128x128_0_640, k0_pay149 (k0_pay145 U x7) (k0_pay78 (k0_pay74 U x7) (View.ld X (Rect.unit ![0, 640] ![128, 128] inb_S128x1024_S128x128_0_640)))⟩,
      ⟨Rect.unit ![0, 512] ![128, 128] inb_S128x1024_S128x128_0_512, k0_pay141 (k0_pay136 U x7) (k0_pay70 (k0_pay65 U x7) (View.ld X (Rect.unit ![0, 512] ![128, 128] inb_S128x1024_S128x128_0_512)))⟩,
      ⟨Rect.unit ![0, 384] ![128, 128] inb_S128x1024_S128x128_0_384, k0_pay132 (k0_pay128 U x7) (k0_pay61 (k0_pay56 U x7) (View.ld X (Rect.unit ![0, 384] ![128, 128] inb_S128x1024_S128x128_0_384)))⟩,
      ⟨Rect.unit ![0, 256] ![128, 128] inb_S128x1024_S128x128_0_256, k0_pay124 (k0_pay122 (k0_pay52 (k0_pay47 U x7) (k0_pay51 (View.ld X (Rect.unit ![0, 256] ![128, 128] inb_S128x1024_S128x128_0_256))))) (k0_pay123 U x7)⟩,
      ⟨Rect.unit ![0, 128] ![128, 128] inb_S128x1024_S128x128_0_128, k0_pay114 U x7 (k0_pay43 U x7 (View.ld X (Rect.unit ![0, 128] ![128, 128] inb_S128x1024_S128x128_0_128)))⟩,
      ⟨Rect.unit ![0, 0] ![128, 128] inb_S128x1024_S128x128_0_0, k0_pay105 U (k0_pay98 x7) (k0_pay35 U x7 (View.ld X (Rect.unit ![0, 0] ![128, 128] inb_S128x1024_S128x128_0_0)))⟩] ++ rest)
    = fun y => X y + D.dbsAt (2 * p) (y 0) ((y 1).val / 128) + D.dbsAt (2 * p + 1) (y 0) ((y 1).val / 128) := by
  refine canon_of_piecesOf _ rest _ (View.cover_of_tiledL _ S128x128.size (by sl_kernel_rfl)) ?_
  refine ⟨?_, ?_, ?_, ?_, ?_, ?_, ?_, ?_, trivial⟩
  all_goals
    intro x
    obtain ⟨i, e, rfl⟩ := exists_ix2 (n := 128) (k := 128) x
    simp only [ValueKit.rect_emb_unit_val]
    unfold_payloads
    pointwise
    simp only [H.dy, H.u]
    unfold Data.dbsAt Data.dvm
    refine congr_arg₂ _ (congr_arg₂ _ (congrArg X ?_) ?_) ?_
    · funext a; fin_cases a <;> apply Fin.ext <;> simp
    · exact Finset.sum_congr rfl fun s _ => gateTerm_congr D (by (try dsimp) <;> omega) (by (try dsimp) <;> omega)
    · exact Finset.sum_congr rfl fun s _ => gateTerm_congr D (by (try dsimp) <;> omega) (by (try dsimp) <;> omega)

end Cert.KernelIdeal.Gen

end
-- ==== Proof.Block.lean ====
/-
  One grid point's rows: the gate, the normalised value half and the cotangents, each read at an index.
-/
module

public import proofs.«01_k».proof.Proof.Spec
public import proofs.«01_k».proof.Proof.Gen.KernelIdeal.Value

@[expose] public section

set_option maxHeartbeats 1000000

noncomputable section

namespace Cert.KernelIdeal.Gen

open Idealize.ShloMosaic Idealize.ShloMosaic.TcCoe Cert.Gate

/-- The rows of grid point `p` of the projection's columns `x0`, with their bias `x1`, the norm's gain `x2` and bias `x3`. -/
structure Inputs (D : Data) (p : ℕ) (x0 : Vec Ideal S256x2048 .f32) (x1 : Vec Ideal S1x2048 .f32)
    (x2 x3 : Vec Ideal S1x1024 .f32) : Prop where
  /-- the gate half before gelu -/
  pu : ∀ (i : Fin 256) (d : Fin 1024), x0 (ix2 i ⟨d, by omega⟩) + x1 (ix2 0 ⟨d, by omega⟩) = D.pu (256 * p + i) d
  /-- the value half before gelu -/
  pv : ∀ (i : Fin 256) (d : Fin 1024),
    x0 (ix2 i ⟨1024 + d, by omega⟩) + x1 (ix2 0 ⟨1024 + d, by omega⟩) = D.pv (256 * p + i) d
  /-- the gain -/
  g : ∀ d, x2 (ix2 0 d) = D.g d
  /-- the bias -/
  b : ∀ d, x3 (ix2 0 d) = D.b d

variable {D : Data} {p : ℕ} {x0 : Vec Ideal S256x2048 .f32} {x1 : Vec Ideal S1x2048 .f32} {x2 x3 : Vec Ideal S1x1024 .f32}

namespace Inputs

variable (I : Inputs D p x0 x1 x2 x3)
include I

/-- The gate half before gelu. -/
theorem pay8 (i d) : k0_pay8 x0 x1 (ix2 i d) = D.pu (256 * p + i) d := by
  rw [← I.pu]; pointwise [k0_pay8, k0_pay7]
/-- Its square. -/
theorem pay9 (i d) : k0_pay9 x0 x1 (ix2 i d) = D.pu (256 * p + i) d * D.pu (256 * p + i) d := by
  pointwise [k0_pay9]; rw [I.pay8]
/-- The tanh inside the gate's gelu. -/
theorem pay10 (i d) : k0_pay10 x0 x1 (ix2 i d) = th (D.pu (256 * p + i) d) := by
  pointwise [k0_pay10]; rw [I.pay9, I.pay8]; rfl
/-- Its derivative. -/
theorem pay11 (i d) : k0_pay11 x0 x1 (ix2 i d) = dt (D.pu (256 * p + i) d) := by
  pointwise [k0_pay11]; rw [I.pay10]; rfl
/-- The factor of the gate half in its gelu. -/
theorem pay12 (i d) : k0_pay12 x0 x1 (ix2 i d) = hm (D.pu (256 * p + i) d) := by
  pointwise [k0_pay12]; rw [I.pay10]; rfl
/-- The gate. -/
theorem pay13 (i d) : k0_pay13 x0 x1 (ix2 i d) = D.u (256 * p + i) d := by
  pointwise [k0_pay13]; rw [I.pay12, I.pay8]; rfl
/-- The value half before gelu. -/
theorem pay14 (i d) : k0_pay14 x0 x1 (ix2 i d) = D.pv (256 * p + i) d := by
  rw [← I.pv]; pointwise [k0_pay14, k0_pay7]
/-- Its square. -/
theorem pay15 (i d) : k0_pay15 x0 x1 (ix2 i d) = D.pv (256 * p + i) d * D.pv (256 * p + i) d := by
  pointwise [k0_pay15]; rw [I.pay14]
/-- The tanh inside the value half's gelu. -/
theorem pay16 (i d) : k0_pay16 x0 x1 (ix2 i d) = th (D.pv (256 * p + i) d) := by
  pointwise [k0_pay16]; rw [I.pay15, I.pay14]; rfl
/-- Its derivative. -/
theorem pay18 (i d) : k0_pay18 (k0_pay16 x0 x1) (k0_pay17 x0 x1) (ix2 i d) = dt (D.pv (256 * p + i) d) := by
  pointwise [k0_pay18, k0_pay17]; rw [I.pay16]; rfl
/-- The factor of the value half in its gelu. -/
theorem pay19 (i d) : k0_pay19 (k0_pay16 x0 x1) (ix2 i d) = hm (D.pv (256 * p + i) d) := by
  pointwise [k0_pay19]; rw [I.pay16]; rfl
/-- The deviations of the value half's rows. -/
theorem pay20 (i d) : k0_pay20 (k0_pay14 x0 x1) (k0_pay16 x0 x1) (ix2 i d) = dev (D.a (256 * p + i)) d := by
  pointwise [k0_pay20]; simp only [I.pay14, I.pay19]; rfl
/-- Their variance plus the epsilon. -/
theorem pay21 (i) : k0_pay21 (k0_pay14 x0 x1) (k0_pay16 x0 x1) (ix2 i 0) = var (D.a (256 * p + i)) := by
  pointwise [k0_pay21]; simp only [I.pay20]; rfl
/-- The reciprocal root of it. -/
theorem pay22 (i) : k0_pay22 (k0_pay14 x0 x1) (k0_pay16 x0 x1) (ix2 i 0) = rstd (D.a (256 * p + i)) := by
  pointwise [k0_pay22]; rw [I.pay21]; rfl
/-- The derivative of the reciprocal root. -/
theorem pay23 (i) : k0_pay23 (k0_pay14 x0 x1) (k0_pay16 x0 x1) (ix2 i 0) = drstd (D.a (256 * p + i)) := by
  pointwise [k0_pay23]; rw [I.pay22, I.pay21]; rfl
/-- The normalised rows. -/
theorem pay24 (i d) : k0_pay24 (k0_pay14 x0 x1) (k0_pay16 x0 x1) (ix2 i d) = nrm (D.a (256 * p + i)) d := by
  pointwise [k0_pay24]; rw [I.pay22, I.pay20]; rfl
/-- The normalised rows with gain and bias. -/
theorem pay25 (i d) : k0_pay25 x2 x3 (k0_pay14 x0 x1) (k0_pay16 x0 x1) (ix2 i d) = D.vln (256 * p + i) d := by
  pointwise [k0_pay25]; rw [I.pay24, I.g, I.b]; rfl

/-- The cotangent of the normalised rows at this point, and of the gate. -/
theorem pay170 (Q : FVec Ideal S256x1024 .f32) (hQ : ∀ i d, Q (ix2 i d) = D.q (256 * p + i) d) (i d) :
    k0_pay170 x2 Q (ix2 i d) = D.q (256 * p + i) d * D.g d := by
  pointwise [k0_pay170, k0_pay167]; rw [hQ, I.g]

/-- The row sums of the deviations times the normalised rows' cotangent. -/
theorem pay171 (Q : FVec Ideal S256x1024 .f32) (hQ : ∀ i d, Q (ix2 i d) = D.q (256 * p + i) d) (i) :
    k0_pay171 x2 (k0_pay20 (k0_pay14 x0 x1) (k0_pay16 x0 x1)) Q (ix1 i)
      = ∑ j : Fin 1024, dev (D.a (256 * p + i)) j * (D.q (256 * p + i) j * D.g j) := by
  pointwise [k0_pay171]; simp only [I.pay20, I.pay170 Q hQ]

/-- The value half's cotangent, behind a gate half of zeros. -/
theorem pay172 (Q : FVec Ideal S256x1024 .f32) (hQ : ∀ i d, Q (ix2 i d) = D.q (256 * p + i) d) (i) (c : Fin 2048) :
    k0_pay172 (k0_pay14 x0 x1) (k0_pay15 x0 x1) (k0_pay18 (k0_pay16 x0 x1) (k0_pay17 x0 x1)) (k0_pay19 (k0_pay16 x0 x1))
        (k0_pay20 (k0_pay14 x0 x1) (k0_pay16 x0 x1)) (k0_pay22 (k0_pay14 x0 x1) (k0_pay16 x0 x1))
        (k0_pay23 (k0_pay14 x0 x1) (k0_pay16 x0 x1)) (k0_pay170 x2 Q)
        (k0_pay171 x2 (k0_pay20 (k0_pay14 x0 x1) (k0_pay16 x0 x1)) Q) (ix2 i c)
      = if c.val < 1024 then 0 else dactSteps (D.daSteps (256 * p + i) (c - 1024)) (D.pv (256 * p + i) (c - 1024)) := by
  pointwise [k0_pay172]
  split
  · rfl
  · simp only [Finset.univ_unique, Finset.sum_singleton]
    simp only [I.pay14, I.pay15, I.pay18, I.pay19, I.pay20, I.pay170 Q hQ, I.pay171 Q hQ]
    simp only [show ∀ x : Fin 1, x = 0 from fun x => Subsingleton.elim _ _, I.pay22, I.pay23]
    rfl

/-- The cotangent of the projection's columns. -/
theorem pay176 (Q U : FVec Ideal S256x1024 .f32) (hQ : ∀ i d, Q (ix2 i d) = D.q (256 * p + i) d)
    (hU : ∀ i d, U (ix2 i d) = D.du (256 * p + i) d) (i) (c : Fin 2048) :
    k0_pay176 (k0_pay8 x0 x1) (k0_pay9 x0 x1)
      (k0_pay172 (k0_pay14 x0 x1) (k0_pay15 x0 x1) (k0_pay18 (k0_pay16 x0 x1) (k0_pay17 x0 x1)) (k0_pay19 (k0_pay16 x0 x1))
        (k0_pay20 (k0_pay14 x0 x1) (k0_pay16 x0 x1)) (k0_pay22 (k0_pay14 x0 x1) (k0_pay16 x0 x1))
        (k0_pay23 (k0_pay14 x0 x1) (k0_pay16 x0 x1)) (k0_pay170 x2 Q)
        (k0_pay171 x2 (k0_pay20 (k0_pay14 x0 x1) (k0_pay16 x0 x1)) Q))
      (k0_pay173 (k0_pay12 x0 x1) U) (k0_pay174 (k0_pay8 x0 x1) (k0_pay11 x0 x1) U) k0_pay175 (ix2 i c)
      = D.duvSteps (256 * p + i) c := by
  unfold k0_pay176
  pointwise
  rw [I.pay172 Q hQ]
  unfold Data.duvSteps
  split
  · pointwise [k0_pay173, k0_pay174, k0_pay175]
    simp only [I.pay8, I.pay9, I.pay11, I.pay12, hU]
    rfl
  · rw [add_zero]

/-- The cotangent of the projection's columns as it is stored. -/
theorem pay177 (Q U : FVec Ideal S256x1024 .f32) (hQ : ∀ i d, Q (ix2 i d) = D.q (256 * p + i) d)
    (hU : ∀ i d, U (ix2 i d) = D.du (256 * p + i) d) (i) (c : Fin 2048) :
    k0_pay177 (k0_pay8 x0 x1) (k0_pay9 x0 x1)
      (k0_pay172 (k0_pay14 x0 x1) (k0_pay15 x0 x1) (k0_pay18 (k0_pay16 x0 x1) (k0_pay17 x0 x1)) (k0_pay19 (k0_pay16 x0 x1))
        (k0_pay20 (k0_pay14 x0 x1) (k0_pay16 x0 x1)) (k0_pay22 (k0_pay14 x0 x1) (k0_pay16 x0 x1))
        (k0_pay23 (k0_pay14 x0 x1) (k0_pay16 x0 x1)) (k0_pay170 x2 Q)
        (k0_pay171 x2 (k0_pay20 (k0_pay14 x0 x1) (k0_pay16 x0 x1)) Q))
      (k0_pay173 (k0_pay12 x0 x1) U) (k0_pay174 (k0_pay8 x0 x1) (k0_pay11 x0 x1) U) k0_pay175 (ix2 i c)
      = D.duvSteps (256 * p + i) c := I.pay176 Q U hQ hU i c

/-- The column sums of the projection's cotangent are added to the sums so far. -/
theorem pay178 (Q U : FVec Ideal S256x1024 .f32) (X : Vec Ideal S1x2048 .f32) (hQ : ∀ i d, Q (ix2 i d) = D.q (256 * p + i) d)
    (hU : ∀ i d, U (ix2 i d) = D.du (256 * p + i) d) (c : Fin 2048) :
    k0_pay178 (k0_pay8 x0 x1) (k0_pay9 x0 x1)
      (k0_pay172 (k0_pay14 x0 x1) (k0_pay15 x0 x1) (k0_pay18 (k0_pay16 x0 x1) (k0_pay17 x0 x1)) (k0_pay19 (k0_pay16 x0 x1))
        (k0_pay20 (k0_pay14 x0 x1) (k0_pay16 x0 x1)) (k0_pay22 (k0_pay14 x0 x1) (k0_pay16 x0 x1))
        (k0_pay23 (k0_pay14 x0 x1) (k0_pay16 x0 x1)) (k0_pay170 x2 Q)
        (k0_pay171 x2 (k0_pay20 (k0_pay14 x0 x1) (k0_pay16 x0 x1)) Q))
      (k0_pay173 (k0_pay12 x0 x1) U) (k0_pay174 (k0_pay8 x0 x1) (k0_pay11 x0 x1) U) k0_pay175 X (ix2 0 c)
      = X (ix2 0 c) + ∑ i : Fin 256, D.duvSteps (256 * p + i) c := by
  unfold k0_pay178
  pointwise
  refine congrArg _ (Finset.sum_congr rfl fun i _ => ?_)
  exact I.pay176 Q U hQ hU i c

/-- The column sums of the gain's cotangent are added to the sums so far. -/
theorem pay179 (Q : FVec Ideal S256x1024 .f32) (X : Vec Ideal S1x1024 .f32) (hQ : ∀ i d, Q (ix2 i d) = D.q (256 * p + i) d) (d) :
    k0_pay179 (k0_pay169 (k0_pay24 (k0_pay14 x0 x1) (k0_pay16 x0 x1)) Q) X (ix2 0 d)
      = X (ix2 0 d) + ∑ i : Fin 256, nrm (D.a (256 * p + i)) d * D.q (256 * p + i) d := by
  pointwise [k0_pay179, k0_pay169, k0_pay167]
  simp only [I.pay24, hQ]

omit I in
/-- The column sums of the bias's cotangent are added to the sums so far. -/
theorem _root_.Cert.KernelIdeal.Gen.pay1_apply (Q : FVec Ideal S256x1024 .f32) (X : Vec Ideal S1x1024 .f32)
    (hQ : ∀ i d, Q (ix2 i d) = D.q (256 * p + i) d) (d) :
    k0_pay1 (k0_pay168 Q) X (ix2 0 d) = X (ix2 0 d) + ∑ i : Fin 256, D.q (256 * p + i) d := by
  pointwise [k0_pay1, k0_pay168]
  simp only [hQ]

end Inputs

end Cert.KernelIdeal.Gen

end
-- ==== Proof.Outs.lean ====
/-
  What the kernel leaves in its six output blocks, at every point of its grid and then after the last one: the block of the
  projection's cotangent at each point, and the five sums over the points.
-/
module

public import proofs.«01_k».proof.Proof.Tiles
public import proofs.«01_k».proof.Proof.Block

@[expose] public section

set_option maxHeartbeats 2000000

noncomputable section

namespace Cert.KernelIdeal.Gen

open Idealize.ShloMosaic Idealize.ShloMosaic.TcCoe Cert.Gate

variable (m : (ℓ : Loc nD τ sig) → Buf (Elt Ideal) ℓ)

/-- At every point of the grid the eight blocks read are the point's rows of the data, and the data's small arrays. -/
structure Feeds (D : Data) (c : Dev nD) : Prop where
  /-- the projection's two halves, the projection's bias, the norm's gain and bias -/
  inp : ∀ t : Fin cfg0.N, Inputs D t.val (iblk m c 0 t) (iblk m c 1 t) (iblk m c 2 t) (iblk m c 3 t)
  /-- the causal matrices -/
  w : ∀ (t : Fin cfg0.N) h i s, (iblk m c 4 t : Vec Ideal S8x128x128 .bf16) (ix3 h i s) = D.w h i s
  /-- the causal matrices transposed -/
  wt : ∀ (t : Fin cfg0.N) h i s, (iblk m c 5 t : Vec Ideal S8x128x128 .bf16) (ix3 h i s) = D.w h s i
  /-- the mixing's bias, repeated along a head's columns -/
  bs : ∀ (t : Fin cfg0.N) i d, (iblk m c 6 t : Vec Ideal S128x1024 .f32) (ix2 i d) = D.bs (d.val / 128) i
  /-- the cotangent of the output -/
  dy : ∀ (t : Fin cfg0.N) i d, (iblk m c 7 t : Vec Ideal S256x1024 .f32) (ix2 i d) = D.dy (256 * t.val + i) d

variable {m} {D : Data} {c : Dev nD}

/-- The rows of one point, as the tile lemmas take them. -/
theorem Feeds.rows (H : Feeds m D c) (t : Fin cfg0.N) :
    Rows D t.val (k0_pay13 (iblk m c 0 t) (iblk m c 1 t))
      (k0_pay25 (iblk m c 2 t) (iblk m c 3 t) (k0_pay14 (iblk m c 0 t) (iblk m c 1 t)) (k0_pay16 (iblk m c 0 t) (iblk m c 1 t)))
      (iblk m c 4 t) (iblk m c 5 t) (iblk m c 6 t) (iblk m c 7 t) :=
  ⟨(H.inp t).pay13, (H.inp t).pay25, H.w t, H.wt t, H.bs t, H.dy t⟩

/-- The block of the projection's cotangent, at every point. -/
theorem out8 (H : Feeds m D c) (t : Fin cfg0.N) (i : Fin 256) (d : Fin 2048) :
    (outsAt0 m c t.val t.isLt).1 (ix2 i d) = D.duvSteps (256 * t.val + i) d := by
  by_cases h0 : t.val % 8 = 0
  · rw [outsAt0_A m c t h0]; frame_out
    refine (H.inp t).pay177 _ _ (fun i d => ?_) (fun i d => ?_) i d
    · exact congrFun (scratch_q (H.rows t)) (ix2 i d)
    · exact congrFun (scratch_du (H.rows t)) (ix2 i d)
  · rw [outsAt0_B m c t h0]; frame_out
    refine (H.inp t).pay177 _ _ (fun i d => ?_) (fun i d => ?_) i d
    · exact congrFun (scratch_q (H.rows t)) (ix2 i d)
    · exact congrFun (scratch_du (H.rows t)) (ix2 i d)

/-! ## The column sums of the projection's cotangent -/

/-- The first point starts the sum. -/
theorem out9_A (H : Feeds m D c) (t : Fin cfg0.N) (h0 : t.val % 8 = 0) (d : Fin 2048) :
    (outsAt0 m c t.val t.isLt).2.1 (ix2 0 d) = 0 + ∑ i : Fin 256, D.duvSteps (256 * t.val + i) d := by
  rw [outsAt0_A m c t h0]; frame_out
  refine ((H.inp t).pay178 _ _ _ (fun i d => ?_) (fun i d => ?_) d).trans ?_
  · exact congrFun (scratch_q (H.rows t)) (ix2 i d)
  · exact congrFun (scratch_du (H.rows t)) (ix2 i d)
  · pointwise [k0_pay2]

/-- Every later point adds its rows. -/
theorem out9_B (H : Feeds m D c) (t : Fin cfg0.N) (h0 : ¬t.val % 8 = 0) (d : Fin 2048) :
    (outsAt0 m c t.val t.isLt).2.1 (ix2 0 d)
      = (outsAt0 m c (t.val - 1) (Nat.lt_of_le_of_lt (Nat.sub_le _ _) t.isLt)).2.1 (ix2 0 d)
        + ∑ i : Fin 256, D.duvSteps (256 * t.val + i) d := by
  rw [outsAt0_B m c t h0]; frame_out
  refine (H.inp t).pay178 _ _ _ (fun i d => ?_) (fun i d => ?_) d
  · exact congrFun (scratch_q (H.rows t)) (ix2 i d)
  · exact congrFun (scratch_du (H.rows t)) (ix2 i d)

/-- After the last point. -/
theorem last9 (H : Feeds m D c) (d : Fin 2048) :
    (outsAt0 m c t0_7.val t0_7.isLt).2.1 (ix2 0 d)
      = ∑ p : Fin cfg0.N, ∑ i : Fin 256, D.duvSteps (256 * p.val + i) d := by
  refine (Pipeline.eq_sum_fin_of_reset_step_apply_last
    (fun n h => fun d : Fin 2048 => (outsAt0 m c n h).2.1 (ix2 0 d)) 8 (fun _ => (0 : EReal))
    (fun p d => ∑ i : Fin 256, D.duvSteps (256 * p.val + i) d)
    (fun t h i => out9_A H t h i) (fun t h i => out9_B H t h i) (le_of_eq N_0) t0_7 rfl d).trans (zero_add _)

/-! ## The cotangent of the norm's gain -/

/-- The first point starts the sum. -/
theorem out10_A (H : Feeds m D c) (t : Fin cfg0.N) (h0 : t.val % 8 = 0) (d : Fin 1024) :
    (outsAt0 m c t.val t.isLt).2.2.1 (ix2 0 d)
      = 0 + ∑ i : Fin 256, nrm (D.a (256 * t.val + i)) d * D.q (256 * t.val + i) d := by
  rw [outsAt0_A m c t h0]; frame_out
  refine ((H.inp t).pay179 _ _ (fun i d => ?_) d).trans ?_
  · exact congrFun (scratch_q (H.rows t)) (ix2 i d)
  · pointwise [k0_pay3]

/-- Every later point adds its rows. -/
theorem out10_B (H : Feeds m D c) (t : Fin cfg0.N) (h0 : ¬t.val % 8 = 0) (d : Fin 1024) :
    (outsAt0 m c t.val t.isLt).2.2.1 (ix2 0 d)
      = (outsAt0 m c (t.val - 1) (Nat.lt_of_le_of_lt (Nat.sub_le _ _) t.isLt)).2.2.1 (ix2 0 d)
        + ∑ i : Fin 256, nrm (D.a (256 * t.val + i)) d * D.q (256 * t.val + i) d := by
  rw [outsAt0_B m c t h0]; frame_out
  refine (H.inp t).pay179 _ _ (fun i d => ?_) d
  exact congrFun (scratch_q (H.rows t)) (ix2 i d)

/-- After the last point. -/
theorem last10 (H : Feeds m D c) (d : Fin 1024) :
    (outsAt0 m c t0_7.val t0_7.isLt).2.2.1 (ix2 0 d)
      = ∑ p : Fin cfg0.N, ∑ i : Fin 256, nrm (D.a (256 * p.val + i)) d * D.q (256 * p.val + i) d := by
  refine (Pipeline.eq_sum_fin_of_reset_step_apply_last
    (fun n h => fun d : Fin 1024 => (outsAt0 m c n h).2.2.1 (ix2 0 d)) 8 (fun _ => (0 : EReal))
    (fun p d => ∑ i : Fin 256, nrm (D.a (256 * p.val + i)) d * D.q (256 * p.val + i) d)
    (fun t h i => out10_A H t h i) (fun t h i => out10_B H t h i) (le_of_eq N_0) t0_7 rfl d).trans (zero_add _)

/-! ## The cotangent of the norm's bias -/

/-- The first point starts the sum. -/
theorem out11_A (H : Feeds m D c) (t : Fin cfg0.N) (h0 : t.val % 8 = 0) (d : Fin 1024) :
    (outsAt0 m c t.val t.isLt).2.2.2.1 (ix2 0 d) = 0 + ∑ i : Fin 256, D.q (256 * t.val + i) d := by
  rw [outsAt0_A m c t h0]; frame_out
  refine (pay1_apply (D := D) (p := t.val) _ _ (fun i d => ?_) d).trans ?_
  · exact congrFun (scratch_q (H.rows t)) (ix2 i d)
  · pointwise [k0_pay4]

/-- Every later point adds its rows. -/
theorem out11_B (H : Feeds m D c) (t : Fin cfg0.N) (h0 : ¬t.val % 8 = 0) (d : Fin 1024) :
    (outsAt0 m c t.val t.isLt).2.2.2.1 (ix2 0 d)
      = (outsAt0 m c (t.val - 1) (Nat.lt_of_le_of_lt (Nat.sub_le _ _) t.isLt)).2.2.2.1 (ix2 0 d)
        + ∑ i : Fin 256, D.q (256 * t.val + i) d := by
  rw [outsAt0_B m c t h0]; frame_out
  refine pay1_apply (D := D) (p := t.val) _ _ (fun i d => ?_) d
  exact congrFun (scratch_q (H.rows t)) (ix2 i d)

/-- After the last point. -/
theorem last11 (H : Feeds m D c) (d : Fin 1024) :
    (outsAt0 m c t0_7.val t0_7.isLt).2.2.2.1 (ix2 0 d)
      = ∑ p : Fin cfg0.N, ∑ i : Fin 256, D.q (256 * p.val + i) d := by
  refine (Pipeline.eq_sum_fin_of_reset_step_apply_last
    (fun n h => fun d : Fin 1024 => (outsAt0 m c n h).2.2.2.1 (ix2 0 d)) 8 (fun _ => (0 : EReal))
    (fun p d => ∑ i : Fin 256, D.q (256 * p.val + i) d)
    (fun t h i => out11_A H t h i) (fun t h i => out11_B H t h i) (le_of_eq N_0) t0_7 rfl d).trans (zero_add _)

/-! ## The cotangent of the causal matrices -/

/-- The first point starts the sum. -/
theorem out12_A (H : Feeds m D c) (t : Fin cfg0.N) (h0 : t.val % 8 = 0) (h : Fin 8) (i s : Fin 128) :
    (outsAt0 m c t.val t.isLt).2.2.2.2.1 (ix3 h i s)
      = 0 + (ind i s * D.dwsAt (2 * t.val) h i s + ind i s * D.dwsAt (2 * t.val + 1) h i s) := by
  rw [outsAt0_A m c t h0]; frame_open
  simp (disch := decide) only [↓ View.readCov_skip, ↓ View.readCov_cons_toLoadRect, ↓ View.readCov_fill]
  frame_out
  refine (congrFun (block_dws _ _ (H.rows t)) _).trans ?_
  rw [← add_assoc]
  exact congrArg (fun z : EReal => z + ind i s * D.dwsAt (2 * t.val) h i s + ind i s * D.dwsAt (2 * t.val + 1) h i s)
    (by pointwise [k0_pay5])

/-- Every later point adds its two chunks. -/
theorem out12_B (H : Feeds m D c) (t : Fin cfg0.N) (h0 : ¬t.val % 8 = 0) (h : Fin 8) (i s : Fin 128) :
    (outsAt0 m c t.val t.isLt).2.2.2.2.1 (ix3 h i s)
      = (outsAt0 m c (t.val - 1) (Nat.lt_of_le_of_lt (Nat.sub_le _ _) t.isLt)).2.2.2.2.1 (ix3 h i s)
        + (ind i s * D.dwsAt (2 * t.val) h i s + ind i s * D.dwsAt (2 * t.val + 1) h i s) := by
  rw [outsAt0_B m c t h0]; frame_open
  simp (disch := decide) only [↓ View.readCov_skip, ↓ View.readCov_cons_toLoadRect, ↓ View.readCov_fill]
  frame_out
  refine (congrFun (block_dws _ _ (H.rows t)) _).trans ?_
  rw [← add_assoc]
  rfl

/-- After the last point. -/
theorem last12 (H : Feeds m D c) (h : Fin 8) (i s : Fin 128) :
    (outsAt0 m c t0_7.val t0_7.isLt).2.2.2.2.1 (ix3 h i s)
      = ∑ p : Fin cfg0.N, (ind i s * D.dwsAt (2 * p.val) h i s + ind i s * D.dwsAt (2 * p.val + 1) h i s) := by
  refine (Pipeline.eq_sum_fin_of_reset_step_apply_last
    (fun n hn => fun k : Fin 8 × Fin 128 × Fin 128 => (outsAt0 m c n hn).2.2.2.2.1 (ix3 k.1 k.2.1 k.2.2)) 8 (fun _ => (0 : EReal))
    (fun p k => ind k.2.1 k.2.2 * D.dwsAt (2 * p.val) k.1 k.2.1 k.2.2 + ind k.2.1 k.2.2 * D.dwsAt (2 * p.val + 1) k.1 k.2.1 k.2.2)
    (fun t hh k => out12_A H t hh k.1 k.2.1 k.2.2) (fun t hh k => out12_B H t hh k.1 k.2.1 k.2.2)
    (le_of_eq N_0) t0_7 rfl (h, i, s)).trans (zero_add _)

/-! ## The cotangent of the mixing's bias -/

/-- The first point starts the sum. -/
theorem out13_A (H : Feeds m D c) (t : Fin cfg0.N) (h0 : t.val % 8 = 0) (i : Fin 128) (d : Fin 1024) :
    (outsAt0 m c t.val t.isLt).2.2.2.2.2 (ix2 i d)
      = 0 + (D.dbsAt (2 * t.val) i (d.val / 128) + D.dbsAt (2 * t.val + 1) i (d.val / 128)) := by
  rw [outsAt0_A m c t h0]; frame_open
  simp (disch := decide) only [↓ View.readCov_skip, ↓ View.readCov_cons_toLoadRect, ↓ View.readCov_fill]
  frame_out
  refine (congrFun (block_dbs _ _ (H.rows t)) _).trans ?_
  rw [← add_assoc]
  exact congrArg (fun z : EReal => z + D.dbsAt (2 * t.val) i (d.val / 128) + D.dbsAt (2 * t.val + 1) i (d.val / 128))
    (by pointwise [k0_pay6])

/-- Every later point adds its two chunks. -/
theorem out13_B (H : Feeds m D c) (t : Fin cfg0.N) (h0 : ¬t.val % 8 = 0) (i : Fin 128) (d : Fin 1024) :
    (outsAt0 m c t.val t.isLt).2.2.2.2.2 (ix2 i d)
      = (outsAt0 m c (t.val - 1) (Nat.lt_of_le_of_lt (Nat.sub_le _ _) t.isLt)).2.2.2.2.2 (ix2 i d)
        + (D.dbsAt (2 * t.val) i (d.val / 128) + D.dbsAt (2 * t.val + 1) i (d.val / 128)) := by
  rw [outsAt0_B m c t h0]; frame_open
  simp (disch := decide) only [↓ View.readCov_skip, ↓ View.readCov_cons_toLoadRect, ↓ View.readCov_fill]
  frame_out
  refine (congrFun (block_dbs _ _ (H.rows t)) _).trans ?_
  rw [← add_assoc]
  rfl

/-- After the last point. -/
theorem last13 (H : Feeds m D c) (i : Fin 128) (d : Fin 1024) :
    (outsAt0 m c t0_7.val t0_7.isLt).2.2.2.2.2 (ix2 i d)
      = ∑ p : Fin cfg0.N, (D.dbsAt (2 * p.val) i (d.val / 128) + D.dbsAt (2 * p.val + 1) i (d.val / 128)) := by
  refine (Pipeline.eq_sum_fin_of_reset_step_apply_last
    (fun n hn => fun k : Fin 128 × Fin 1024 => (outsAt0 m c n hn).2.2.2.2.2 (ix2 k.1 k.2)) 8 (fun _ => (0 : EReal))
    (fun p k => D.dbsAt (2 * p.val) k.1 (k.2.val / 128) + D.dbsAt (2 * p.val + 1) k.1 (k.2.val / 128))
    (fun t hh k => out13_A H t hh k.1 k.2) (fun t hh k => out13_B H t hh k.1 k.2)
    (le_of_eq N_0) t0_7 rfl (i, d)).trans (zero_add _)

end Cert.KernelIdeal.Gen

end
-- ==== Proof.Entry.lean ====
/-
  The kernel's eight input blocks, from the seven argument arrays: the tiles of the projection, of its bias and of the
  output's cotangent, and the masked matrices, their transposes and the repeated bias that are computed before the launch.
-/
module

public import proofs.«01_k».proof.Proof.Args
public import proofs.«01_k».proof.Proof.Outs

@[expose] public section

set_option maxHeartbeats 1000000

noncomputable section

namespace Cert.KernelIdeal.Gen

open Idealize.ShloMosaic Idealize.ShloMosaic.TcCoe Cert.Gate

variable (m : (ℓ : Loc nD τ sig) → Buf (Elt Ideal) ℓ) (c : Dev nD)

/-- The data of one device's argument arrays. -/
def dataAt : Data :=
  dataOf (fun i j => (m ((c : Thread nD τ).loc main_arg0) : Vec Ideal S2048x6144 .f32) (ix2 i j))
    (fun i j => (m ((c : Thread nD τ).loc main_arg1) : Vec Ideal S1x6144 .f32) (ix2 i j))
    (fun i j => (m ((c : Thread nD τ).loc main_arg2) : Vec Ideal S1x1024 .f32) (ix2 i j))
    (fun i j => (m ((c : Thread nD τ).loc main_arg3) : Vec Ideal S1x1024 .f32) (ix2 i j))
    (fun h i j => (m ((c : Thread nD τ).loc main_arg4) : Vec Ideal S1x8x128x128 .f32) (ix4 0 h i j))
    (fun h i => (m ((c : Thread nD τ).loc main_arg5) : Vec Ideal S1x8x128 .f32) (ix3 0 h i))
    (fun i j => (m ((c : Thread nD τ).loc main_arg6) : Vec Ideal S2048x1024 .f32) (ix2 i j))

/-- Where the windows that move along the rows stand at each point. -/
theorem idx : ∀ t : Fin cfg0.N, win0_0.index t = ![t.val, 0] ∧ win0_1.index t = ![0, 0] ∧ win0_2.index t = ![0, 0] ∧ win0_3.index t = ![0, 0]
    ∧ win0_4.index t = ![0, 0, 0] ∧ win0_5.index t = ![0, 0, 0] ∧ win0_6.index t = ![0, 0] ∧ win0_7.index t = ![t.val, 0]
    ∧ win0_8.index t = ![t.val, 0] :=
  (by decide +kernel : ∀ t : Fin grid0.N, _)

/-- The host's causal mask selects an array's entry where the token read is not after the token written, zero elsewhere. -/
theorem masked (X : FVec Ideal S8x128x128 .f32) (h : Fin 8) (i s : Fin 128) :
    select (broadcastInDim S8x128x128 ![0, 1, 2] bcast_S1x128x128_S8x128x128_0_1_2
        (broadcastInDim S1x128x128 ![1, 2] bcast_S128x128_S1x128x128_1_2
          (select (cmpi .sge (addi (iotaInDim S128x128 32 0) (broadcastInDim S128x128 ![] bcast_S_S128x128 (constantI S_ 32 0#32)))
              (iotaInDim S128x128 32 1))
            (broadcastInDim S128x128 ![] bcast_S_S128x128 (constantI S_ 1 1#1))
            (broadcastInDim S128x128 ![] bcast_S_S128x128 (constantI S_ 1 0#1)))))
      X (broadcastInDim S8x128x128 ![] bcast_S_S8x128x128 (constant (F := Ideal) S_ .f32 0#32 : FVec Ideal S_ .f32)) (ix3 h i s)
      = if s ≤ i then X (ix3 h i s) else (0 : EReal) := by
  pointwise
  exact causal_select i s _

/-- The masked matrices, computed before the launch. -/
theorem V_main_v5 (h : Fin 8) (i s : Fin 128) :
    (V m c main_v5 : Vec Ideal S8x128x128 .bf16) (ix3 h i s)
      = if s ≤ i then (m ((c : Thread nD τ).loc main_arg4) : Vec Ideal S1x8x128x128 .f32) (ix4 0 h i s) else (0 : EReal) := by
  unfold V
  simp only [hostOps0, hostOps0_1, hostOps0_2, hostOps0_3, hostOps0_4, List.flatten_cons, List.flatten_nil, List.append_nil, List.cons_append,
      List.nil_append]
  entry_read
  pointwise
  exact masked _ h i s

/-- Their transposes. -/
theorem V_main_v7 (h : Fin 8) (i s : Fin 128) :
    (V m c main_v7 : Vec Ideal S8x128x128 .bf16) (ix3 h i s)
      = if i ≤ s then (m ((c : Thread nD τ).loc main_arg4) : Vec Ideal S1x8x128x128 .f32) (ix4 0 h s i) else (0 : EReal) := by
  unfold V
  simp only [hostOps0, hostOps0_1, hostOps0_2, hostOps0_3, hostOps0_4, List.flatten_cons, List.flatten_nil, List.append_nil, List.cons_append,
      List.nil_append]
  entry_read
  pointwise
  exact masked _ h s i

/-- The mixing's bias repeated along a head's columns. -/
theorem V_main_v11 (i : Fin 128) (d : Fin 1024) :
    (V m c main_v11 : Vec Ideal S128x1024 .f32) (ix2 i d)
      = (m ((c : Thread nD τ).loc main_arg5) : Vec Ideal S1x8x128 .f32) (ix3 0 ⟨d / 128, by omega⟩ i) := by
  unfold V
  simp only [hostOps0, hostOps0_1, hostOps0_2, hostOps0_3, hostOps0_4, List.flatten_cons, List.flatten_nil, List.append_nil, List.cons_append,
      List.nil_append]
  entry_read
  pointwise

/-! ## The tiles -/

/-- The projection's tile. -/
theorem tile0 (t : Fin cfg0.N) (i : Fin 256) (d : Fin 2048) (hr : 256 * t.val + i.val < 2048) :
    (iblk m c 0 t : Vec Ideal S256x2048 .f32) (ix2 i d)
      = (m ((c : Thread nD τ).loc main_arg0) : Vec Ideal S2048x6144 .f32) (ix2 ⟨256 * t.val + i.val, hr⟩ ⟨d, by omega⟩) := by
  rw [← V_main_arg0 m c]
  blk_ext [iblk, idx t]

/-- The tile of the projection's bias. -/
theorem tile1 (t : Fin cfg0.N) (d : Fin 2048) :
    (iblk m c 1 t : Vec Ideal S1x2048 .f32) (ix2 0 d)
      = (m ((c : Thread nD τ).loc main_arg1) : Vec Ideal S1x6144 .f32) (ix2 0 ⟨d, by omega⟩) := by
  rw [← V_main_arg1 m c]
  blk_ext [iblk, idx t]

/-- The gain's tile. -/
theorem tile2 (t : Fin cfg0.N) (d : Fin 1024) :
    (iblk m c 2 t : Vec Ideal S1x1024 .f32) (ix2 0 d) = (m ((c : Thread nD τ).loc main_arg2) : Vec Ideal S1x1024 .f32) (ix2 0 d) := by
  rw [← V_main_arg2 m c]
  blk_ext [iblk, idx t]

/-- The tile of the norm's bias. -/
theorem tile3 (t : Fin cfg0.N) (d : Fin 1024) :
    (iblk m c 3 t : Vec Ideal S1x1024 .f32) (ix2 0 d) = (m ((c : Thread nD τ).loc main_arg3) : Vec Ideal S1x1024 .f32) (ix2 0 d) := by
  rw [← V_main_arg3 m c]
  blk_ext [iblk, idx t]

/-- The tile of the masked matrices. -/
theorem tile4 (t : Fin cfg0.N) (h : Fin 8) (i s : Fin 128) :
    (iblk m c 4 t : Vec Ideal S8x128x128 .bf16) (ix3 h i s) = (V m c main_v5 : Vec Ideal S8x128x128 .bf16) (ix3 h i s) := by
  blk_ext [iblk, idx t]

/-- The tile of their transposes. -/
theorem tile5 (t : Fin cfg0.N) (h : Fin 8) (i s : Fin 128) :
    (iblk m c 5 t : Vec Ideal S8x128x128 .bf16) (ix3 h i s) = (V m c main_v7 : Vec Ideal S8x128x128 .bf16) (ix3 h i s) := by
  blk_ext [iblk, idx t]

/-- The tile of the repeated bias. -/
theorem tile6 (t : Fin cfg0.N) (i : Fin 128) (d : Fin 1024) :
    (iblk m c 6 t : Vec Ideal S128x1024 .f32) (ix2 i d) = (V m c main_v11 : Vec Ideal S128x1024 .f32) (ix2 i d) := by
  blk_ext [iblk, idx t]

/-- The tile of the output's cotangent. -/
theorem tile7 (t : Fin cfg0.N) (i : Fin 256) (d : Fin 1024) (hr : 256 * t.val + i.val < 2048) :
    (iblk m c 7 t : Vec Ideal S256x1024 .f32) (ix2 i d)
      = (m ((c : Thread nD τ).loc main_arg6) : Vec Ideal S2048x1024 .f32) (ix2 ⟨256 * t.val + i.val, hr⟩ d) := by
  rw [← V_main_arg6 m c]
  blk_ext [iblk, idx t]

/-- Every point's blocks are the rows of the arrays' data. -/
theorem feeds : Feeds m (dataAt m c) c := by
  have hN : ∀ t : Fin cfg0.N, t.val < 8 := fun t => lt_of_lt_of_eq t.isLt N_0
  refine ⟨fun t => ⟨fun i d => ?_, fun i d => ?_, fun d => ?_, fun d => ?_⟩, fun t h i s => ?_, fun t h i s => ?_, fun t i d => ?_,
    fun t i d => ?_⟩
  · have := hN t
    rw [tile0 m c t i _ (by omega), tile1 m c t]
    unfold dataAt dataOf
    dsimp only
    rw [if_pos d.isLt, at2_eq _ (by omega : 256 * t.val + i.val < 2048) (by omega : d.val < 6144), at2_eq _ (by omega : 0 < 1) (by omega : d.val < 6144)]
    rfl
  · have := hN t
    rw [tile0 m c t i _ (by omega), tile1 m c t]
    unfold dataAt dataOf
    dsimp only
    rw [at2_eq _ (by omega : 256 * t.val + i.val < 2048) (by omega : 1024 + d.val < 6144), at2_eq _ (by omega : 0 < 1) (by omega : 1024 + d.val < 6144)]
    rfl
  · rw [tile2]
    unfold dataAt dataOf
    dsimp only
    rw [at2_eq _ (by omega : 0 < 1) d.isLt]
    rfl
  · rw [tile3]
    unfold dataAt dataOf
    dsimp only
    rw [at2_eq _ (by omega : 0 < 1) d.isLt]
    rfl
  · rw [tile4, V_main_v5]
    unfold dataAt
    rw [dataOf_w]
  · rw [tile5, V_main_v7]
    unfold dataAt
    rw [dataOf_w]
  · rw [tile6, V_main_v11]
    unfold dataAt dataOf
    dsimp only
    rw [at2_eq _ (by omega : d.val / 128 < 8) i.isLt]
  · have := hN t
    rw [tile7 m c t i d (by omega)]
    unfold dataAt dataOf
    dsimp only
    rw [at2_eq _ (by omega : 256 * t.val + i.val < 2048) d.isLt]

end Cert.KernelIdeal.Gen

end
-- ==== Proof.Arrays.lean ====
/-
  The kernel's six result arrays after the run, as the pass's results.
-/
module

public import proofs.«01_k».proof.Proof.Entry

@[expose] public section

set_option maxHeartbeats 1000000

noncomputable section

namespace Cert.Gate

open Idealize.ShloMosaic

/-! ## Sums over the grid -/

/-- Eight blocks of 256 rows are 2048 rows. -/
theorem sum_rows (f : ℕ → EReal) : ∑ p : Fin 8, ∑ i : Fin 256, f (256 * p.val + i.val) = ∑ r : Fin 2048, f r := by
  rw [← Fin.sum_mul_add_fin 8 256 (fun r : Fin 2048 => f r)]
  exact Finset.sum_congr rfl fun p _ => Finset.sum_congr rfl fun i _ => by rw [mul_comm]

/-- Eight pairs of chunks are 16 chunks. -/
theorem sum_chunks (f : ℕ → EReal) : ∑ p : Fin 8, (f (2 * p.val) + f (2 * p.val + 1)) = ∑ c : Fin 16, f c := by
  rw [← Fin.sum_mul_add_fin 8 2 (fun r : Fin 16 => f r)]
  exact Finset.sum_congr rfl fun p _ => by
    rw [Fin.sum_univ_two]
    show _ = f (p.val * 2 + 0) + f (p.val * 2 + 1)
    rw [mul_comm p.val, add_zero]

end Cert.Gate

namespace Cert.KernelIdeal.Gen

open Idealize.ShloMosaic Idealize.ShloMosaic.TcCoe Cert.Gate Cert.KernelIdeal.Value

variable (m : (ℓ : Loc nD τ sig) → Buf (Elt Ideal) ℓ) (c : Dev nD)

/-- The projection's cotangent. -/
theorem arr8 (hT : (dataAt m c).Tame) : (dats m 0 c).arrAt 8 cfg0.N
    = (fun y => (dataAt m c).duv (y 0).val (y 1).val : Vec Ideal S2048x2048 .bf16) := by
  refine (dats m 0 c).arrAt_eq_of_covers 8 _ (by decide +kernel) fun t hf y => ?_
  blk_simp
  rw [after0_8]
  obtain ⟨i, d, rfl⟩ := exists_ix2 y
  refine (out8 (feeds m c) t i d).trans ?_
  rw [Data.duvSteps_eq _ hT]
  blk_simp [idx t]
  congr 1 <;> (try dsimp) <;> omega

/-- Its column sums. -/
theorem arr9 (hT : (dataAt m c).Tame) : (dats m 0 c).arrAt 9 cfg0.N
    = (fun y => (dataAt m c).sumDuv (y 1).val : Vec Ideal S1x2048 .f32) := by
  refine (dats m 0 c).arrAt_eq_of_after_last 9 t0_7 (by decide +kernel) _ fun y => ?_
  blk_simp
  rw [after0_9]
  obtain ⟨i, d, rfl⟩ := exists_ix2 y
  obtain rfl : i = 0 := Subsingleton.elim _ _
  refine (last9 (feeds m c) d).trans ?_
  simp only [Data.duvSteps_eq _ hT]
  exact sum_rows fun r => (dataAt m c).duv r d

/-- The cotangent of the gain. -/
theorem arr10 : (dats m 0 c).arrAt 10 cfg0.N = (fun y => (dataAt m c).dg (y 1).val : Vec Ideal S1x1024 .f32) := by
  refine (dats m 0 c).arrAt_eq_of_after_last 10 t0_7 (by decide +kernel) _ fun y => ?_
  blk_simp
  rw [after0_10]
  obtain ⟨i, d, rfl⟩ := exists_ix2 y
  obtain rfl : i = 0 := Subsingleton.elim _ _
  refine (last10 (feeds m c) d).trans ?_
  exact sum_rows fun r => nrm ((dataAt m c).a r) d * (dataAt m c).q r d

/-- The cotangent of the norm's bias. -/
theorem arr11 : (dats m 0 c).arrAt 11 cfg0.N = (fun y => (dataAt m c).db (y 1).val : Vec Ideal S1x1024 .f32) := by
  refine (dats m 0 c).arrAt_eq_of_after_last 11 t0_7 (by decide +kernel) _ fun y => ?_
  blk_simp
  rw [after0_11]
  obtain ⟨i, d, rfl⟩ := exists_ix2 y
  obtain rfl : i = 0 := Subsingleton.elim _ _
  refine (last11 (feeds m c) d).trans ?_
  exact sum_rows fun r => (dataAt m c).q r d

/-- The cotangent of the mixing matrices. -/
theorem arr12 : (dats m 0 c).arrAt 12 cfg0.N
    = (fun y => (dataAt m c).dws (y 0).val (y 1).val (y 2).val : Vec Ideal S8x128x128 .f32) := by
  refine (dats m 0 c).arrAt_eq_of_after_last 12 t0_7 (by decide +kernel) _ fun y => ?_
  blk_simp
  rw [after0_12]
  obtain ⟨h, i, s, rfl⟩ := exists_ix3 y
  refine (last12 (feeds m c) h i s).trans ?_
  show _ = (dataAt m c).dws h i s
  unfold Data.dws ind
  by_cases hs : s.val ≤ i.val
  · simp only [hs, if_true, one_mul]
    exact sum_chunks fun k => (dataAt m c).dwsAt k h i s
  · simp only [hs, if_false, zero_mul, add_zero, Finset.sum_const_zero]

/-- The cotangent of the mixing's bias, repeated along a head's columns. -/
theorem arr13 : (dats m 0 c).arrAt 13 cfg0.N
    = (fun y => (dataAt m c).dbs (y 0).val ((y 1).val / 128) : Vec Ideal S128x1024 .f32) := by
  refine (dats m 0 c).arrAt_eq_of_after_last 13 t0_7 (by decide +kernel) _ fun y => ?_
  blk_simp
  rw [after0_13]
  obtain ⟨i, d, rfl⟩ := exists_ix2 y
  refine (last13 (feeds m c) i d).trans ?_
  exact sum_chunks fun k => (dataAt m c).dbsAt k i (d.val / 128)

end Cert.KernelIdeal.Gen

end
-- ==== Proof.Ref.lean ====
/-
  The reference's six results, as the pass's results: gelu and the normalisation row by row, the mixing and its two
  transposes chunk by chunk.
-/
module

public import proofs.«01_k».proof.Proof.Args
public import proofs.«01_k».proof.Proof.Gen.ReferenceIdeal.Read
public import Idealize.ShloMosaic.Lib.Pointwise
public import Idealize.ShloMosaic.Lib.IdealHost

@[expose] public section

set_option maxHeartbeats 1000000

noncomputable section

namespace Cert.ReferenceIdeal.Read

open Idealize.ShloMosaic Cert.Gate Cert.ReferenceIdeal.Gen

variable (x0 : (⟨S2048x6144, .f32⟩ : BufTy).Contents (Elt Ideal)) (x1 : (⟨S1x6144, .f32⟩ : BufTy).Contents (Elt Ideal))
  (x2 x3 : (⟨S1x1024, .f32⟩ : BufTy).Contents (Elt Ideal)) (x4 : (⟨S1x8x128x128, .f32⟩ : BufTy).Contents (Elt Ideal))
  (x5 : (⟨S1x8x128, .f32⟩ : BufTy).Contents (Elt Ideal)) (x6 : (⟨S2048x1024, .f32⟩ : BufTy).Contents (Elt Ideal))

/-- The data of the reference's arguments. -/
def dataRef : Data :=
  dataOf (fun i j => x0 (ix2 i j)) (fun i j => x1 (ix2 i j)) (fun i j => x2 (ix2 i j)) (fun i j => x3 (ix2 i j))
    (fun h i j => x4 (ix4 0 h i j)) (fun h i => x5 (ix3 0 h i)) (fun i j => x6 (ix2 i j))

/-- The float word of two. -/
theorem word_two : Ideal.ofBits .f32 1073741824#32 = 2 := by
  rw [show (2 : EReal) = ((2 : ℝ) : EReal) by norm_cast]
  simp [Ideal.ofBits, Ideal.ieee, -EReal.coe_mul]; norm_num

/-- The float word of three. -/
theorem word_three : Ideal.ofBits .f32 1077936128#32 = 3 := by
  rw [show (3 : EReal) = ((3 : ℝ) : EReal) by norm_cast]
  simp [Ideal.ofBits, Ideal.ieee, -EReal.coe_mul]; norm_num

/-! ## gelu of the two halves -/

/-- The gate half before gelu. -/
theorem ref6 (r : Fin 2048) (d : Fin 1024) :
    val_main_v6 (F := Ideal) x0 x1 (ix2 r d) = (dataRef x0 x1 x2 x3 x4 x5 x6).pu r d := by
  pointwise [val_main_v6, val_main_v5, val_main_v0, val_main_v4, val_main_v1]
  unfold dataRef dataOf
  dsimp only
  rw [if_pos d.isLt, at2_eq _ r.isLt (by omega), at2_eq _ Nat.one_pos (by omega)]
  rfl

/-- The value half before gelu. -/
theorem ref7 (r : Fin 2048) (d : Fin 1024) :
    val_main_v7 (F := Ideal) x0 x1 (ix2 r d) = (dataRef x0 x1 x2 x3 x4 x5 x6).pv r d := by
  pointwise [val_main_v7, val_main_v5, val_main_v0, val_main_v4, val_main_v1]
  unfold dataRef dataOf
  dsimp only
  rw [at2_eq _ r.isLt (by omega), at2_eq _ Nat.one_pos (by omega)]
  rfl

/-- The hyperbolic tangent of the gate half. -/
theorem ref18 (r : Fin 2048) (d : Fin 1024) :
    val_main_v18 (F := Ideal) x0 x1 (ix2 r d) = th ((dataRef x0 x1 x2 x3 x4 x5 x6).pu r d) := by
  pointwise [val_main_v18, val_main_v17, val_main_v16, val_main_cst_1, val_main_v15, val_main_v14, val_main_v13,
    val_main_cst_0, val_main_v9, val_main_v8]
  rw [ref6 x0 x1 x2 x3 x4 x5 x6]
  rfl

/-- The hyperbolic tangent of the value half. -/
theorem ref39 (r : Fin 2048) (d : Fin 1024) :
    val_main_v39 (F := Ideal) x0 x1 (ix2 r d) = th ((dataRef x0 x1 x2 x3 x4 x5 x6).pv r d) := by
  pointwise [val_main_v39, val_main_v38, val_main_v37, val_main_cst_8, val_main_v36, val_main_v35, val_main_v34,
    val_main_cst_7, val_main_v30, val_main_v29]
  rw [ref7 x0 x1 x2 x3 x4 x5 x6]
  rfl

/-- Its factor in gelu, for the gate half. -/
theorem ref27 (r : Fin 2048) (d : Fin 1024) :
    val_main_v27 (F := Ideal) x0 x1 (ix2 r d) = hm ((dataRef x0 x1 x2 x3 x4 x5 x6).pu r d) := by
  pointwise [val_main_v27, val_main_v26, val_main_cst_5, val_main_v25, val_main_v24, val_main_cst_4]
  rw [ref18 x0 x1 x2 x3 x4 x5 x6]
  rfl

/-- Its factor in gelu, for the value half. -/
theorem ref48 (r : Fin 2048) (d : Fin 1024) :
    val_main_v48 (F := Ideal) x0 x1 (ix2 r d) = hm ((dataRef x0 x1 x2 x3 x4 x5 x6).pv r d) := by
  pointwise [val_main_v48, val_main_v47, val_main_cst_12, val_main_v46, val_main_v45, val_main_cst_11]
  rw [ref39 x0 x1 x2 x3 x4 x5 x6]
  rfl

/-- The tangent's derivative, for the gate half. -/
theorem ref23 (r : Fin 2048) (d : Fin 1024) :
    val_main_v23 (F := Ideal) x0 x1 (ix2 r d) = dt ((dataRef x0 x1 x2 x3 x4 x5 x6).pu r d) := by
  pointwise [val_main_v23, val_main_v22, val_main_v21, val_main_cst_3, val_main_v20, val_main_v19, val_main_cst_2]
  rw [ref18 x0 x1 x2 x3 x4 x5 x6]
  rfl

/-- The tangent's derivative, for the value half. -/
theorem ref44 (r : Fin 2048) (d : Fin 1024) :
    val_main_v44 (F := Ideal) x0 x1 (ix2 r d) = dt ((dataRef x0 x1 x2 x3 x4 x5 x6).pv r d) := by
  pointwise [val_main_v44, val_main_v43, val_main_v42, val_main_cst_10, val_main_v41, val_main_v40, val_main_cst_9]
  rw [ref39 x0 x1 x2 x3 x4 x5 x6]
  rfl

/-- The gate half after gelu. -/
theorem ref28 (r : Fin 2048) (d : Fin 1024) :
    val_main_v28 (F := Ideal) x0 x1 (ix2 r d) = (dataRef x0 x1 x2 x3 x4 x5 x6).u r d := by
  pointwise [val_main_v28]
  rw [ref6 x0 x1 x2 x3 x4 x5 x6, ref27 x0 x1 x2 x3 x4 x5 x6]
  rfl

/-- The value half after gelu. -/
theorem ref49 (r : Fin 2048) (d : Fin 1024) :
    val_main_v49 (F := Ideal) x0 x1 (ix2 r d) = (dataRef x0 x1 x2 x3 x4 x5 x6).a r d := by
  pointwise [val_main_v49]
  rw [ref7 x0 x1 x2 x3 x4 x5 x6, ref48 x0 x1 x2 x3 x4 x5 x6]
  rfl

/-! ## The normalisation -/

/-- The mean of a row. -/
theorem ref53 (r : Fin 2048) : val_main_v53 (F := Ideal) x0 x1 (ix2 r 0) = mean ((dataRef x0 x1 x2 x3 x4 x5 x6).a r) := by
  pointwise [val_main_v53, val_main_v52, val_main_cst_14, val_main_v51, val_main_v50, val_main_cst_13]
  simp only [ref49 x0 x1 x2 x3 x4 x5 x6]
  rfl

/-- The deviations, as the variance takes them. -/
theorem ref55 (r : Fin 2048) (d : Fin 1024) :
    val_main_v55 (F := Ideal) x0 x1 (ix2 r d) = dev ((dataRef x0 x1 x2 x3 x4 x5 x6).a r) d := by
  pointwise [val_main_v55, val_main_v54]
  rw [ref49 x0 x1 x2 x3 x4 x5 x6, ref53 x0 x1 x2 x3 x4 x5 x6]
  rfl

/-- The deviations, as the normalised row takes them. -/
theorem ref64 (r : Fin 2048) (d : Fin 1024) :
    val_main_v64 (F := Ideal) x0 x1 (ix2 r d) = dev ((dataRef x0 x1 x2 x3 x4 x5 x6).a r) d := by
  pointwise [val_main_v64, val_main_v63]
  rw [ref49 x0 x1 x2 x3 x4 x5 x6, ref53 x0 x1 x2 x3 x4 x5 x6]
  rfl

/-- The variance plus the epsilon. -/
theorem ref66 (r : Fin 2048) : val_main_v66 (F := Ideal) x0 x1 (ix2 r 0) = var ((dataRef x0 x1 x2 x3 x4 x5 x6).a r) := by
  pointwise [val_main_v66, val_main_v65, val_main_cst_18, val_main_v62, val_main_v61, val_main_cst_17, val_main_v60,
    val_main_v59, val_main_cst_16, val_main_v56]
  simp only [ref55 x0 x1 x2 x3 x4 x5 x6]
  rfl

/-- The reciprocal of the deviation. -/
theorem ref67 (r : Fin 2048) : val_main_v67 (F := Ideal) x0 x1 (ix2 r 0) = rstd ((dataRef x0 x1 x2 x3 x4 x5 x6).a r) := by
  pointwise [val_main_v67]
  rw [ref66 x0 x1 x2 x3 x4 x5 x6]
  rfl

/-- The derivative of the reciprocal root. -/
theorem ref70 (r : Fin 2048) : val_main_v70 (F := Ideal) x0 x1 (ix2 r 0) = drstd ((dataRef x0 x1 x2 x3 x4 x5 x6).a r) := by
  pointwise [val_main_v70, val_main_v69, val_main_cst_19, val_main_v68]
  rw [ref67 x0 x1 x2 x3 x4 x5 x6, ref66 x0 x1 x2 x3 x4 x5 x6]
  rfl

/-- The normalised row. -/
theorem ref72 (r : Fin 2048) (d : Fin 1024) :
    val_main_v72 (F := Ideal) x0 x1 (ix2 r d) = nrm ((dataRef x0 x1 x2 x3 x4 x5 x6).a r) d := by
  pointwise [val_main_v72, val_main_v71]
  rw [ref64 x0 x1 x2 x3 x4 x5 x6, ref67 x0 x1 x2 x3 x4 x5 x6]
  rfl

/-- The gain. -/
theorem refg (d : Fin 1024) : x2 (ix2 0 d) = (dataRef x0 x1 x2 x3 x4 x5 x6).g d := by
  unfold dataRef dataOf
  dsimp only
  rw [at2_eq _ Nat.one_pos d.isLt]
  rfl

/-- The normalised row with gain and bias. -/
theorem ref76 (r : Fin 2048) (d : Fin 1024) :
    val_main_v76 (F := Ideal) x0 x1 x2 x3 (ix2 r d) = (dataRef x0 x1 x2 x3 x4 x5 x6).vln r d := by
  pointwise [val_main_v76, val_main_v75, val_main_v74, val_main_v73]
  rw [ref72 x0 x1 x2 x3 x4 x5 x6, refg x0 x1 x2 x3 x4 x5 x6]
  unfold Data.vln
  congr 1
  unfold dataRef dataOf
  dsimp only
  rw [at2_eq _ Nat.one_pos d.isLt]
  rfl

/-! ## The causal mixing and its transposes -/

/-- The masked matrices. -/
theorem ref82 (h : Fin 8) (t s : Fin 128) :
    val_main_v82_0 (F := Ideal) x4 (ix3 h t s) = (dataRef x0 x1 x2 x3 x4 x5 x6).w h t s := by
  pointwise [val_main_v82_0, val_main_v82_1, val_main_v81, val_main_cst_20, val_main_v80, val_main_v79, val_main_call0_v4,
    val_main_call0_v2, val_main_call0_v0, val_main_call0_v1, val_main_call0_c, val_main_call0_v3, val_main_v78, val_main_c,
    val_main_call0_v5, val_main_call0_c_0, val_main_v2]
  rw [causal_select]
  unfold dataRef
  rw [dataOf_w]

/-- The mixed rows. -/
theorem ref89 (r : Fin 2048) (d : Fin 1024) :
    val_main_v89 (F := Ideal) x0 x1 x2 x3 x4 x5 (ix2 r d) = (dataRef x0 x1 x2 x3 x4 x5 x6).vmix r d := by
  pointwise [val_main_v89, val_main_v88, val_main_v87, val_main_v86, val_main_v85, val_main_v84, val_main_v3, val_main_v83,
    val_main_v77]
  unfold Data.vmix
  congr 1
  · refine Finset.sum_congr rfl fun s _ => ?_
    rw [ref76 x0 x1 x2 x3 x4 x5 x6, ref82 x0 x1 x2 x3 x4 x5 x6, mul_comm]
    dsimp only
    rw [mul_comm (r.val / 128)]
  · unfold dataRef dataOf
    dsimp only
    rw [at2_eq _ (by omega) (by omega)]

/-- The cotangent of the mixed rows. -/
theorem ref91 (r : Fin 2048) (d : Fin 1024) :
    val_main_v91 (F := Ideal) x0 x1 x6 (ix2 r d) = (dataRef x0 x1 x2 x3 x4 x5 x6).dvm r d := by
  pointwise [val_main_v91]
  rw [ref28 x0 x1 x2 x3 x4 x5 x6, mul_comm]
  unfold Data.dvm
  congr 1
  unfold dataRef dataOf
  dsimp only
  rw [at2_eq _ r.isLt d.isLt]

/-- The cotangent of the gate. -/
theorem ref92 (r : Fin 2048) (d : Fin 1024) :
    val_main_v92 (F := Ideal) x0 x1 x2 x3 x4 x5 x6 (ix2 r d) = (dataRef x0 x1 x2 x3 x4 x5 x6).du r d := by
  pointwise [val_main_v92]
  rw [ref89 x0 x1 x2 x3 x4 x5 x6]
  unfold Data.du
  congr 1
  unfold dataRef dataOf
  dsimp only
  rw [at2_eq _ r.isLt d.isLt]

/-- The transposed mixing. -/
theorem ref103 (r : Fin 2048) (d : Fin 1024) :
    val_main_v103 (F := Ideal) x0 x1 x4 x6 (ix2 r d) = (dataRef x0 x1 x2 x3 x4 x5 x6).q r d := by
  pointwise [val_main_v103, val_main_v101, val_main_v100, val_main_v98, val_main_v93]
  unfold Data.q
  refine Finset.sum_congr rfl fun s _ => ?_
  rw [ref91 x0 x1 x2 x3 x4 x5 x6, ref82 x0 x1 x2 x3 x4 x5 x6, mul_comm]
  dsimp only
  rw [mul_comm (r.val / 128)]

/-- The cotangent of the matrices. -/
theorem ref102 (h : Fin 8) (t s : Fin 128) :
    val_main_v102 (F := Ideal) x0 x1 x2 x3 x6 (ix3 h t s) = (dataRef x0 x1 x2 x3 x4 x5 x6).dws h t s := by
  pointwise [val_main_v102, val_main_v82_1, val_main_v81, val_main_call2_v0, val_main_call2_cst, val_main_cst_20, val_main_v80, val_main_v79, val_main_call0_v4,
    val_main_call0_v2, val_main_call0_v0, val_main_call0_v1, val_main_call0_c, val_main_call0_v3, val_main_v78, val_main_c,
    val_main_call0_v5, val_main_call0_c_0, val_main_v99, val_main_v98, val_main_v93, val_main_v77]
  rw [causal_select]
  unfold Data.dws Data.dwsAt
  refine if_congr Iff.rfl ?_ rfl
  refine Finset.sum_congr rfl fun c _ => Finset.sum_congr rfl fun e _ => ?_
  rw [ref91 x0 x1 x2 x3 x4 x5 x6, ref76 x0 x1 x2 x3 x4 x5 x6]
  dsimp only
  rw [mul_comm c.val, mul_comm h.val]

/-- Summed over the first and last axes of four. -/
theorem sum_outer {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (i : Fin n1) (j : Fin n2) :
    Ideal.hostReduceAdd h v init (ix2 i j) = init + ∑ c : Fin n0, ∑ e : Fin n3, v (ix4 c i j e) := by
  unfold Ideal.hostReduceAdd
  congr 1
  rw [← Fintype.sum_prod_type']
  refine Finset.sum_filter_eq_sum_of_fiber _ (fun k : Fin n0 × Fin n3 => ix4 k.1 i j k.2)
    (fun _ _ e => Prod.ext (congrFun e 0) (congrFun e 3)) (fun y => ?_) v
  constructor
  · intro e
    refine ⟨(y 0, y 3), ?_⟩
    have e0 := congrArg Fin.val (congrFun e 0)
    have e1 := congrArg Fin.val (congrFun e 1)
    funext a; apply Fin.ext
    match a with
    | ⟨0, _⟩ => rfl
    | ⟨1, _⟩ => exact e0.symm
    | ⟨2, _⟩ => exact e1.symm
    | ⟨3, _⟩ => rfl
  · rintro ⟨k, rfl⟩
    funext b
    apply Fin.ext
    match b with
    | ⟨0, _⟩ => rfl
    | ⟨1, _⟩ => rfl

/-- The cotangent of the mixing's bias, a head's columns and the chunks summed. -/
theorem ref94 (t : Fin 128) (h : Fin 8) :
    val_main_v94 (F := Ideal) x0 x1 x6 (ix2 t h) = (dataRef x0 x1 x2 x3 x4 x5 x6).dbs t h := by
  pointwise [val_main_v94, val_main_cst_21]
  refine (sum_outer reducesTo_S16x128x8x128_S128x8_d0_3 (val_main_v93 (F := Ideal) x0 x1 x6) 0 t h).trans ?_
  rw [zero_add]
  unfold Data.dbs Data.dbsAt
  refine Finset.sum_congr rfl fun c _ => Finset.sum_congr rfl fun e _ => ?_
  pointwise [val_main_v93]
  rw [ref91 x0 x1 x2 x3 x4 x5 x6]
  dsimp only
  rw [mul_comm c.val, mul_comm h.val]

/-- The cotangent of the mixing's bias, laid out one token a row. -/
theorem ref96 (t : Fin 128) (h : Fin 8) :
    val_main_v96 (F := Ideal) x0 x1 x6 (ix2 t h) = (dataRef x0 x1 x2 x3 x4 x5 x6).dbs t h := by
  pointwise [val_main_v96, val_main_cst_22]
  refine (sum_outer reducesTo_S1x128x8x1_S128x8_d0_3 (val_main_v95 (F := Ideal) x0 x1 x6) 0 t h).trans ?_
  rw [zero_add, Fin.sum_univ_one, Fin.sum_univ_one]
  pointwise [val_main_v95]
  exact ref94 x0 x1 x2 x3 x4 x5 x6 t h

/-- The cotangent of the mixing's bias, each head's column repeated. -/
theorem ref165 (r : Fin 128) (d : Fin 1024) :
    val_main_v165 (F := Ideal) x0 x1 x6 (ix2 r d) = (dataRef x0 x1 x2 x3 x4 x5 x6).dbs r (d / 128) := by
  pointwise [val_main_v165, val_main_v164, val_main_v163, val_main_v97]
  exact ref96 x0 x1 x2 x3 x4 x5 x6 r ⟨d.val / 128, by omega⟩

/-! ## Back through the normalisation and gelu -/

/-- The cotangent of the gate half before gelu. -/
theorem ref158 (r : Fin 2048) (d : Fin 1024) :
    val_main_v158 (F := Ideal) x0 x1 x2 x3 x4 x5 x6 (ix2 r d) = dact ((dataRef x0 x1 x2 x3 x4 x5 x6).du r d) ((dataRef x0 x1 x2 x3 x4 x5 x6).pu r d) := by
  pointwise [val_main_v158, val_main_v157, val_main_v156, val_main_v155, val_main_cst_37, val_main_v154, val_main_v153,
    val_main_v152, val_main_cst_36, val_main_v151, val_main_v150, val_main_v149, val_main_cst_35, val_main_v148,
    val_main_v147, val_main_v12, val_main_v11, val_main_cst, val_main_v10]
  rw [ref6 x0 x1 x2 x3 x4 x5 x6, ref92 x0 x1 x2 x3 x4 x5 x6, ref27 x0 x1 x2 x3 x4 x5 x6, ref23 x0 x1 x2 x3 x4 x5 x6, word_three]
  rfl

/-- The cotangent of the normalised row. -/
theorem ref110 (r : Fin 2048) (d : Fin 1024) :
    val_main_v110 (F := Ideal) x0 x1 x2 x4 x6 (ix2 r d) = (dataRef x0 x1 x2 x3 x4 x5 x6).q r d * (dataRef x0 x1 x2 x3 x4 x5 x6).g d := by
  pointwise [val_main_v110, val_main_v109]
  rw [ref103 x0 x1 x2 x3 x4 x5 x6, refg x0 x1 x2 x3 x4 x5 x6]

/-- The part of the deviations' cotangent that comes by the variance. -/
theorem ref124 (r : Fin 2048) (d : Fin 1024) : val_main_v124 (F := Ideal) x0 x1 x2 x4 x6 (ix2 r d)
    = ddevVar ((dataRef x0 x1 x2 x3 x4 x5 x6).a r) (fun j => (dataRef x0 x1 x2 x3 x4 x5 x6).q r j * (dataRef x0 x1 x2 x3 x4 x5 x6).g j) d := by
  pointwise [val_main_v124, val_main_v123, val_main_v122, val_main_v121, val_main_v120, val_main_cst_28, val_main_cst_27,
    val_main_v116, val_main_v113, val_main_v112, val_main_v111, val_main_cst_25, val_main_v58, val_main_v57,
    val_main_cst_15]
  simp only [ref64 x0 x1 x2 x3 x4 x5 x6, ref110 x0 x1 x2 x3 x4 x5 x6, ref70 x0 x1 x2 x3 x4 x5 x6,
    ref55 x0 x1 x2 x3 x4 x5 x6, Fin.sum_univ_one, Finset.sum_const, Finset.card_univ, Fintype.card_fin, one_smul,
    word_two]
  rfl

/-- The direct part. -/
theorem ref115 (r : Fin 2048) (d : Fin 1024) : val_main_v115 (F := Ideal) x0 x1 x2 x4 x6 (ix2 r d)
    = (dataRef x0 x1 x2 x3 x4 x5 x6).q r d * (dataRef x0 x1 x2 x3 x4 x5 x6).g d * rstd ((dataRef x0 x1 x2 x3 x4 x5 x6).a r) := by
  pointwise [val_main_v115, val_main_v114]
  rw [ref110 x0 x1 x2 x3 x4 x5 x6, ref67 x0 x1 x2 x3 x4 x5 x6]

/-- The cotangent of the value half after gelu. -/
theorem ref134 (r : Fin 2048) (d : Fin 1024) :
    val_main_v134 (F := Ideal) x0 x1 x2 x4 x6 (ix2 r d) = (dataRef x0 x1 x2 x3 x4 x5 x6).da r d := by
  pointwise [val_main_v134, val_main_v133, val_main_v132, val_main_v131, val_main_v130, val_main_cst_31, val_main_cst_30,
    val_main_v128, val_main_v129, val_main_v127, val_main_v126, val_main_v125, val_main_v119, val_main_v118, val_main_v117,
    val_main_cst_29, val_main_cst_26]
  simp only [ref115 x0 x1 x2 x3 x4 x5 x6, ref124 x0 x1 x2 x3 x4 x5 x6, Finset.sum_const, Finset.card_univ,
    Fintype.card_fin, one_smul]
  rfl

/-- The cotangent of the value half before gelu. -/
theorem ref146 (r : Fin 2048) (d : Fin 1024) :
    val_main_v146 (F := Ideal) x0 x1 x2 x4 x6 (ix2 r d) = dact ((dataRef x0 x1 x2 x3 x4 x5 x6).da r d) ((dataRef x0 x1 x2 x3 x4 x5 x6).pv r d) := by
  pointwise [val_main_v146, val_main_v145, val_main_v144, val_main_v143, val_main_cst_34, val_main_v142, val_main_v141,
    val_main_v140, val_main_cst_33, val_main_v139, val_main_v138, val_main_v137, val_main_cst_32, val_main_v136,
    val_main_v135, val_main_v33, val_main_v32, val_main_cst_6, val_main_v31]
  rw [ref7 x0 x1 x2 x3 x4 x5 x6, ref134 x0 x1 x2 x3 x4 x5 x6, ref48 x0 x1 x2 x3 x4 x5 x6, ref44 x0 x1 x2 x3 x4 x5 x6,
    word_three]
  rfl

/-! ## The six results -/

/-- The projection's cotangent before its last cast. -/
theorem ref159 (r c : Fin 2048) :
    val_main_v159 (F := Ideal) x0 x1 x2 x3 x4 x5 x6 (ix2 r c) = (dataRef x0 x1 x2 x3 x4 x5 x6).duv r c := by
  pointwise [val_main_v159]
  unfold Data.duv
  split
  · rw [ref158 x0 x1 x2 x3 x4 x5 x6]
  · rw [ref146 x0 x1 x2 x3 x4 x5 x6]

/-- The projection's cotangent. -/
theorem res8 : val_main_v162 (F := Ideal) x0 x1 x2 x3 x4 x5 x6 = fun y => (dataRef x0 x1 x2 x3 x4 x5 x6).duv (y 0).val (y 1).val := by
  funext y
  obtain ⟨r, c, rfl⟩ : ∃ r c, y = ix2 r c := ⟨_, _, eq_ix2 y⟩
  pointwise [val_main_v162]
  exact ref159 x0 x1 x2 x3 x4 x5 x6 r c

/-- Its column sums. -/
theorem res9 : val_main_v161 (F := Ideal) x0 x1 x2 x3 x4 x5 x6 = fun y => (dataRef x0 x1 x2 x3 x4 x5 x6).sumDuv (y 1).val := by
  funext y
  obtain ⟨i, d, rfl⟩ : ∃ i d, y = ix2 i d := ⟨_, _, eq_ix2 y⟩
  obtain rfl : i = 0 := Subsingleton.elim _ _
  pointwise [val_main_v161, val_main_v160, val_main_cst_38]
  simp only [ref159 x0 x1 x2 x3 x4 x5 x6]
  rfl

/-- The gain's cotangent. -/
theorem res10 : val_main_v108 (F := Ideal) x0 x1 x4 x6 = fun y => (dataRef x0 x1 x2 x3 x4 x5 x6).dg (y 1).val := by
  funext y
  obtain ⟨i, d, rfl⟩ : ∃ i d, y = ix2 i d := ⟨_, _, eq_ix2 y⟩
  obtain rfl : i = 0 := Subsingleton.elim _ _
  pointwise [val_main_v108, val_main_v107, val_main_cst_24, val_main_v106]
  simp only [ref72 x0 x1 x2 x3 x4 x5 x6, ref103 x0 x1 x2 x3 x4 x5 x6]
  rfl

/-- The bias's cotangent. -/
theorem res11 : val_main_v105 (F := Ideal) x0 x1 x4 x6 = fun y => (dataRef x0 x1 x2 x3 x4 x5 x6).db (y 1).val := by
  funext y
  obtain ⟨i, d, rfl⟩ : ∃ i d, y = ix2 i d := ⟨_, _, eq_ix2 y⟩
  obtain rfl : i = 0 := Subsingleton.elim _ _
  pointwise [val_main_v105, val_main_v104, val_main_cst_23]
  simp only [ref103 x0 x1 x2 x3 x4 x5 x6]
  rfl

/-- The matrices' cotangent. -/
theorem res12 : val_main_v102 (F := Ideal) x0 x1 x2 x3 x6 = fun y => (dataRef x0 x1 x2 x3 x4 x5 x6).dws (y 0).val (y 1).val (y 2).val := by
  funext y
  obtain ⟨h, t, s, rfl⟩ : ∃ h t s, y = ix3 h t s := ⟨_, _, _, eq_ix3 y⟩
  exact ref102 x0 x1 x2 x3 x4 x5 x6 h t s

/-- The mixing bias's cotangent, one head's column repeated. -/
theorem res13 : val_main_v165 (F := Ideal) x0 x1 x6 = fun y => (dataRef x0 x1 x2 x3 x4 x5 x6).dbs (y 0).val ((y 1).val / 128) := by
  funext y
  obtain ⟨r, d, rfl⟩ : ∃ r d, y = ix2 r d := ⟨_, _, eq_ix2 y⟩
  exact ref165 x0 x1 x2 x3 x4 x5 x6 r d

end Cert.ReferenceIdeal.Read

end
-- ==== Proof.Pre.lean ====
/-
  What the precondition says of the arguments: the arrays it names are finite, so the data are tame.
-/
module

public import proofs.«01_k».proof.Pre_finite_inputs
public import proofs.«01_k».proof.Defs
public import proofs.«01_k».proof.Proof.Entry
public import Idealize.ShloMosaic.Lib.ReduceAll

@[expose] public section

noncomputable section

namespace Cert.Pre_finite_inputs

open Idealize.ShloMosaic Cert.Gate

/-- The precondition's shape relations hold. -/
theorem facts : Facts := by
  constructor <;> decide

/-- The word of plus infinity. -/
theorem word_top : Ideal.ofBits .f32 0x7F800000#32 = ⊤ := by
  simp [Ideal.ofBits, Ideal.ieee]

/-- The word of minus infinity. -/
theorem word_bot : Ideal.ofBits .f32 0xFF800000#32 = ⊥ := by
  simp [Ideal.ofBits, Ideal.ieee]

/-- An element that compares below plus infinity and above minus infinity is finite. -/
theorem fin_of_bits {x : EReal} (h : IntOp.andi (Ideal.cmp .olt x (Ideal.ofBits .f32 0x7F800000#32))
    (Ideal.cmp .ogt x (Ideal.ofBits .f32 0xFF800000#32)) = 1#1) : IsFin x := by
  obtain ⟨h1, h2⟩ := IntOp.andi_eq_one.1 h
  rw [word_top] at h1
  rw [word_bot] at h2
  have d (p : Prop) [Decidable p] (e : BitVec.ofBool (decide p) = 1#1) : p := by
    by_contra n
    rw [decide_eq_false n] at e
    exact absurd e (by decide)
  exact IsFin.of_lt (d _ h1) (d _ h2)

variable [Facts]
open Facts

/-- An array whose every element compares below plus infinity and above minus infinity is finite. -/
theorem fin_of_all {s : Shape} {axes : List (Fin s.rank)} (x : FVec Ideal s .f32) (hb : S_.BroadcastsInDim s ![])
    (h : s.ReducesTo axes S_) (init : S_.Idx → BitVec 1)
    (e : Host.reduce IntOp.andi (andi (cmpf .olt x (broadcastInDim s ![] hb (constant (F := Ideal) S_ .f32 0x7F800000#32)))
      (cmpf .ogt x (broadcastInDim s ![] hb (constant (F := Ideal) S_ .f32 0xFF800000#32)))) init h h_S_ ix0 = 1#1)
    (i : s.Idx) : IsFin (x i) := by
  haveI : Subsingleton S_.Idx := ⟨fun a b => funext fun k => k.elim0⟩
  exact fin_of_bits (Host.reduce_andi_all _ init h h_S_ ix0 e i)

/-- The precondition makes the gate's half of the projection and of its bias, the gain, the matrices and the cotangent
    finite. -/
theorem finite {x0 : FVec Ideal S2048x6144 .f32} {x1 : FVec Ideal S1x6144 .f32} {x2 x3 : FVec Ideal S1x1024 .f32}
    {x4 : FVec Ideal S1x8x128x128 .f32} {x5 : FVec Ideal S1x8x128 .f32} {x6 : FVec Ideal S2048x1024 .f32}
    (h : fn (F := Ideal) x0 x1 x2 x3 x4 x5 x6 = fun _ => 1#1) :
    (∀ i, IsFin (extractStridedSlice S2048x1024 ![0, 0] x0 slices_S2048x6144_S2048x1024_0_0 i))
      ∧ (∀ i, IsFin (extractStridedSlice S1x1024 ![0, 0] x1 slices_S1x6144_S1x1024_0_0 i))
      ∧ (∀ i, IsFin (x2 i)) ∧ (∀ i, IsFin (x4 i)) ∧ (∀ i, IsFin (x6 i)) := by
  have e := congrFun h ix0
  dsimp only [fn, fn_part1, fn_part2] at e
  obtain ⟨e, e6⟩ := IntOp.andi_eq_one.1 e
  obtain ⟨e, e4⟩ := IntOp.andi_eq_one.1 e
  obtain ⟨e, e2⟩ := IntOp.andi_eq_one.1 e
  obtain ⟨e0, e1⟩ := IntOp.andi_eq_one.1 e
  exact ⟨fin_of_all _ _ _ _ e0, fin_of_all _ _ _ _ e1, fin_of_all _ _ _ _ e2, fin_of_all _ _ _ _ e4,
    fin_of_all _ _ _ _ e6⟩

/-- So the data of such arguments are tame. -/
theorem tame (m : (ℓ : Loc Cert.KernelIdeal.nD Cert.KernelIdeal.τ Cert.KernelIdeal.sig) → Buf (Elt Ideal) ℓ)
    (h : Cert.Pre_KernelIdeal_finite_inputs m) (c : Dev Cert.KernelIdeal.nD) : (Cert.KernelIdeal.Gen.dataAt m c).Tame := by
  obtain ⟨h0, h1, h2, h4, h6⟩ := finite (h c)
  refine dataOf_tame (fun r d => ?_) (fun r d => ?_) (fun r d => h2 _) (fun a t s => h4 _) (fun r d => h6 _)
  · have k := h0 (ix2 r d)
    pointwise at k
    exact k
  · obtain rfl : r = 0 := Subsingleton.elim _ _
    have k := h1 (ix2 0 d)
    pointwise at k
    exact k

end Cert.Pre_finite_inputs

end
-- ==== Proof.Products.lean ====
/-
  Products of matrices over the extended reals, with entries named by numbers so that blocks of rows and columns are read by
  adding their offset.
-/
module

public import proofs.«01_k».proof.Proof.Args
public import Idealize.ShloMosaic.Lib.ValueIdx

@[expose] public section

noncomputable section

namespace Cert.Product

open Idealize.ShloMosaic Cert.Gate

variable {n k l : ℕ}

/-- A matrix of extended reals. -/
abbrev Mat (n k : ℕ) : Type := (⟨2, ![n, k]⟩ : Shape).Idx → EReal

/-- An entry, zero outside the matrix. -/
def ent (X : Mat n k) (i j : ℕ) : EReal := at2 (fun i j => X (ix2 i j)) i j

/-- Inside the matrix it is the matrix's entry. -/
theorem ent_eq (X : Mat n k) {i j : ℕ} (hi : i < n) (hj : j < k) : ent X i j = X (ix2 ⟨i, hi⟩ ⟨j, hj⟩) := at2_eq _ hi hj

/-- An entry of the transpose of `X` times `Y`. -/
def tn (X : Mat n k) (Y : Mat n l) (i j : ℕ) : EReal := ∑ r : Fin n, ent X r i * ent Y r j

/-- An entry of `X` times the transpose of `Y`. -/
def nt (X : Mat n k) (Y : Mat l k) (i j : ℕ) : EReal := ∑ r : Fin k, ent X i r * ent Y j r

/-- An entry of `X` times `Y`. -/
def nn (X : Mat n k) (Y : Mat k l) (i j : ℕ) : EReal := ∑ r : Fin k, ent X i r * ent Y r j

/-- A sum of products over rows `i` of `X` and `j` of `Y`, both read column by column, is an entry of `tn`. -/
theorem tn_of {X : Mat n k} {Y : Mat n l} {i j : ℕ} {f g : Fin n → EReal} (hi : i < k) (hj : j < l)
    (hf : ∀ r, f r = X (ix2 r ⟨i, hi⟩)) (hg : ∀ r, g r = Y (ix2 r ⟨j, hj⟩)) : ∑ r, f r * g r = tn X Y i j :=
  Finset.sum_congr rfl fun r _ => by rw [hf, hg, ent_eq X r.isLt hi, ent_eq Y r.isLt hj]

/-- The same with the factors the other way round. -/
theorem tn_of' {X : Mat n k} {Y : Mat n l} {i j : ℕ} {f g : Fin n → EReal} (hi : i < k) (hj : j < l)
    (hf : ∀ r, f r = X (ix2 r ⟨i, hi⟩)) (hg : ∀ r, g r = Y (ix2 r ⟨j, hj⟩)) : ∑ r, g r * f r = tn X Y i j :=
  (Finset.sum_congr rfl fun r _ => mul_comm _ _).trans (tn_of hi hj hf hg)

/-- A sum of products along row `i` of `X` and row `j` of `Y` is an entry of `nt`. -/
theorem nt_of {X : Mat n k} {Y : Mat l k} {i j : ℕ} {f g : Fin k → EReal} (hi : i < n) (hj : j < l)
    (hf : ∀ r, f r = X (ix2 ⟨i, hi⟩ r)) (hg : ∀ r, g r = Y (ix2 ⟨j, hj⟩ r)) : ∑ r, f r * g r = nt X Y i j :=
  Finset.sum_congr rfl fun r _ => by rw [hf, hg, ent_eq X hi r.isLt, ent_eq Y hj r.isLt]

/-- A sum of products along row `i` of `X` and column `j` of `Y` is an entry of `nn`. -/
theorem nn_of {X : Mat n k} {Y : Mat k l} {i j : ℕ} {f g : Fin k → EReal} (hi : i < n) (hj : j < l)
    (hf : ∀ r, f r = X (ix2 ⟨i, hi⟩ r)) (hg : ∀ r, g r = Y (ix2 r ⟨j, hj⟩)) : ∑ r, f r * g r = nn X Y i j :=
  Finset.sum_congr rfl fun r _ => by rw [hf, hg, ent_eq X hi r.isLt, ent_eq Y r.isLt hj]

end Cert.Product

end
-- ==== Proof.Glu.lean ====
/-
  The gradients of the gate and the up half of a gated activation, from the cotangent of the down projection's output: each
  grid point multiplies rows of the cotangent by one block of weights and passes the product through the gating backwards.
-/
module

public import proofs.«01_k».proof.Defs
public import proofs.«01_k».proof.Pre_finite_inputs2
public import proofs.«01_k».proof.Proof.Pre
public import proofs.«01_k».proof.Proof.Products
public import proofs.«01_k».proof.Proof.Gen.Kernel2Ideal.Value
public import proofs.«01_k».proof.Proof.Gen.Reference2Ideal.Run
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxHeartbeats 1000000

noncomputable section

open Idealize.ShloMosaic Idealize.ShloMosaic.TcCoe Cert.Product Cert.Gate

namespace Cert.Gate

/-- The logistic function of any extended real is finite. -/
theorem logistic_fin (x : EReal) : IsFin (Ideal.logistic x) := by
  induction x with
  | bot => rw [Ideal.logistic_bot]; exact IsFin.zero
  | top => rw [Ideal.logistic_top]; exact IsFin.one
  | coe r => rw [Ideal.logistic_coe]; exact ⟨_, rfl⟩

/-- A finite factor distributes over a sum one term of which is finite. -/
theorem IsFin.mul_add {x p : EReal} (hx : IsFin x) (hp : IsFin p) (q : EReal) : x * (p + q) = x * p + x * q := by
  obtain ⟨r, rfl⟩ := hx
  obtain ⟨s, rfl⟩ := hp
  rw [← EReal.coe_mul r s]
  induction q with
  | coe t => exact_mod_cast _root_.mul_add r s t
  | bot =>
    rw [EReal.add_bot]
    rcases lt_trichotomy r 0 with h | rfl | h
    · rw [EReal.coe_mul_bot_of_neg h, EReal.coe_add_top]
    · simp
    · rw [EReal.coe_mul_bot_of_pos h, EReal.add_bot]
  | top =>
    rw [EReal.coe_add_top]
    rcases lt_trichotomy r 0 with h | rfl | h
    · rw [EReal.coe_mul_top_of_neg h, EReal.add_bot]
    · simp
    · rw [EReal.coe_mul_top_of_pos h, EReal.coe_add_top]

/-- The gate's gradient for the gate `a`, the up half `b` and the cotangent `d` of the activation: the product rule on
    `a` times its logistic. -/
def dgate (d a b : EReal) : EReal :=
  d * b * Ideal.logistic a + a * (d * b) * (Ideal.logistic a * (1 - Ideal.logistic a))

/-- The same with the common factor taken out. -/
theorem dgate_eq {d b : EReal} (hd : IsFin d) (hb : IsFin b) (a : EReal) :
    d * b * (Ideal.logistic a + a * Ideal.logistic a * (1 - Ideal.logistic a)) = dgate d a b := by
  rw [(hd.mul hb).mul_add (logistic_fin a)]
  unfold dgate
  congr 1
  ac_rfl

end Cert.Gate

namespace Cert.Pre_finite_inputs2

/-- The precondition's shape relations hold. -/
theorem facts : Facts := by
  constructor <;> decide

variable [Facts]
open Facts

/-- The precondition makes the cotangent, the weights and the up half finite. -/
theorem finite {x0 : FVec Ideal S2048x1024 .f32} {x1 : FVec Ideal S4096x1024 .f32} {x2 x3 : FVec Ideal S2048x4096 .f32}
    (h : fn (F := Ideal) x0 x1 x2 x3 = fun _ => 1#1) :
    (∀ i, IsFin (x0 i)) ∧ (∀ i, IsFin (x1 i)) ∧ (∀ i, IsFin (x3 i)) := by
  haveI := Cert.Pre_finite_inputs.facts
  have e := congrFun h ix0
  dsimp only [fn, fn_part1] at e
  obtain ⟨e, e3⟩ := IntOp.andi_eq_one.1 e
  obtain ⟨e0, e1⟩ := IntOp.andi_eq_one.1 e
  exact ⟨Cert.Pre_finite_inputs.fin_of_all _ _ _ _ e0, Cert.Pre_finite_inputs.fin_of_all _ _ _ _ e1,
    Cert.Pre_finite_inputs.fin_of_all _ _ _ _ e3⟩

end Cert.Pre_finite_inputs2

namespace Cert.Kernel2Ideal.Gen

variable (m : (ℓ : Loc nD τ sig) → Buf (Elt Ideal) ℓ) (c : Dev nD)

/-- The cotangent of the down projection's output. -/
abbrev df : Vec Ideal S2048x1024 .f32 := m ((c : Thread nD τ).loc main_arg0)
/-- The down projection's weights. -/
abbrev wd : Vec Ideal S4096x1024 .f32 := m ((c : Thread nD τ).loc main_arg1)
/-- The gate. -/
abbrev ga : Vec Ideal S2048x4096 .f32 := m ((c : Thread nD τ).loc main_arg2)
/-- The up half. -/
abbrev ub : Vec Ideal S2048x4096 .f32 := m ((c : Thread nD τ).loc main_arg3)

/-- The cotangent moves by rows with the first coordinate, the weights by row blocks with the second, the activations and
    the results with both. -/
theorem idx : ∀ t : Fin cfg0.N, win0_0.index t = ![t.val / 4, 0] ∧ win0_1.index t = ![t.val % 4, 0, 0]
    ∧ win0_2.index t = ![t.val / 4, t.val % 4] ∧ win0_3.index t = ![t.val / 4, t.val % 4]
    ∧ win0_4.index t = ![t.val / 4, t.val % 4] ∧ win0_5.index t = ![t.val / 4, t.val % 4] :=
  (by decide +kernel : ∀ t : Fin grid0.N, _)

/-- The cotangent as the kernel reads it. -/
theorem V_main_v0 : (V m c main_v0 : Vec Ideal S2048x1024 .bf16) = df m c := by
  unfold V
  simp only [hostOps0]
  entry_read
  rfl

/-- The weights as the kernel reads them, cut into blocks of rows. -/
theorem V_main_v2 (q : Fin 4) (j r : Fin 1024) : (V m c main_v2 : Vec Ideal S4x1024x1024 .bf16) (ix3 q j r)
    = wd m c (ix2 ⟨1024 * q.val + j.val, by omega⟩ r) := by
  unfold V
  simp only [hostOps0]
  entry_read
  pointwise
  congr 2
  apply Fin.ext; dsimp; omega

/-- The product of a point: the cotangent of the activation. -/
theorem pay1 (t : Fin cfg0.N) (i : Fin 512) (j : Fin 1024) : k0_pay1 (iblk m c 0 t) (iblk m c 1 t) (ix2 i j)
    = nt (df m c) (wd m c) (512 * (t.val / 4) + i.val) (1024 * (t.val % 4) + j.val) := by
  have hN : t.val < 16 := lt_of_lt_of_eq t.isLt N_0
  pointwise [k0_pay1]
  refine nt_of (by omega) (by omega) (fun r => ?_) fun r => ?_
  · rw [← V_main_v0 m c]
    blk_ext [iblk, idx t]
  · refine Eq.trans ?_ (V_main_v2 m c ⟨t.val % 4, by omega⟩ j r)
    blk_ext [iblk, idx t]

/-- The gate of a point. -/
theorem tile2 (t : Fin cfg0.N) (i : Fin 512) (j : Fin 1024) : (iblk m c 2 t : Vec Ideal S512x1024 .f32) (ix2 i j)
    = ent (ga m c) (512 * (t.val / 4) + i.val) (1024 * (t.val % 4) + j.val) := by
  have hN : t.val < 16 := lt_of_lt_of_eq t.isLt N_0
  rw [ent_eq _ (by omega) (by omega)]
  refine Eq.trans ?_ (congrFun (V_main_arg2 m c) _)
  blk_ext [iblk, idx t]

/-- The up half of a point. -/
theorem tile3 (t : Fin cfg0.N) (i : Fin 512) (j : Fin 1024) : (iblk m c 3 t : Vec Ideal S512x1024 .f32) (ix2 i j)
    = ent (ub m c) (512 * (t.val / 4) + i.val) (1024 * (t.val % 4) + j.val) := by
  have hN : t.val < 16 := lt_of_lt_of_eq t.isLt N_0
  rw [ent_eq _ (by omega) (by omega)]
  refine Eq.trans ?_ (congrFun (V_main_arg3 m c) _)
  blk_ext [iblk, idx t]

/-- The array of the gate's gradient, where the product and the up half are finite. -/
theorem arr4 (h : ∀ i j, IsFin (nt (df m c) (wd m c) i j)) (hb : ∀ i j, IsFin (ent (ub m c) i j)) :
    (dats m 0 c).arrAt 4 cfg0.N = (fun y => dgate (nt (df m c) (wd m c) (y 0).val (y 1).val)
      (ent (ga m c) (y 0).val (y 1).val) (ent (ub m c) (y 0).val (y 1).val) : Vec Ideal S2048x4096 .bf16) := by
  refine (dats m 0 c).arrAt_eq_of_covers 4 _ (by decide +kernel) fun t hf y => ?_
  blk_simp
  rw [after0_4]
  obtain ⟨i, j, rfl⟩ := exists_ix2 y
  frame_out
  pointwise [k0_pay4, k0_pay3, k0_pay2]
  rw [pay1, tile2, tile3]
  refine (dgate_eq (h _ _) (hb _ _) _).trans ?_
  blk_simp [idx t]
  rw [Nat.mul_comm 512 (t.val / 4), Nat.mul_comm 1024 (t.val % 4)]

/-- The array of the up half's gradient. -/
theorem arr5 : (dats m 0 c).arrAt 5 cfg0.N = (fun y => nt (df m c) (wd m c) (y 0).val (y 1).val
      * (ent (ga m c) (y 0).val (y 1).val * Ideal.logistic (ent (ga m c) (y 0).val (y 1).val)) : Vec Ideal S2048x4096 .bf16) := by
  refine (dats m 0 c).arrAt_eq_of_covers 5 _ (by decide +kernel) fun t hf y => ?_
  blk_simp
  rw [after0_5]
  obtain ⟨i, j, rfl⟩ := exists_ix2 y
  frame_out
  pointwise [k0_pay5, k0_pay3, k0_pay2]
  rw [pay1, tile2]
  blk_simp [idx t]
  rw [Nat.mul_comm 512 (t.val / 4), Nat.mul_comm 1024 (t.val % 4)]

/-- Finite factors give finite products. -/
theorem nt_fin (h0 : ∀ i, IsFin (df m c i)) (h1 : ∀ i, IsFin (wd m c i)) (i j : ℕ) : IsFin (nt (df m c) (wd m c) i j) :=
  IsFin.sum _ _ fun r => (at2_fin _ _ _ fun _ _ => h0 _).mul (at2_fin _ _ _ fun _ _ => h1 _)

end Cert.Kernel2Ideal.Gen

namespace Cert.Reference2Ideal.Value

open Cert.Reference2Ideal.Gen

/-- The reference's product. -/
theorem dot (x : FVec Ideal S2048x1024 .f32) (w : FVec Ideal S4096x1024 .f32) (i : Fin 2048) (j : Fin 4096) :
    Host.dotGeneral dot_S2048x1024_S4096x1024_S2048x4096_1_1_0_0_n_n none x w (ix2 i j) = nt x w i.val j.val := by
  pointwise
  exact nt_of i.isLt j.isLt (fun r => rfl) (fun r => rfl)

/-- The logistic function as the reference writes it out. -/
abbrev sig' (a : FVec Ideal S2048x4096 .f32) : FVec Ideal S2048x4096 .f32 :=
  Host.divf (broadcastInDim S2048x4096 ![] bcast_S_S2048x4096 (constant S_ .f32 0x3F800000#32))
    (addf (broadcastInDim S2048x4096 ![] bcast_S_S2048x4096 (constant S_ .f32 0x3F800000#32)) (Host.exp (Host.negf a)))

/-- The reference's gradient of the gate. -/
theorem res4 (d a b : FVec Ideal S2048x4096 .f32) (i : Fin 2048) (j : Fin 4096) :
    truncf .bf16 (addf (mulf (mulf d b) (sig' a)) (mulf (mulf a (mulf d b)) (mulf (sig' a)
      (subf (broadcastInDim S2048x4096 ![] bcast_S_S2048x4096 (constant S_ .f32 0x3F800000#32)) (sig' a))))) bitsLt_bf16_f32 (ix2 i j)
    = dgate (d (ix2 i j)) (a (ix2 i j)) (b (ix2 i j)) := by
  pointwise
  rfl

/-- The reference's gradient of the up half. -/
theorem res5 (d a : FVec Ideal S2048x4096 .f32) (i : Fin 2048) (j : Fin 4096) :
    truncf .bf16 (mulf (mulf a (sig' a)) d) bitsLt_bf16_f32 (ix2 i j)
    = d (ix2 i j) * (a (ix2 i j) * Ideal.logistic (a (ix2 i j))) := by
  pointwise
  exact mul_comm _ _

variable [Cert.Pre_finite_inputs2.Facts]

/-- The kernel computes the reference's two gradients, where the cotangent, the weights and the up half are finite. -/
theorem algebraic : Cert.algebraic_Kernel2Ideal_Reference2Ideal_pre_finite_inputs2 := by
  intro m g m' g' hp ha
  refine ⟨fun c => (Cert.Kernel2Ideal.Gen.dats m 0 c).arrAt 4 Cert.Kernel2Ideal.cfg0.N,
    fun c => (Cert.Kernel2Ideal.Gen.dats m 0 c).arrAt 5 Cert.Kernel2Ideal.cfg0.N, Cert.Kernel2Ideal.Value.run_blocks m g, ?_⟩
  refine (θ_run Cert.Reference2Ideal.defs _ _).mono (fun r h c => ?_) (run (F := Ideal) m' g')
  obtain ⟨r4, r5, kept⟩ := h c
  obtain ⟨a0, a1, a2, a3⟩ := ha c
  obtain ⟨h0, h1, h3⟩ := Cert.Pre_finite_inputs2.finite (hp c)
  rw [a0, a1, a2, a3] at r4
  rw [a0, a1, a2] at r5
  refine ⟨r4.trans (Eq.trans ?_ (Cert.Kernel2Ideal.Gen.arr4 m c (Cert.Kernel2Ideal.Gen.nt_fin m c h0 h1)
      (fun i j => at2_fin _ _ _ fun _ _ => h3 _)).symm), r5.trans (Eq.trans ?_ (Cert.Kernel2Ideal.Gen.arr5 m c).symm), kept⟩
  · funext y
    obtain ⟨i, j, rfl⟩ := exists_ix2 y
    refine (res4 _ _ _ _ _).trans ?_
    rw [dot]
    exact congrArg₂ (dgate _) (ent_eq _ i.isLt j.isLt).symm (ent_eq _ i.isLt j.isLt).symm
  · funext y
    obtain ⟨i, j, rfl⟩ := exists_ix2 y
    refine (res5 _ _ _ _).trans ?_
    rw [dot]
    exact congrArg (fun z : EReal => nt _ _ _ _ * (z * Ideal.logistic z)) (ent_eq _ i.isLt j.isLt).symm

end Cert.Reference2Ideal.Value

end
-- ==== Proof.Partial.lean ====
/-
  A product accumulated over blocks of its inner dimension: the partial product of a block, the sum of the partial products,
  and the accumulator a kernel carries from one grid point to the next.
-/
module

public import proofs.«01_k».proof.Proof.Products
public import Idealize.ShloMosaic.Lib.Pipeline.ValueKit

@[expose] public section

noncomputable section

namespace Cert.Product

open Idealize.ShloMosaic Cert.Gate

variable {n k l : ℕ}

/-- The part of an entry of `X` times the transpose of `Y` that block `q` of `b` columns contributes. -/
def ntPart (b : ℕ) (X : Mat n k) (Y : Mat l k) (i j q : ℕ) : EReal :=
  ∑ r : Fin b, ent X i (b * q + r.val) * ent Y j (b * q + r.val)

/-- The part of an entry of `X` times `Y` that block `q` of `b` columns and rows contributes. -/
def nnPart (b : ℕ) (X : Mat n k) (Y : Mat k l) (i j q : ℕ) : EReal :=
  ∑ r : Fin b, ent X i (b * q + r.val) * ent Y (b * q + r.val) j

/-- A sum of products over a block of the columns of `X` and of `Y` is a part of an entry. -/
theorem ntPart_of {b : ℕ} {X : Mat n k} {Y : Mat l k} {i j q : ℕ} {f g : Fin b → EReal} (hi : i < n) (hj : j < l)
    (hq : ∀ r : Fin b, b * q + r.val < k) (hf : ∀ r, f r = X (ix2 ⟨i, hi⟩ ⟨b * q + r.val, hq r⟩))
    (hg : ∀ r, g r = Y (ix2 ⟨j, hj⟩ ⟨b * q + r.val, hq r⟩)) : ∑ r, f r * g r = ntPart b X Y i j q :=
  Finset.sum_congr rfl fun r _ => by rw [hf, hg, ent_eq X hi (hq r), ent_eq Y hj (hq r)]

/-- A sum of products over a block of the columns of `X` and the rows of `Y` is a part of an entry. -/
theorem nnPart_of {b : ℕ} {X : Mat n k} {Y : Mat k l} {i j q : ℕ} {f g : Fin b → EReal} (hi : i < n) (hj : j < l)
    (hq : ∀ r : Fin b, b * q + r.val < k) (hf : ∀ r, f r = X (ix2 ⟨i, hi⟩ ⟨b * q + r.val, hq r⟩))
    (hg : ∀ r, g r = Y (ix2 ⟨b * q + r.val, hq r⟩ ⟨j, hj⟩)) : ∑ r, f r * g r = nnPart b X Y i j q :=
  Finset.sum_congr rfl fun r _ => by rw [hf, hg, ent_eq X hi (hq r), ent_eq Y (hq r) hj]

/-- A sum over blocks and over the places of a block is the sum over all places. -/
theorem sum_blocks {s b : ℕ} (h : k = s * b) (f : ℕ → EReal) :
    ∑ q : Fin s, ∑ r : Fin b, f (b * q.val + r.val) = ∑ r : Fin k, f r.val := by
  rw [← Fin.sum_mul_add_fin s b (fun r : Fin k => f r.val) h]
  exact Finset.sum_congr rfl fun q _ => Finset.sum_congr rfl fun r _ => by rw [Nat.mul_comm]

/-- The parts of an entry of `X` times the transpose of `Y` add up to it. -/
theorem sum_ntPart {s b : ℕ} (h : k = s * b) (X : Mat n k) (Y : Mat l k) (i j : ℕ) :
    ∑ q : Fin s, ntPart b X Y i j q.val = nt X Y i j :=
  sum_blocks h fun r => ent X i r * ent Y j r

/-- The parts of an entry of `X` times `Y` add up to it. -/
theorem sum_nnPart {s b : ℕ} (h : k = s * b) (X : Mat n k) (Y : Mat k l) (i j : ℕ) :
    ∑ q : Fin s, nnPart b X Y i j q.val = nn X Y i j :=
  sum_blocks h fun r => ent X i r * ent Y r j

/-- An accumulator carried over the points of a grid in runs of `K`: the first point of a run stores its term, every further
    point but the last adds its own, and the last one writes out the accumulator plus its own term. What the last one writes
    out is the sum of the run's terms. -/
theorem carried {N K : ℕ} (acc out : ∀ t, t < N → EReal) (P : ℕ → ℕ → EReal) (hK : 2 ≤ K)
    (first : ∀ t : Fin N, t.val % K = 0 → acc t.val t.isLt = P (t.val / K) (t.val % K))
    (step : ∀ t : Fin N, 1 ≤ t.val % K → t.val % K + 1 < K →
      acc t.val t.isLt = acc (t.val - 1) (Nat.lt_of_le_of_lt (Nat.sub_le _ _) t.isLt) + P (t.val / K) (t.val % K))
    (last : ∀ t : Fin N, t.val % K + 1 = K →
      out t.val t.isLt = acc (t.val - 1) (Nat.lt_of_le_of_lt (Nat.sub_le _ _) t.isLt) + P (t.val / K) (t.val % K))
    (t : Fin N) (ht : t.val % K + 1 = K) : out t.val t.isLt = ∑ q : Fin K, P (t.val / K) q.val := by
  have run : ∀ j q (h : K * q + j < N), j + 1 < K → acc (K * q + j) h = ∑ r : Fin (j + 1), P q r.val := by
    intro j
    induction j with
    | zero =>
      intro q h hj
      have e := first ⟨K * q + 0, h⟩ (by simp)
      simp only [Nat.add_zero, Nat.mul_mod_right, Nat.mul_div_cancel_left q (by omega : 0 < K)] at e
      simpa using e
    | succ j ih =>
      intro q h hj
      have hm : (K * q + (j + 1)) % K = j + 1 := by rw [Nat.mul_add_mod]; exact Nat.mod_eq_of_lt (by omega)
      have hd : (K * q + (j + 1)) / K = q := by
        rw [Nat.mul_add_div (by omega), Nat.div_eq_of_lt (by omega : j + 1 < K), Nat.add_zero]
      have e := step ⟨K * q + (j + 1), h⟩ (by simp only [hm]; omega) (by simp only [hm]; omega)
      simp only [hm, hd] at e
      rw [Fin.sum_univ_castSucc]
      exact e.trans (congrArg (· + P q (j + 1)) (ih q (by omega) (by omega)))
  obtain ⟨J, rfl⟩ : ∃ J, K = J + 2 := ⟨K - 2, by omega⟩
  have hm : t.val % (J + 2) = J + 1 := by omega
  have hdm := Nat.div_add_mod t.val (J + 2)
  rw [last t ht, Fin.sum_univ_castSucc, hm]
  refine congrArg (· + P (t.val / (J + 2)) (J + 1)) ?_
  have hlt : (J + 2) * (t.val / (J + 2)) + J < N := by have := t.isLt; omega
  have he : t.val - 1 = (J + 2) * (t.val / (J + 2)) + J := by omega
  refine Eq.trans ?_ (run J _ hlt (by omega))
  congr 1

end Cert.Product

end
-- ==== Proof.Pair.lean ====
/-
  The gradient of the input of the gate and up projections: for each of two blocks of rows, four blocks of the gate's columns
  and then four of the up half's are multiplied and accumulated in one accumulator.
-/
module

public import proofs.«01_k».proof.Defs
public import proofs.«01_k».proof.Proof.Partial
public import proofs.«01_k».proof.Proof.Gen.Kernel3Ideal.Value
public import proofs.«01_k».proof.Proof.Gen.Reference3Ideal.Run
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxHeartbeats 1000000

noncomputable section

open Idealize.ShloMosaic Idealize.ShloMosaic.TcCoe Cert.Product Cert.Gate

namespace Cert.Kernel3Ideal.Gen

variable (m : (ℓ : Loc nD τ sig) → Buf (Elt Ideal) ℓ) (c : Dev nD)

/-- The gate's cotangent. -/
abbrev da : Vec Ideal S2048x4096 .f32 := m ((c : Thread nD τ).loc main_arg0)
/-- The up half's cotangent. -/
abbrev db : Vec Ideal S2048x4096 .f32 := m ((c : Thread nD τ).loc main_arg1)
/-- The gate's weights. -/
abbrev wg : Vec Ideal S1024x4096 .f32 := m ((c : Thread nD τ).loc main_arg2)
/-- The up half's weights. -/
abbrev wu : Vec Ideal S1024x4096 .f32 := m ((c : Thread nD τ).loc main_arg3)

/-- The gate's cotangent and weights move over the first four steps and stay, the up half's stay and move over the last
    four; the result moves with the first coordinate. -/
theorem idx : ∀ t : Fin cfg0.N, win0_0.index t = ![t.val / 8, min (t.val % 8) 3] ∧ win0_1.index t = ![t.val / 8, t.val % 8 - 4]
    ∧ win0_2.index t = ![min (t.val % 8) 3, 0, 0] ∧ win0_3.index t = ![t.val % 8 - 4, 0, 0] ∧ win0_4.index t = ![t.val / 8, 0] :=
  (by decide +kernel : ∀ t : Fin grid0.N, _)

/-- The two cotangents as the kernel reads them. -/
theorem entry : (V m c main_v0 : Vec Ideal S2048x4096 .bf16) = da m c ∧ (V m c main_v1 : Vec Ideal S2048x4096 .bf16) = db m c := by
  constructor <;> (unfold V; simp only [hostOps0]; entry_read; rfl)

/-- The two arrays of weights as the kernel reads them, cut into blocks of columns. -/
theorem weights (q : Fin 4) (j r : Fin 1024) :
    (V m c main_v4 : Vec Ideal S4x1024x1024 .bf16) (ix3 q j r) = wg m c (ix2 j ⟨1024 * q.val + r.val, by omega⟩)
    ∧ (V m c main_v7 : Vec Ideal S4x1024x1024 .bf16) (ix3 q j r) = wu m c (ix2 j ⟨1024 * q.val + r.val, by omega⟩) := by
  constructor <;>
  · unfold V; simp only [hostOps0]; entry_read
    pointwise
    congr 2
    apply Fin.ext; dsimp; omega

/-- A row of a block of a cotangent times a row of a block of weights. -/
def rowDot (x : FVec Ideal S1024x1024 .bf16) (w : FVec Ideal S1x1024x1024 .bf16) (i j : Fin 1024) : EReal :=
  ∑ r : Fin 1024, (x (ix2 i r) : EReal) * w (ix3 0 j r)

/-- The block of the gate's cotangent times the block of the gate's weights, in the first four steps. -/
theorem prodGate (t : Fin cfg0.N) (h : t.val % 8 < 4) (i j : Fin 1024) :
    rowDot (iblk m c 0 t) (iblk m c 2 t) i j
    = ntPart 1024 (da m c) (wg m c) (1024 * (t.val / 8) + i.val) j.val (t.val % 8) := by
  have hN : t.val < 16 := lt_of_lt_of_eq t.isLt N_0
  have hk : min (t.val % 8) 3 = t.val % 8 := by omega
  unfold rowDot
  refine ntPart_of (by omega) j.isLt (by omega) (fun r => ?_) fun r => ?_
  · rw [← (entry m c).1]
    blk_ext [iblk, idx t, hk]
  · refine Eq.trans ?_ (weights m c ⟨t.val % 8, h⟩ j r).1
    blk_ext [iblk, idx t, hk]

/-- The block of the up half's cotangent times the block of its weights, in the last four steps. -/
theorem prodUp (t : Fin cfg0.N) (h : 4 ≤ t.val % 8) (i j : Fin 1024) :
    rowDot (iblk m c 1 t) (iblk m c 3 t) i j
    = ntPart 1024 (db m c) (wu m c) (1024 * (t.val / 8) + i.val) j.val (t.val % 8 - 4) := by
  have hN : t.val < 16 := lt_of_lt_of_eq t.isLt N_0
  unfold rowDot
  refine ntPart_of (by omega) j.isLt (by omega) (fun r => ?_) fun r => ?_
  · rw [← (entry m c).2]
    blk_ext [iblk, idx t]
  · refine Eq.trans ?_ (weights m c ⟨t.val % 8 - 4, by omega⟩ j r).2
    blk_ext [iblk, idx t]

/-- The term of step `q` of the block `a` of rows, at row `i` of the block and column `j`. -/
def term (i j a q : ℕ) : EReal :=
  if q < 4 then ntPart 1024 (da m c) (wg m c) (1024 * a + i) j q else ntPart 1024 (db m c) (wu m c) (1024 * a + i) j (q - 4)

/-- The eight terms are the two products. -/
theorem sum_term (i j a : ℕ) : ∑ q : Fin 8, term m c i j a q.val
    = nt (da m c) (wg m c) (1024 * a + i) j + nt (db m c) (wu m c) (1024 * a + i) j := by
  rw [← sum_ntPart (s := 4) (b := 1024) (by norm_num) (da m c), ← sum_ntPart (s := 4) (b := 1024) (by norm_num) (db m c)]
  refine (Fin.sum_univ_add (a := 4) (b := 4) fun q => term m c i j a q.val).trans (congrArg₂ (· + ·) ?_ ?_)
  · exact Finset.sum_congr rfl fun q _ => if_pos q.isLt
  · refine Finset.sum_congr rfl fun q _ => (if_neg (by simp)).trans ?_
    simp

/-- What the last point of a block of rows writes out. -/
theorem last (t : Fin cfg0.N) (ht : t.val % 8 + 1 = 8) (i j : Fin 1024) : (outsAt0 m c t.val t.isLt).1 (ix2 i j)
    = nt (da m c) (wg m c) (1024 * (t.val / 8) + i.val) j.val + nt (db m c) (wu m c) (1024 * (t.val / 8) + i.val) j.val := by
  refine (carried (K := 8) (fun n h => (outsAt0 m c n h).2 (ix2 i j)) (fun n h => (outsAt0 m c n h).1 (ix2 i j))
    (term m c i.val j.val) (by omega) (fun t h => ?_) (fun t h h' => ?_) (fun t h => ?_) t ht).trans (sum_term m c _ _ _)
  · rw [outsAt0_A m c t h (by omega) (by omega) (by omega)]; frame_out
    pointwise [k0_pay1]
    exact (prodGate m c t (by omega) i j).trans (if_pos (by omega : t.val % 8 < 4)).symm
  · by_cases h4 : t.val % 8 < 4
    · rw [outsAt0_B m c t (by omega) (by omega) (by omega) (by omega)]; frame_out
      pointwise [k0_pay2]
      refine congrArg₂ (· + ·) (congrFun (Memref.IsWhole.read_unread _ _) _) ?_
      exact ((prodGate m c t h4 i j).trans (if_pos h4).symm)
    · rw [outsAt0_C m c t (by omega) (by omega) (by omega) (by omega)]; frame_out
      pointwise [k0_pay3]
      refine congrArg₂ (· + ·) (congrFun (Memref.IsWhole.read_unread _ _) _) ?_
      exact ((prodUp m c t (by omega) i j).trans (if_neg h4).symm)
  · rw [outsAt0_D m c t (by omega) (by omega) (by omega) (by omega)]; frame_out
    pointwise [k0_pay4]
    refine congrArg₂ (· + ·) (congrFun (Memref.IsWhole.read_unread _ _) _) ?_
    exact ((prodUp m c t (by omega) i j).trans (if_neg (by omega : ¬t.val % 8 < 4)).symm)

/-- The kernel's result. -/
theorem arr4 : (dats m 0 c).arrAt 4 cfg0.N
    = (fun y => nt (da m c) (wg m c) (y 0).val (y 1).val + nt (db m c) (wu m c) (y 0).val (y 1).val
        : Vec Ideal S2048x1024 .f32) := by
  refine (dats m 0 c).arrAt_eq_of_covers 4 _ (by decide +kernel) fun t hf y => ?_
  have ht := (flush0_4 t).1 hf
  blk_simp
  rw [after0_4]
  obtain ⟨i, j, rfl⟩ := exists_ix2 y
  refine (last m c t (by omega) i j).trans ?_
  blk_simp [idx t]
  rw [Nat.mul_comm 1024 (t.val / 8)]

end Cert.Kernel3Ideal.Gen

namespace Cert.Reference3Ideal.Value

open Cert.Reference3Ideal.Gen

/-- One of the reference's two products. -/
theorem dot (x : FVec Ideal S2048x4096 .f32) (w : FVec Ideal S1024x4096 .f32) (i : Fin 2048) (j : Fin 1024) :
    Host.dotGeneral dot_S2048x4096_S1024x4096_S2048x1024_1_1_0_0_n_n none x w (ix2 i j) = nt x w i.val j.val := by
  pointwise
  exact nt_of i.isLt j.isLt (fun r => rfl) (fun r => rfl)

/-- The kernel computes the reference's gradient of the input of the gate and up projections. -/
theorem algebraic : Cert.algebraic_Kernel3Ideal_Reference3Ideal := by
  intro m g m' g' _ ha
  refine ⟨fun c => (Cert.Kernel3Ideal.Gen.dats m 0 c).arrAt 4 Cert.Kernel3Ideal.cfg0.N, Cert.Kernel3Ideal.Value.run_blocks m g, ?_⟩
  refine (θ_run Cert.Reference3Ideal.defs _ _).mono (fun r h c => ⟨(h c).1.trans ?_, (h c).2⟩) (run (F := Ideal) m' g')
  obtain ⟨a0, a1, a2, a3⟩ := ha c
  rw [a0, a1, a2, a3]
  refine Eq.trans ?_ (Cert.Kernel3Ideal.Gen.arr4 m c).symm
  funext y
  obtain ⟨i, j, rfl⟩ := exists_ix2 y
  exact (congrArg₂ (· + ·) (dot _ _ i j) (dot _ _ i j)).trans (add_comm _ _)

end Cert.Reference3Ideal.Value

end
-- ==== Proof.WGate.lean ====
/-
  The gradient of the gate and up projections: the kernel's four column blocks, and the reference's product cut into them.
-/
module

public import proofs.«01_k».proof.Defs
public import proofs.«01_k».proof.Proof.Products
public import proofs.«01_k».proof.Proof.Gen.Kernel4Ideal.Value
public import proofs.«01_k».proof.Proof.Gen.Reference4Ideal.Run
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxHeartbeats 1000000

noncomputable section

namespace Cert.Kernel4Ideal.Gen

open Idealize.ShloMosaic Idealize.ShloMosaic.TcCoe Cert.Product Cert.Gate

/-- One block of the product. -/
theorem pay1 (x y : Vec Ideal S2048x1024 .bf16) (i j : Fin 1024) :
    k0_pay1 x y (ix3 0 i j) = ∑ r : Fin 2048, x (ix2 r i) * y (ix2 r j) := by
  pointwise [k0_pay1]

variable (m : (ℓ : Loc nD τ sig) → Buf (Elt Ideal) ℓ) (c : Dev nD)

/-- Where the windows stand at each point. -/
theorem idx : ∀ t : Fin cfg0.N, win0_0.index t = ![0, 0] ∧ win0_1.index t = ![0, t.val] ∧ win0_2.index t = ![t.val, 0, 0] :=
  (by decide +kernel : ∀ t : Fin grid0.N, _)

/-- The layer's input as the kernel reads it. -/
theorem V_main_v0 : (V m c main_v0 : Vec Ideal S2048x1024 .bf16) = (m ((c : Thread nD τ).loc main_arg0) : Vec Ideal S2048x1024 .f32) := by
  unfold V
  simp only [hostOps0]
  entry_read
  rfl

/-- The cotangent as the kernel reads it. -/
theorem V_main_v1 : (V m c main_v1 : Vec Ideal S2048x4096 .bf16) = (m ((c : Thread nD τ).loc main_arg1) : Vec Ideal S2048x4096 .f32) := by
  unfold V
  simp only [hostOps0]
  entry_read
  rfl

/-- The layer's input, whole at every point. -/
theorem tile0 (t : Fin cfg0.N) (r : Fin 2048) (i : Fin 1024) :
    (iblk m c 0 t : Vec Ideal S2048x1024 .bf16) (ix2 r i)
      = (m ((c : Thread nD τ).loc main_arg0) : Vec Ideal S2048x1024 .f32) (ix2 r i) := by
  rw [← V_main_v0 m c]
  blk_ext [iblk, idx t]

/-- The cotangent's columns of a point. -/
theorem tile1 (t : Fin cfg0.N) (r : Fin 2048) (j : Fin 1024) (hj : 1024 * t.val + j.val < 4096) :
    (iblk m c 1 t : Vec Ideal S2048x1024 .bf16) (ix2 r j)
      = (m ((c : Thread nD τ).loc main_arg1) : Vec Ideal S2048x4096 .f32) (ix2 r ⟨1024 * t.val + j.val, hj⟩) := by
  rw [← V_main_v1 m c]
  blk_ext [iblk, idx t]

/-- The kernel's result: block `y 0` holds the product's columns from `1024 * y 0`. -/
theorem arr2 : (dats m 0 c).arrAt 2 cfg0.N
    = (fun y => tn (m ((c : Thread nD τ).loc main_arg0) : Vec Ideal S2048x1024 .f32)
        (m ((c : Thread nD τ).loc main_arg1) : Vec Ideal S2048x4096 .f32) (y 1).val (1024 * (y 0).val + (y 2).val)
        : Vec Ideal S4x1024x1024 .bf16) := by
  refine (dats m 0 c).arrAt_eq_of_covers 2 _ (by decide +kernel) fun t hf y => ?_
  blk_simp
  rw [after0_2]
  obtain ⟨z, i, j, rfl⟩ := exists_ix3 y
  obtain rfl : z = 0 := Subsingleton.elim _ _
  have hN : t.val < 4 := lt_of_lt_of_eq t.isLt N_0
  frame_out
  rw [pay1]
  refine (tn_of i.isLt (by omega : 1024 * t.val + j.val < 4096) (fun r => tile0 m c t r i)
    (fun r => tile1 m c t r j (by omega))).trans ?_
  blk_simp [idx t]

end Cert.Kernel4Ideal.Gen

namespace Cert.Reference4Ideal.Value

open Idealize.ShloMosaic Idealize.ShloMosaic.TcCoe Cert.Product Cert.Gate Cert.Reference4Ideal.Gen

/-- The reference's result. -/
theorem res (x : FVec Ideal S2048x1024 .f32) (y : FVec Ideal S2048x4096 .f32) :
    truncf .bf16 (transpose S4x1024x1024 [1, 0, 2] (shapeCast _ (transpose S1024x4096 [1, 0]
      (Host.dotGeneral dot_S2048x4096_S2048x1024_S4096x1024_0_0_1_1_n_n none y x)
      transposes_S4096x1024_S1024x4096_1_0) shapeCasts_S1024x4096_S1024x4x1024) transposes_S1024x4x1024_S4x1024x1024_1_0_2) bitsLt_bf16_f32
    = (fun i => tn x y (i 1).val (1024 * (i 0).val + (i 2).val) : FVec Ideal S4x1024x1024 .bf16) := by
  funext i
  obtain ⟨q, i, j, rfl⟩ := exists_ix3 i
  pointwise
  refine (tn_of' i.isLt (by omega) (fun r => rfl) (fun r => ?_)).trans rfl
  congr 2
  apply Fin.ext; dsimp; omega

/-- The kernel computes the reference's gradient. -/
theorem algebraic : Cert.algebraic_Kernel4Ideal_Reference4Ideal := by
  intro m g m' g' _ ha
  refine ⟨fun c => (Cert.Kernel4Ideal.Gen.dats m 0 c).arrAt 2 Cert.Kernel4Ideal.cfg0.N, Cert.Kernel4Ideal.Value.run_blocks m g, ?_⟩
  refine (θ_run Cert.Reference4Ideal.defs _ _).mono (fun r h c => ?_) (run (F := Ideal) m' g')
  obtain ⟨r0, kept⟩ := h c
  obtain ⟨a0, a1⟩ := ha c
  refine ⟨?_, kept⟩
  rw [r0, a0, a1]
  exact (res _ _).trans (Cert.Kernel4Ideal.Gen.arr2 m c).symm

end Cert.Reference4Ideal.Value

end
-- ==== Proof.WDown.lean ====
/-
  The gradient of the down projection: the kernel's four row blocks, and the reference's product cut into them.
-/
module

public import proofs.«01_k».proof.Defs
public import proofs.«01_k».proof.Proof.Products
public import proofs.«01_k».proof.Proof.Gen.Kernel5Ideal.Value
public import proofs.«01_k».proof.Proof.Gen.Reference5Ideal.Run
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxHeartbeats 1000000

noncomputable section

namespace Cert.Kernel5Ideal.Gen

open Idealize.ShloMosaic Idealize.ShloMosaic.TcCoe Cert.Product Cert.Gate

/-- One block of the product. -/
theorem pay1 (x y : Vec Ideal S2048x1024 .bf16) (i j : Fin 1024) :
    k0_pay1 x y (ix3 0 i j) = ∑ r : Fin 2048, x (ix2 r i) * y (ix2 r j) := by
  pointwise [k0_pay1]

variable (m : (ℓ : Loc nD τ sig) → Buf (Elt Ideal) ℓ) (c : Dev nD)

/-- Where the windows stand at each point. -/
theorem idx : ∀ t : Fin cfg0.N, win0_0.index t = ![0, t.val] ∧ win0_1.index t = ![0, 0] ∧ win0_2.index t = ![t.val, 0, 0] :=
  (by decide +kernel : ∀ t : Fin grid0.N, _)

/-- The gated activations as the kernel reads them. -/
theorem V_main_v0 : (V m c main_v0 : Vec Ideal S2048x4096 .bf16) = (m ((c : Thread nD τ).loc main_arg0) : Vec Ideal S2048x4096 .f32) := by
  unfold V
  simp only [hostOps0]
  entry_read
  rfl

/-- The cotangent as the kernel reads it. -/
theorem V_main_v1 : (V m c main_v1 : Vec Ideal S2048x1024 .bf16) = (m ((c : Thread nD τ).loc main_arg1) : Vec Ideal S2048x1024 .f32) := by
  unfold V
  simp only [hostOps0]
  entry_read
  rfl

/-- The columns of the gated activations of a point. -/
theorem tile0 (t : Fin cfg0.N) (r : Fin 2048) (i : Fin 1024) (hi : 1024 * t.val + i.val < 4096) :
    (iblk m c 0 t : Vec Ideal S2048x1024 .bf16) (ix2 r i)
      = (m ((c : Thread nD τ).loc main_arg0) : Vec Ideal S2048x4096 .f32) (ix2 r ⟨1024 * t.val + i.val, hi⟩) := by
  rw [← V_main_v0 m c]
  blk_ext [iblk, idx t]

/-- The cotangent, whole at every point. -/
theorem tile1 (t : Fin cfg0.N) (r : Fin 2048) (j : Fin 1024) :
    (iblk m c 1 t : Vec Ideal S2048x1024 .bf16) (ix2 r j)
      = (m ((c : Thread nD τ).loc main_arg1) : Vec Ideal S2048x1024 .f32) (ix2 r j) := by
  rw [← V_main_v1 m c]
  blk_ext [iblk, idx t]

/-- The kernel's result: block `y 0` holds the product's rows from `1024 * y 0`. -/
theorem arr2 : (dats m 0 c).arrAt 2 cfg0.N
    = (fun y => tn (m ((c : Thread nD τ).loc main_arg0) : Vec Ideal S2048x4096 .f32)
        (m ((c : Thread nD τ).loc main_arg1) : Vec Ideal S2048x1024 .f32) (1024 * (y 0).val + (y 1).val) (y 2).val
        : Vec Ideal S4x1024x1024 .bf16) := by
  refine (dats m 0 c).arrAt_eq_of_covers 2 _ (by decide +kernel) fun t hf y => ?_
  blk_simp
  rw [after0_2]
  obtain ⟨z, i, j, rfl⟩ := exists_ix3 y
  obtain rfl : z = 0 := Subsingleton.elim _ _
  have hN : t.val < 4 := lt_of_lt_of_eq t.isLt N_0
  frame_out
  rw [pay1]
  refine (tn_of (by omega : 1024 * t.val + i.val < 4096) j.isLt (fun r => tile0 m c t r i (by omega))
    (fun r => tile1 m c t r j)).trans ?_
  blk_simp [idx t]

end Cert.Kernel5Ideal.Gen

namespace Cert.Reference5Ideal.Value

open Idealize.ShloMosaic Idealize.ShloMosaic.TcCoe Cert.Product Cert.Gate Cert.Reference5Ideal.Gen

/-- The reference's result. -/
theorem res (x : FVec Ideal S2048x4096 .f32) (y : FVec Ideal S2048x1024 .f32) :
    truncf .bf16 (shapeCast _ (transpose S4096x1024 [1, 0]
      (Host.dotGeneral dot_S2048x1024_S2048x4096_S1024x4096_0_0_1_1_n_n none y x)
      transposes_S1024x4096_S4096x1024_1_0) shapeCasts_S4096x1024_S4x1024x1024) bitsLt_bf16_f32
    = (fun i => tn x y (1024 * (i 0).val + (i 1).val) (i 2).val : FVec Ideal S4x1024x1024 .bf16) := by
  funext i
  obtain ⟨q, i, j, rfl⟩ := exists_ix3 i
  pointwise
  refine (tn_of' (by omega) j.isLt (fun r => ?_) (fun r => rfl)).trans rfl
  congr 2
  apply Fin.ext; dsimp; omega

/-- The kernel computes the reference's gradient. -/
theorem algebraic : Cert.algebraic_Kernel5Ideal_Reference5Ideal := by
  intro m g m' g' _ ha
  refine ⟨fun c => (Cert.Kernel5Ideal.Gen.dats m 0 c).arrAt 2 Cert.Kernel5Ideal.cfg0.N, Cert.Kernel5Ideal.Value.run_blocks m g, ?_⟩
  refine (θ_run Cert.Reference5Ideal.defs _ _).mono (fun r h c => ?_) (run (F := Ideal) m' g')
  obtain ⟨r0, kept⟩ := h c
  obtain ⟨a0, a1⟩ := ha c
  refine ⟨?_, kept⟩
  rw [r0, a0, a1]
  exact (res _ _).trans (Cert.Kernel5Ideal.Gen.arr2 m c).symm

end Cert.Reference5Ideal.Value

end
-- ==== Proof.WProj.lean ====
/-
  The gradients of the two kinds of projection around the mixing: the input projection, whose weights are cut by columns,
  and a square output projection, whose weights are cut by rows. Each kernel's four blocks are the reference's product cut.
-/
module

public import proofs.«01_k».proof.Defs
public import proofs.«01_k».proof.Proof.Products
public import proofs.«01_k».proof.Proof.Gen.Kernel6Ideal.Value
public import proofs.«01_k».proof.Proof.Gen.Kernel7Ideal.Value
public import proofs.«01_k».proof.Proof.Gen.Reference6Ideal.Run
public import proofs.«01_k».proof.Proof.Gen.Reference7Ideal.Run
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxHeartbeats 1000000

noncomputable section

open Idealize.ShloMosaic Idealize.ShloMosaic.TcCoe Cert.Product Cert.Gate

namespace Cert.Kernel6Ideal.Gen

variable (m : (ℓ : Loc nD τ sig) → Buf (Elt Ideal) ℓ) (c : Dev nD)

/-- The input is whole at every point; the cotangent's columns and the result's block move with the point. -/
theorem idx : ∀ t : Fin cfg0.N, win0_0.index t = ![0, 0] ∧ win0_1.index t = ![0, t.val] ∧ win0_2.index t = ![t.val, 0, 0] :=
  (by decide +kernel : ∀ t : Fin grid0.N, _)

/-- The two arrays the region finds are the arguments, their format apart. -/
theorem entry : (V m c main_v0 : Vec Ideal S2048x1024 .bf16) = (m ((c : Thread nD τ).loc main_arg0) : Vec Ideal S2048x1024 .f32)
    ∧ (V m c main_v1 : Vec Ideal S2048x6144 .bf16) = (m ((c : Thread nD τ).loc main_arg1) : Vec Ideal S2048x6144 .f32) := by
  constructor <;> (unfold V; simp only [hostOps0]; entry_read; rfl)

/-- The kernel's result: block `y 0` holds the product's columns from `1536 * y 0`. -/
theorem arr2 : (dats m 0 c).arrAt 2 cfg0.N
    = (fun y => tn (m ((c : Thread nD τ).loc main_arg0) : Vec Ideal S2048x1024 .f32)
        (m ((c : Thread nD τ).loc main_arg1) : Vec Ideal S2048x6144 .f32) (y 1).val (1536 * (y 0).val + (y 2).val)
        : Vec Ideal S4x1024x1536 .bf16) := by
  refine (dats m 0 c).arrAt_eq_of_covers 2 _ (by decide +kernel) fun t hf y => ?_
  blk_simp
  rw [after0_2]
  obtain ⟨z, i, j, rfl⟩ := exists_ix3 y
  obtain rfl : z = 0 := Subsingleton.elim _ _
  have hN : t.val < 4 := lt_of_lt_of_eq t.isLt N_0
  frame_out
  pointwise [k0_pay1]
  rw [← (entry m c).1, ← (entry m c).2]
  refine (tn_of (X := (V m c main_v0 : Vec Ideal S2048x1024 .bf16)) (Y := (V m c main_v1 : Vec Ideal S2048x6144 .bf16))
    i.isLt (by omega : 1536 * t.val + j.val < 6144) (fun r => ?_) (fun r => ?_)).trans ?_
  · blk_ext [iblk, idx t]
  · blk_ext [iblk, idx t]
  · blk_simp [idx t]

end Cert.Kernel6Ideal.Gen

namespace Cert.Reference6Ideal.Value

open Cert.Reference6Ideal.Gen

/-- The kernel computes the reference's gradient of the input projection. -/
theorem algebraic : Cert.algebraic_Kernel6Ideal_Reference6Ideal := by
  intro m g m' g' _ ha
  refine ⟨fun c => (Cert.Kernel6Ideal.Gen.dats m 0 c).arrAt 2 Cert.Kernel6Ideal.cfg0.N, Cert.Kernel6Ideal.Value.run_blocks m g, ?_⟩
  refine (θ_run Cert.Reference6Ideal.defs _ _).mono (fun r h c => ⟨(h c).1.trans ?_, (h c).2⟩) (run (F := Ideal) m' g')
  rw [(ha c).1, (ha c).2]
  refine Eq.trans ?_ (Cert.Kernel6Ideal.Gen.arr2 m c).symm
  funext y
  obtain ⟨q, i, j, rfl⟩ := exists_ix3 y
  pointwise
  refine (tn_of' i.isLt (by omega : 1536 * q.val + j.val < 6144) (fun r => rfl) (fun r => ?_)).trans rfl
  congr 2
  apply Fin.ext; dsimp; omega

end Cert.Reference6Ideal.Value

namespace Cert.Kernel7Ideal.Gen

variable (m : (ℓ : Loc nD τ sig) → Buf (Elt Ideal) ℓ) (c : Dev nD)

/-- The input's columns and the result's block move with the point; the cotangent is whole at every point. -/
theorem idx : ∀ t : Fin cfg0.N, win0_0.index t = ![0, t.val] ∧ win0_1.index t = ![0, 0] ∧ win0_2.index t = ![t.val, 0, 0] :=
  (by decide +kernel : ∀ t : Fin grid0.N, _)

/-- The two arrays the region finds are the arguments, their format apart. -/
theorem entry : (V m c main_v0 : Vec Ideal S2048x1024 .bf16) = (m ((c : Thread nD τ).loc main_arg0) : Vec Ideal S2048x1024 .f32)
    ∧ (V m c main_v1 : Vec Ideal S2048x1024 .bf16) = (m ((c : Thread nD τ).loc main_arg1) : Vec Ideal S2048x1024 .f32) := by
  constructor <;> (unfold V; simp only [hostOps0]; entry_read; rfl)

/-- The kernel's result: block `y 0` holds the product's rows from `256 * y 0`. -/
theorem arr2 : (dats m 0 c).arrAt 2 cfg0.N
    = (fun y => tn (m ((c : Thread nD τ).loc main_arg0) : Vec Ideal S2048x1024 .f32)
        (m ((c : Thread nD τ).loc main_arg1) : Vec Ideal S2048x1024 .f32) (256 * (y 0).val + (y 1).val) (y 2).val
        : Vec Ideal S4x256x1024 .bf16) := by
  refine (dats m 0 c).arrAt_eq_of_covers 2 _ (by decide +kernel) fun t hf y => ?_
  blk_simp
  rw [after0_2]
  obtain ⟨z, i, j, rfl⟩ := exists_ix3 y
  obtain rfl : z = 0 := Subsingleton.elim _ _
  have hN : t.val < 4 := lt_of_lt_of_eq t.isLt N_0
  frame_out
  pointwise [k0_pay1]
  rw [← (entry m c).1, ← (entry m c).2]
  refine (tn_of (X := (V m c main_v0 : Vec Ideal S2048x1024 .bf16)) (Y := (V m c main_v1 : Vec Ideal S2048x1024 .bf16))
    (by omega : 256 * t.val + i.val < 1024) j.isLt (fun r => ?_) (fun r => ?_)).trans ?_
  · blk_ext [iblk, idx t]
  · blk_ext [iblk, idx t]
  · blk_simp [idx t]

end Cert.Kernel7Ideal.Gen

namespace Cert.Reference7Ideal.Value

open Cert.Reference7Ideal.Gen

/-- The kernel computes the reference's gradient of a square output projection. -/
theorem algebraic : Cert.algebraic_Kernel7Ideal_Reference7Ideal := by
  intro m g m' g' _ ha
  refine ⟨fun c => (Cert.Kernel7Ideal.Gen.dats m 0 c).arrAt 2 Cert.Kernel7Ideal.cfg0.N, Cert.Kernel7Ideal.Value.run_blocks m g, ?_⟩
  refine (θ_run Cert.Reference7Ideal.defs _ _).mono (fun r h c => ⟨(h c).1.trans ?_, (h c).2⟩) (run (F := Ideal) m' g')
  rw [(ha c).1, (ha c).2]
  refine Eq.trans ?_ (Cert.Kernel7Ideal.Gen.arr2 m c).symm
  funext y
  obtain ⟨q, i, j, rfl⟩ := exists_ix3 y
  pointwise
  refine (tn_of' (by omega : 256 * q.val + i.val < 1024) j.isLt (fun r => ?_) (fun r => rfl)).trans rfl
  congr 2
  apply Fin.ext; dsimp; omega

end Cert.Reference7Ideal.Value

end
-- ==== Proof.DIn.lean ====
/-
  The gradient of the input projection's input: for each of two blocks of rows, four blocks of columns are multiplied and
  accumulated.
-/
module

public import proofs.«01_k».proof.Defs
public import proofs.«01_k».proof.Proof.Partial
public import proofs.«01_k».proof.Proof.Gen.Kernel8Ideal.Value
public import proofs.«01_k».proof.Proof.Gen.Reference8Ideal.Run
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxHeartbeats 1000000

noncomputable section

open Idealize.ShloMosaic Idealize.ShloMosaic.TcCoe Cert.Product Cert.Gate

namespace Cert.Kernel8Ideal.Gen

variable (m : (ℓ : Loc nD τ sig) → Buf (Elt Ideal) ℓ) (c : Dev nD)

/-- The cotangent of the projection. -/
abbrev dy : Vec Ideal S2048x6144 .f32 := m ((c : Thread nD τ).loc main_arg0)
/-- The projection's weights. -/
abbrev wi : Vec Ideal S1024x6144 .f32 := m ((c : Thread nD τ).loc main_arg1)

/-- The cotangent moves with both coordinates, the weights with the second, the result with the first. -/
theorem idx : ∀ t : Fin cfg0.N, win0_0.index t = ![t.val / 4, t.val % 4] ∧ win0_1.index t = ![t.val % 4, 0, 0]
    ∧ win0_2.index t = ![t.val / 4, 0] :=
  (by decide +kernel : ∀ t : Fin grid0.N, _)

/-- The cotangent as the kernel reads it. -/
theorem V_main_v0 : (V m c main_v0 : Vec Ideal S2048x6144 .bf16) = dy m c := by
  unfold V
  simp only [hostOps0]
  entry_read
  rfl

/-- The weights as the kernel reads them, cut into blocks of columns. -/
theorem V_main_v3 (q : Fin 4) (j : Fin 1024) (r : Fin 1536) : (V m c main_v3 : Vec Ideal S4x1024x1536 .bf16) (ix3 q j r)
    = wi m c (ix2 j ⟨1536 * q.val + r.val, by omega⟩) := by
  unfold V
  simp only [hostOps0]
  entry_read
  pointwise
  congr 2
  apply Fin.ext; dsimp; omega

/-- The product of a point. -/
theorem prod (t : Fin cfg0.N) (i j : Fin 1024) : k0_pay1 (iblk m c 0 t) (iblk m c 1 t) (ix2 i j)
    = ntPart 1536 (dy m c) (wi m c) (1024 * (t.val / 4) + i.val) j.val (t.val % 4) := by
  have hN : t.val < 8 := lt_of_lt_of_eq t.isLt N_0
  pointwise [k0_pay1]
  refine ntPart_of (by omega) j.isLt (by omega) (fun r => ?_) fun r => ?_
  · rw [← V_main_v0 m c]
    blk_ext [iblk, idx t]
  · refine Eq.trans ?_ (V_main_v3 m c ⟨t.val % 4, by omega⟩ j r)
    blk_ext [iblk, idx t]

/-- What the last point of a block of rows writes out. -/
theorem last (t : Fin cfg0.N) (ht : t.val % 4 + 1 = 4) (i j : Fin 1024) :
    (outsAt0 m c t.val t.isLt).1 (ix2 i j) = nt (dy m c) (wi m c) (1024 * (t.val / 4) + i.val) j.val := by
  refine (carried (K := 4) (fun n h => (outsAt0 m c n h).2 (ix2 i j)) (fun n h => (outsAt0 m c n h).1 (ix2 i j))
    (fun a q => ntPart 1536 (dy m c) (wi m c) (1024 * a + i.val) j.val q) (by omega) (fun t h => ?_) (fun t h h' => ?_)
    (fun t h => ?_) t ht).trans (sum_ntPart (by norm_num) _ _ _ _)
  · rw [outsAt0_A m c t h (by omega) (by omega)]; frame_out
    pointwise [k0_pay2]
    exact prod m c t i j
  · rw [outsAt0_B m c t (by omega) (by omega) (by omega)]; frame_out
    pointwise [k0_pay3]
    exact congrArg₂ (· + ·) (congrFun (Memref.IsWhole.read_unread _ _) _) (prod m c t i j)
  · rw [outsAt0_C m c t (by omega) (by omega) (by omega)]; frame_out
    pointwise [k0_pay4]
    exact congrArg₂ (· + ·) (congrFun (Memref.IsWhole.read_unread _ _) _) (prod m c t i j)

/-- The kernel's result. -/
theorem arr2 : (dats m 0 c).arrAt 2 cfg0.N
    = (fun y => nt (dy m c) (wi m c) (y 0).val (y 1).val : Vec Ideal S2048x1024 .f32) := by
  refine (dats m 0 c).arrAt_eq_of_covers 2 _ (by decide +kernel) fun t hf y => ?_
  have ht := (flush0_2 t).1 hf
  blk_simp
  rw [after0_2]
  obtain ⟨i, j, rfl⟩ := exists_ix2 y
  refine (last m c t (by omega) i j).trans ?_
  blk_simp [idx t]
  rw [Nat.mul_comm 1024 (t.val / 4)]

end Cert.Kernel8Ideal.Gen

namespace Cert.Reference8Ideal.Value

open Cert.Reference8Ideal.Gen

/-- The kernel computes the reference's gradient of the input projection's input. -/
theorem algebraic : Cert.algebraic_Kernel8Ideal_Reference8Ideal := by
  intro m g m' g' _ ha
  refine ⟨fun c => (Cert.Kernel8Ideal.Gen.dats m 0 c).arrAt 2 Cert.Kernel8Ideal.cfg0.N, Cert.Kernel8Ideal.Value.run_blocks m g, ?_⟩
  refine (θ_run Cert.Reference8Ideal.defs _ _).mono (fun r h c => ⟨(h c).1.trans ?_, (h c).2⟩) (run (F := Ideal) m' g')
  rw [(ha c).1, (ha c).2]
  refine Eq.trans ?_ (Cert.Kernel8Ideal.Gen.arr2 m c).symm
  funext y
  obtain ⟨i, j, rfl⟩ := exists_ix2 y
  pointwise
  exact nt_of i.isLt j.isLt (fun r => rfl) (fun r => rfl)

end Cert.Reference8Ideal.Value

end
-- ==== Proof.DOut.lean ====
/-
  The gradient of a row-sharded projection's input: each grid point multiplies rows of the cotangent by one block of weights.
-/
module

public import proofs.«01_k».proof.Defs
public import proofs.«01_k».proof.Proof.Products
public import proofs.«01_k».proof.Proof.Gen.Kernel9Ideal.Value
public import proofs.«01_k».proof.Proof.Gen.Reference9Ideal.Run
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxHeartbeats 1000000

noncomputable section

namespace Cert.Kernel9Ideal.Gen

open Idealize.ShloMosaic Idealize.ShloMosaic.TcCoe Cert.Product Cert.Gate

/-- One block of the product. -/
theorem pay1 (x : Vec Ideal S1024x1024 .bf16) (w : Vec Ideal S1x256x1024 .bf16) (i : Fin 1024) (j : Fin 256) :
    k0_pay1 x w (ix2 i j) = ∑ r : Fin 1024, x (ix2 i r) * w (ix3 0 j r) := by
  pointwise [k0_pay1]

variable (m : (ℓ : Loc nD τ sig) → Buf (Elt Ideal) ℓ) (c : Dev nD)

/-- Where the windows stand at each point. -/
theorem idx : ∀ t : Fin cfg0.N, win0_0.index t = ![t.val / 4, 0] ∧ win0_1.index t = ![t.val % 4, 0, 0]
    ∧ win0_2.index t = ![t.val / 4, t.val % 4] :=
  (by decide +kernel : ∀ t : Fin grid0.N, _)

/-- The cotangent as the kernel reads it. -/
theorem V_main_v0 : (V m c main_v0 : Vec Ideal S2048x1024 .bf16) = (m ((c : Thread nD τ).loc main_arg0) : Vec Ideal S2048x1024 .f32) := by
  unfold V
  simp only [hostOps0]
  entry_read
  rfl

/-- The weights as the kernel reads them, cut into blocks of rows. -/
theorem V_main_v2 (q : Fin 4) (j : Fin 256) (r : Fin 1024) : (V m c main_v2 : Vec Ideal S4x256x1024 .bf16) (ix3 q j r)
    = (m ((c : Thread nD τ).loc main_arg1) : Vec Ideal S1024x1024 .f32) (ix2 ⟨256 * q.val + j.val, by omega⟩ r) := by
  unfold V
  simp only [hostOps0]
  entry_read
  pointwise
  congr 2
  apply Fin.ext; dsimp; omega

/-- The cotangent's rows of a point. -/
theorem tile0 (t : Fin cfg0.N) (i r : Fin 1024) (hi : 1024 * (t.val / 4) + i.val < 2048) :
    (iblk m c 0 t : Vec Ideal S1024x1024 .bf16) (ix2 i r)
      = (m ((c : Thread nD τ).loc main_arg0) : Vec Ideal S2048x1024 .f32) (ix2 ⟨1024 * (t.val / 4) + i.val, hi⟩ r) := by
  rw [← V_main_v0 m c]
  blk_ext [iblk, idx t]

/-- The block of weights of a point. -/
theorem tile1 (t : Fin cfg0.N) (j : Fin 256) (r : Fin 1024) (hj : 256 * (t.val % 4) + j.val < 1024) :
    (iblk m c 1 t : Vec Ideal S1x256x1024 .bf16) (ix3 0 j r)
      = (m ((c : Thread nD τ).loc main_arg1) : Vec Ideal S1024x1024 .f32) (ix2 ⟨256 * (t.val % 4) + j.val, hj⟩ r) := by
  refine Eq.trans ?_ (V_main_v2 m c ⟨t.val % 4, by omega⟩ j r)
  blk_ext [iblk, idx t]

/-- The kernel's result. -/
theorem arr2 : (dats m 0 c).arrAt 2 cfg0.N
    = (fun y => nt (m ((c : Thread nD τ).loc main_arg0) : Vec Ideal S2048x1024 .f32)
        (m ((c : Thread nD τ).loc main_arg1) : Vec Ideal S1024x1024 .f32) (y 0).val (y 1).val : Vec Ideal S2048x1024 .f32) := by
  refine (dats m 0 c).arrAt_eq_of_covers 2 _ (by decide +kernel) fun t hf y => ?_
  blk_simp
  rw [after0_2]
  obtain ⟨i, j, rfl⟩ := exists_ix2 y
  have hN : t.val < 8 := lt_of_lt_of_eq t.isLt N_0
  frame_out
  rw [pay1]
  refine (nt_of (by omega : 1024 * (t.val / 4) + i.val < 2048) (by omega : 256 * (t.val % 4) + j.val < 1024)
    (fun r => tile0 m c t i r (by omega)) (fun r => tile1 m c t j r (by omega))).trans ?_
  blk_simp [idx t]
  congr 1 <;> omega

end Cert.Kernel9Ideal.Gen

namespace Cert.Reference9Ideal.Value

open Idealize.ShloMosaic Idealize.ShloMosaic.TcCoe Cert.Product Cert.Gate Cert.Reference9Ideal.Gen

/-- The reference's result. -/
theorem res (x : FVec Ideal S2048x1024 .f32) (w : FVec Ideal S1024x1024 .f32) :
    Host.dotGeneral dot_S2048x1024_S1024x1024_S2048x1024_1_1_0_0_n_n none x w
    = (fun i => nt x w (i 0).val (i 1).val : FVec Ideal S2048x1024 .f32) := by
  funext i
  obtain ⟨i, j, rfl⟩ := exists_ix2 i
  pointwise
  exact nt_of i.isLt j.isLt (fun r => rfl) (fun r => rfl)

/-- The kernel computes the reference's gradient. -/
theorem algebraic : Cert.algebraic_Kernel9Ideal_Reference9Ideal := by
  intro m g m' g' _ ha
  refine ⟨fun c => (Cert.Kernel9Ideal.Gen.dats m 0 c).arrAt 2 Cert.Kernel9Ideal.cfg0.N, Cert.Kernel9Ideal.Value.run_blocks m g, ?_⟩
  refine (θ_run Cert.Reference9Ideal.defs _ _).mono (fun r h c => ?_) (run (F := Ideal) m' g')
  obtain ⟨r0, kept⟩ := h c
  obtain ⟨a0, a1⟩ := ha c
  refine ⟨?_, kept⟩
  rw [r0, a0, a1]
  exact (res _ _).trans (Cert.Kernel9Ideal.Gen.arr2 m c).symm

end Cert.Reference9Ideal.Value

end
-- ==== Proof.Up.lean ====
/-
  The gate and up projections of a feed-forward layer, and the gated activation: each grid point multiplies rows of the
  input by one block of each weight matrix, and gates the two products.
-/
module

public import proofs.«01_k».proof.Defs
public import proofs.«01_k».proof.Proof.Products
public import proofs.«01_k».proof.Proof.Gen.Kernel10Ideal.Value
public import proofs.«01_k».proof.Proof.Gen.Reference10Ideal.Run
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxHeartbeats 1000000

noncomputable section

open Idealize.ShloMosaic Idealize.ShloMosaic.TcCoe Cert.Product Cert.Gate

namespace Cert.Kernel10Ideal.Gen

variable (m : (ℓ : Loc nD τ sig) → Buf (Elt Ideal) ℓ) (c : Dev nD)

/-- The layer's input. -/
abbrev inp : Vec Ideal S2048x1024 .f32 := m ((c : Thread nD τ).loc main_arg0)
/-- The gate projection's weights. -/
abbrev gate : Vec Ideal S1024x4096 .f32 := m ((c : Thread nD τ).loc main_arg1)
/-- The up projection's weights. -/
abbrev up : Vec Ideal S1024x4096 .f32 := m ((c : Thread nD τ).loc main_arg2)

/-- The input and the results move by rows with the first coordinate; the weights and the results by column blocks with
    the second. -/
theorem idx : ∀ t : Fin cfg0.N, win0_0.index t = ![t.val / 4, 0] ∧ win0_1.index t = ![t.val % 4, 0, 0]
    ∧ win0_2.index t = ![t.val % 4, 0, 0] ∧ win0_3.index t = ![t.val / 4, t.val % 4]
    ∧ win0_4.index t = ![t.val / 4, t.val % 4] ∧ win0_5.index t = ![t.val / 4, t.val % 4] :=
  (by decide +kernel : ∀ t : Fin grid0.N, _)

/-- The input as the kernel reads it. -/
theorem V_main_v0 : (V m c main_v0 : Vec Ideal S2048x1024 .bf16) = inp m c := by
  unfold V
  simp only [hostOps0]
  entry_read
  rfl

/-- The gate's weights as the kernel reads them, cut into blocks of columns. -/
theorem V_main_v3 (q : Fin 4) (r j : Fin 1024) : (V m c main_v3 : Vec Ideal S4x1024x1024 .bf16) (ix3 q r j)
    = gate m c (ix2 r ⟨1024 * q.val + j.val, by omega⟩) := by
  unfold V
  simp only [hostOps0]
  entry_read
  pointwise
  congr 2
  apply Fin.ext; dsimp; omega

/-- The up weights as the kernel reads them, cut into blocks of columns. -/
theorem V_main_v6 (q : Fin 4) (r j : Fin 1024) : (V m c main_v6 : Vec Ideal S4x1024x1024 .bf16) (ix3 q r j)
    = up m c (ix2 r ⟨1024 * q.val + j.val, by omega⟩) := by
  unfold V
  simp only [hostOps0]
  entry_read
  pointwise
  congr 2
  apply Fin.ext; dsimp; omega

/-- The input's rows of a point. -/
theorem tile0 (t : Fin cfg0.N) (i r : Fin 1024) (hi : 1024 * (t.val / 4) + i.val < 2048) :
    (iblk m c 0 t : Vec Ideal S1024x1024 .bf16) (ix2 i r) = inp m c (ix2 ⟨1024 * (t.val / 4) + i.val, hi⟩ r) := by
  rw [← V_main_v0 m c]
  blk_ext [iblk, idx t]

/-- The gate product of a point. -/
theorem pay2 (t : Fin cfg0.N) (i j : Fin 1024) : k0_pay2 (iblk m c 0 t) (iblk m c 1 t) (ix2 i j)
    = nn (inp m c) (gate m c) (1024 * (t.val / 4) + i.val) (1024 * (t.val % 4) + j.val) := by
  have hN : t.val < 8 := lt_of_lt_of_eq t.isLt N_0
  pointwise [k0_pay2, k0_pay1]
  refine nn_of (by omega) (by omega) (fun r => tile0 m c t i r (by omega)) fun r => ?_
  refine Eq.trans ?_ (V_main_v3 m c ⟨t.val % 4, by omega⟩ r j)
  blk_ext [iblk, idx t]

/-- The up product of a point. -/
theorem pay3 (t : Fin cfg0.N) (i j : Fin 1024) : k0_pay3 (iblk m c 0 t) (iblk m c 2 t) (ix2 i j)
    = nn (inp m c) (up m c) (1024 * (t.val / 4) + i.val) (1024 * (t.val % 4) + j.val) := by
  have hN : t.val < 8 := lt_of_lt_of_eq t.isLt N_0
  pointwise [k0_pay3, k0_pay1]
  refine nn_of (by omega) (by omega) (fun r => tile0 m c t i r (by omega)) fun r => ?_
  refine Eq.trans ?_ (V_main_v6 m c ⟨t.val % 4, by omega⟩ r j)
  blk_ext [iblk, idx t]

/-- The gate product's array. -/
theorem arr3 : (dats m 0 c).arrAt 3 cfg0.N
    = (fun y => nn (inp m c) (gate m c) (y 0).val (y 1).val : Vec Ideal S2048x4096 .f32) := by
  refine (dats m 0 c).arrAt_eq_of_covers 3 _ (by decide +kernel) fun t hf y => ?_
  blk_simp
  rw [after0_3]
  obtain ⟨i, j, rfl⟩ := exists_ix2 y
  frame_out
  refine (pay2 m c t i j).trans ?_
  blk_simp [idx t]
  congr 1 <;> omega

/-- The up product's array. -/
theorem arr4 : (dats m 0 c).arrAt 4 cfg0.N
    = (fun y => nn (inp m c) (up m c) (y 0).val (y 1).val : Vec Ideal S2048x4096 .f32) := by
  refine (dats m 0 c).arrAt_eq_of_covers 4 _ (by decide +kernel) fun t hf y => ?_
  blk_simp
  rw [after0_4]
  obtain ⟨i, j, rfl⟩ := exists_ix2 y
  frame_out
  refine (pay3 m c t i j).trans ?_
  blk_simp [idx t]
  congr 1 <;> omega

/-- The gated activation's array. -/
theorem arr5 : (dats m 0 c).arrAt 5 cfg0.N
    = (fun y => nn (inp m c) (gate m c) (y 0).val (y 1).val * Ideal.logistic (nn (inp m c) (gate m c) (y 0).val (y 1).val)
        * nn (inp m c) (up m c) (y 0).val (y 1).val : Vec Ideal S2048x4096 .bf16) := by
  refine (dats m 0 c).arrAt_eq_of_covers 5 _ (by decide +kernel) fun t hf y => ?_
  blk_simp
  rw [after0_5]
  obtain ⟨i, j, rfl⟩ := exists_ix2 y
  frame_out
  pointwise [k0_pay4]
  rw [pay2, pay3]
  blk_simp [idx t]
  rw [Nat.mul_comm 1024 (t.val / 4), Nat.mul_comm 1024 (t.val % 4)]

end Cert.Kernel10Ideal.Gen

namespace Cert.Reference10Ideal.Value

open Cert.Reference10Ideal.Gen

/-- A product of the reference. -/
theorem dot (x : FVec Ideal S2048x1024 .f32) (w : FVec Ideal S1024x4096 .f32) (i : Fin 2048) (j : Fin 4096) :
    Host.dotGeneral dot_S2048x1024_S1024x4096_S2048x4096_1_0_0_1_n_n none x w (ix2 i j) = nn x w i.val j.val := by
  pointwise
  exact nn_of i.isLt j.isLt (fun r => rfl) (fun r => rfl)

/-- The reference's gating of two arrays. -/
theorem glu (a b : FVec Ideal S2048x4096 .f32) (i : Fin 2048) (j : Fin 4096) :
    truncf .bf16 (mulf (mulf a (Host.divf (broadcastInDim S2048x4096 ![] bcast_S_S2048x4096 (constant S_ .f32 0x3F800000#32))
      (addf (broadcastInDim S2048x4096 ![] bcast_S_S2048x4096 (constant S_ .f32 0x3F800000#32)) (Host.exp (Host.negf a))))) b)
      bitsLt_bf16_f32 (ix2 i j) = a (ix2 i j) * Ideal.logistic (a (ix2 i j)) * b (ix2 i j) := by
  pointwise
  rfl

/-- The kernel computes the reference's two products and its gated activation. -/
theorem algebraic : Cert.algebraic_Kernel10Ideal_Reference10Ideal := by
  intro m g m' g' _ ha
  refine ⟨fun c => (Cert.Kernel10Ideal.Gen.dats m 0 c).arrAt 3 Cert.Kernel10Ideal.cfg0.N,
    fun c => (Cert.Kernel10Ideal.Gen.dats m 0 c).arrAt 4 Cert.Kernel10Ideal.cfg0.N,
    fun c => (Cert.Kernel10Ideal.Gen.dats m 0 c).arrAt 5 Cert.Kernel10Ideal.cfg0.N, Cert.Kernel10Ideal.Value.run_blocks m g, ?_⟩
  refine (θ_run Cert.Reference10Ideal.defs _ _).mono (fun r h c => ?_) (run (F := Ideal) m' g')
  obtain ⟨r3, r4, r5, kept⟩ := h c
  obtain ⟨a0, a1, a2⟩ := ha c
  rw [a0, a1] at r3
  rw [a0, a2] at r4
  rw [a0, a1, a2] at r5
  refine ⟨r3.trans (Eq.trans ?_ (Cert.Kernel10Ideal.Gen.arr3 m c).symm), r4.trans (Eq.trans ?_ (Cert.Kernel10Ideal.Gen.arr4 m c).symm),
    r5.trans (Eq.trans ?_ (Cert.Kernel10Ideal.Gen.arr5 m c).symm), kept⟩
  · funext y
    obtain ⟨i, j, rfl⟩ := exists_ix2 y
    exact dot _ _ i j
  · funext y
    obtain ⟨i, j, rfl⟩ := exists_ix2 y
    exact dot _ _ i j
  · funext y
    obtain ⟨i, j, rfl⟩ := exists_ix2 y
    refine (glu _ _ _ _).trans ?_
    rw [dot, dot]
    rfl

end Cert.Reference10Ideal.Value

end
-- ==== Proof.Fwd.lean ====
/-
  The two forward products whose inner dimension is cut by rows of the weights: the down projection of a gated activation and
  a square output projection. Each of two blocks of rows accumulates four partial products.
-/
module

public import proofs.«01_k».proof.Defs
public import proofs.«01_k».proof.Proof.Partial
public import proofs.«01_k».proof.Proof.Gen.Kernel11Ideal.Value
public import proofs.«01_k».proof.Proof.Gen.Kernel13Ideal.Value
public import proofs.«01_k».proof.Proof.Gen.Reference11Ideal.Run
public import proofs.«01_k».proof.Proof.Gen.Reference13Ideal.Run
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxHeartbeats 1000000

noncomputable section

open Idealize.ShloMosaic Idealize.ShloMosaic.TcCoe Cert.Product Cert.Gate

namespace Cert.Kernel11Ideal.Gen

variable (m : (ℓ : Loc nD τ sig) → Buf (Elt Ideal) ℓ) (c : Dev nD)

/-- The activation. -/
abbrev act : Vec Ideal S2048x4096 .f32 := m ((c : Thread nD τ).loc main_arg0)
/-- The down projection's weights. -/
abbrev wd : Vec Ideal S4096x1024 .f32 := m ((c : Thread nD τ).loc main_arg1)

/-- The activation moves with both coordinates, the weights with the second, the result with the first. -/
theorem idx : ∀ t : Fin cfg0.N, win0_0.index t = ![t.val / 4, t.val % 4] ∧ win0_1.index t = ![t.val % 4, 0, 0]
    ∧ win0_2.index t = ![t.val / 4, 0] :=
  (by decide +kernel : ∀ t : Fin grid0.N, _)

/-- The activation as the kernel reads it. -/
theorem V_main_v0 : (V m c main_v0 : Vec Ideal S2048x4096 .bf16) = act m c := by
  unfold V; simp only [hostOps0]; entry_read; rfl

/-- The weights as the kernel reads them, cut into blocks of rows. -/
theorem V_main_v2 (q : Fin 4) (r j : Fin 1024) : (V m c main_v2 : Vec Ideal S4x1024x1024 .bf16) (ix3 q r j)
    = wd m c (ix2 ⟨1024 * q.val + r.val, by omega⟩ j) := by
  unfold V; simp only [hostOps0]; entry_read
  pointwise
  congr 2
  apply Fin.ext; dsimp; omega

/-- The product of a point. -/
theorem prod (t : Fin cfg0.N) (i j : Fin 1024) : k0_pay1 (iblk m c 0 t) (iblk m c 1 t) (ix2 i j)
    = nnPart 1024 (act m c) (wd m c) (1024 * (t.val / 4) + i.val) j.val (t.val % 4) := by
  have hN : t.val < 8 := lt_of_lt_of_eq t.isLt N_0
  pointwise [k0_pay1]
  refine nnPart_of (by omega) j.isLt (by omega) (fun r => ?_) fun r => ?_
  · rw [← V_main_v0 m c]
    blk_ext [iblk, idx t]
  · refine Eq.trans ?_ (V_main_v2 m c ⟨t.val % 4, by omega⟩ r j)
    blk_ext [iblk, idx t]

/-- What the last point of a block of rows writes out. -/
theorem last (t : Fin cfg0.N) (ht : t.val % 4 + 1 = 4) (i j : Fin 1024) :
    (outsAt0 m c t.val t.isLt).1 (ix2 i j) = nn (act m c) (wd m c) (1024 * (t.val / 4) + i.val) j.val := by
  refine (carried (K := 4) (fun n h => (outsAt0 m c n h).2 (ix2 i j)) (fun n h => (outsAt0 m c n h).1 (ix2 i j))
    (fun a q => nnPart 1024 (act m c) (wd m c) (1024 * a + i.val) j.val q) (by omega) (fun t h => ?_) (fun t h h' => ?_)
    (fun t h => ?_) t ht).trans (sum_nnPart (by norm_num) _ _ _ _)
  · rw [outsAt0_A m c t h (by omega) (by omega)]; frame_out
    pointwise [k0_pay2]
    exact prod m c t i j
  · rw [outsAt0_B m c t (by omega) (by omega) (by omega)]; frame_out
    pointwise [k0_pay3]
    exact congrArg₂ (· + ·) (congrFun (Memref.IsWhole.read_unread _ _) _) (prod m c t i j)
  · rw [outsAt0_C m c t (by omega) (by omega) (by omega)]; frame_out
    pointwise [k0_pay4]
    exact congrArg₂ (· + ·) (congrFun (Memref.IsWhole.read_unread _ _) _) (prod m c t i j)

/-- The kernel's result. -/
theorem arr2 : (dats m 0 c).arrAt 2 cfg0.N
    = (fun y => nn (act m c) (wd m c) (y 0).val (y 1).val : Vec Ideal S2048x1024 .f32) := by
  refine (dats m 0 c).arrAt_eq_of_covers 2 _ (by decide +kernel) fun t hf y => ?_
  have ht := (flush0_2 t).1 hf
  blk_simp
  rw [after0_2]
  obtain ⟨i, j, rfl⟩ := exists_ix2 y
  refine (last m c t (by omega) i j).trans ?_
  blk_simp [idx t]
  rw [Nat.mul_comm 1024 (t.val / 4)]

end Cert.Kernel11Ideal.Gen

namespace Cert.Reference11Ideal.Value

open Cert.Reference11Ideal.Gen

/-- The kernel computes the reference's down projection. -/
theorem algebraic : Cert.algebraic_Kernel11Ideal_Reference11Ideal := by
  intro m g m' g' _ ha
  refine ⟨fun c => (Cert.Kernel11Ideal.Gen.dats m 0 c).arrAt 2 Cert.Kernel11Ideal.cfg0.N, Cert.Kernel11Ideal.Value.run_blocks m g, ?_⟩
  refine (θ_run Cert.Reference11Ideal.defs _ _).mono (fun r h c => ⟨(h c).1.trans ?_, (h c).2⟩) (run (F := Ideal) m' g')
  rw [(ha c).1, (ha c).2]
  refine Eq.trans ?_ (Cert.Kernel11Ideal.Gen.arr2 m c).symm
  funext y
  obtain ⟨i, j, rfl⟩ := exists_ix2 y
  pointwise
  exact nn_of i.isLt j.isLt (fun r => rfl) (fun r => rfl)

end Cert.Reference11Ideal.Value

namespace Cert.Kernel13Ideal.Gen

variable (m : (ℓ : Loc nD τ sig) → Buf (Elt Ideal) ℓ) (c : Dev nD)

/-- The mixed rows. -/
abbrev act : Vec Ideal S2048x1024 .f32 := m ((c : Thread nD τ).loc main_arg0)
/-- The output projection's weights. -/
abbrev wo : Vec Ideal S1024x1024 .f32 := m ((c : Thread nD τ).loc main_arg1)

/-- The rows move with both coordinates, the weights with the second, the result with the first. -/
theorem idx : ∀ t : Fin cfg0.N, win0_0.index t = ![t.val / 4, t.val % 4] ∧ win0_1.index t = ![t.val % 4, 0, 0]
    ∧ win0_2.index t = ![t.val / 4, 0] :=
  (by decide +kernel : ∀ t : Fin grid0.N, _)

/-- The rows as the kernel reads them. -/
theorem V_main_v0 : (V m c main_v0 : Vec Ideal S2048x1024 .bf16) = act m c := by
  unfold V; simp only [hostOps0]; entry_read; rfl

/-- The weights as the kernel reads them, cut into blocks of rows. -/
theorem V_main_v2 (q : Fin 4) (r : Fin 256) (j : Fin 1024) : (V m c main_v2 : Vec Ideal S4x256x1024 .bf16) (ix3 q r j)
    = wo m c (ix2 ⟨256 * q.val + r.val, by omega⟩ j) := by
  unfold V; simp only [hostOps0]; entry_read
  pointwise
  congr 2
  apply Fin.ext; dsimp; omega

/-- The product of a point. -/
theorem prod (t : Fin cfg0.N) (i j : Fin 1024) : k0_pay1 (iblk m c 0 t) (iblk m c 1 t) (ix2 i j)
    = nnPart 256 (act m c) (wo m c) (1024 * (t.val / 4) + i.val) j.val (t.val % 4) := by
  have hN : t.val < 8 := lt_of_lt_of_eq t.isLt N_0
  pointwise [k0_pay1]
  refine nnPart_of (by omega) j.isLt (by omega) (fun r => ?_) fun r => ?_
  · rw [← V_main_v0 m c]
    blk_ext [iblk, idx t]
  · refine Eq.trans ?_ (V_main_v2 m c ⟨t.val % 4, by omega⟩ r j)
    blk_ext [iblk, idx t]

/-- What the last point of a block of rows writes out. -/
theorem last (t : Fin cfg0.N) (ht : t.val % 4 + 1 = 4) (i j : Fin 1024) :
    (outsAt0 m c t.val t.isLt).1 (ix2 i j) = nn (act m c) (wo m c) (1024 * (t.val / 4) + i.val) j.val := by
  refine (carried (K := 4) (fun n h => (outsAt0 m c n h).2 (ix2 i j)) (fun n h => (outsAt0 m c n h).1 (ix2 i j))
    (fun a q => nnPart 256 (act m c) (wo m c) (1024 * a + i.val) j.val q) (by omega) (fun t h => ?_) (fun t h h' => ?_)
    (fun t h => ?_) t ht).trans (sum_nnPart (by norm_num) _ _ _ _)
  · rw [outsAt0_A m c t h (by omega) (by omega)]; frame_out
    pointwise [k0_pay2]
    exact prod m c t i j
  · rw [outsAt0_B m c t (by omega) (by omega) (by omega)]; frame_out
    pointwise [k0_pay3]
    exact congrArg₂ (· + ·) (congrFun (Memref.IsWhole.read_unread _ _) _) (prod m c t i j)
  · rw [outsAt0_C m c t (by omega) (by omega) (by omega)]; frame_out
    pointwise [k0_pay4]
    exact congrArg₂ (· + ·) (congrFun (Memref.IsWhole.read_unread _ _) _) (prod m c t i j)

/-- The kernel's result. -/
theorem arr2 : (dats m 0 c).arrAt 2 cfg0.N
    = (fun y => nn (act m c) (wo m c) (y 0).val (y 1).val : Vec Ideal S2048x1024 .f32) := by
  refine (dats m 0 c).arrAt_eq_of_covers 2 _ (by decide +kernel) fun t hf y => ?_
  have ht := (flush0_2 t).1 hf
  blk_simp
  rw [after0_2]
  obtain ⟨i, j, rfl⟩ := exists_ix2 y
  refine (last m c t (by omega) i j).trans ?_
  blk_simp [idx t]
  rw [Nat.mul_comm 1024 (t.val / 4)]

end Cert.Kernel13Ideal.Gen

namespace Cert.Reference13Ideal.Value

open Cert.Reference13Ideal.Gen

/-- The kernel computes the reference's output projection. -/
theorem algebraic : Cert.algebraic_Kernel13Ideal_Reference13Ideal := by
  intro m g m' g' _ ha
  refine ⟨fun c => (Cert.Kernel13Ideal.Gen.dats m 0 c).arrAt 2 Cert.Kernel13Ideal.cfg0.N, Cert.Kernel13Ideal.Value.run_blocks m g, ?_⟩
  refine (θ_run Cert.Reference13Ideal.defs _ _).mono (fun r h c => ⟨(h c).1.trans ?_, (h c).2⟩) (run (F := Ideal) m' g')
  rw [(ha c).1, (ha c).2]
  refine Eq.trans ?_ (Cert.Kernel13Ideal.Gen.arr2 m c).symm
  funext y
  obtain ⟨i, j, rfl⟩ := exists_ix2 y
  pointwise
  exact nn_of i.isLt j.isLt (fun r => rfl) (fun r => rfl)

end Cert.Reference13Ideal.Value

end
-- ==== Proof.InProj.lean ====
/-
  The product of a layer's input with a column-sharded weight matrix, block by block.
-/
module

public import proofs.«01_k».proof.Defs
public import proofs.«01_k».proof.Proof.Products
public import proofs.«01_k».proof.Proof.Gen.Kernel12Ideal.Value
public import proofs.«01_k».proof.Proof.Gen.Reference12Ideal.Run
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxHeartbeats 1000000

noncomputable section

namespace Cert.Kernel12Ideal.Gen

open Idealize.ShloMosaic Idealize.ShloMosaic.TcCoe Cert.Product Cert.Gate

/-- One block of the product. -/
theorem pay1 (x : Vec Ideal S1024x1024 .bf16) (w : Vec Ideal S1x1024x1536 .bf16) (i : Fin 1024) (j : Fin 1536) :
    k0_pay1 x w (ix2 i j) = ∑ r : Fin 1024, x (ix2 i r) * w (ix3 0 r j) := by
  pointwise [k0_pay1]

variable (m : (ℓ : Loc nD τ sig) → Buf (Elt Ideal) ℓ) (c : Dev nD)

/-- Where the windows stand at each point. -/
theorem idx : ∀ t : Fin cfg0.N, win0_0.index t = ![t.val / 4, 0] ∧ win0_1.index t = ![t.val % 4, 0, 0]
    ∧ win0_2.index t = ![t.val / 4, t.val % 4] :=
  (by decide +kernel : ∀ t : Fin grid0.N, _)

/-- The layer's input as the kernel reads it. -/
theorem V_main_v0 : (V m c main_v0 : Vec Ideal S2048x1024 .bf16) = (m ((c : Thread nD τ).loc main_arg0) : Vec Ideal S2048x1024 .f32) := by
  unfold V
  simp only [hostOps0]
  entry_read
  rfl

/-- The weights as the kernel reads them, cut into blocks of columns. -/
theorem V_main_v3 (q : Fin 4) (r : Fin 1024) (j : Fin 1536) : (V m c main_v3 : Vec Ideal S4x1024x1536 .bf16) (ix3 q r j)
    = (m ((c : Thread nD τ).loc main_arg1) : Vec Ideal S1024x6144 .f32) (ix2 r ⟨1536 * q.val + j.val, by omega⟩) := by
  unfold V
  simp only [hostOps0]
  entry_read
  pointwise
  congr 2
  apply Fin.ext; dsimp; omega

/-- The input's rows of a point. -/
theorem tile0 (t : Fin cfg0.N) (i r : Fin 1024) (hi : 1024 * (t.val / 4) + i.val < 2048) :
    (iblk m c 0 t : Vec Ideal S1024x1024 .bf16) (ix2 i r)
      = (m ((c : Thread nD τ).loc main_arg0) : Vec Ideal S2048x1024 .f32) (ix2 ⟨1024 * (t.val / 4) + i.val, hi⟩ r) := by
  rw [← V_main_v0 m c]
  blk_ext [iblk, idx t]

/-- The block of weights of a point. -/
theorem tile1 (t : Fin cfg0.N) (r : Fin 1024) (j : Fin 1536) (hj : 1536 * (t.val % 4) + j.val < 6144) :
    (iblk m c 1 t : Vec Ideal S1x1024x1536 .bf16) (ix3 0 r j)
      = (m ((c : Thread nD τ).loc main_arg1) : Vec Ideal S1024x6144 .f32) (ix2 r ⟨1536 * (t.val % 4) + j.val, hj⟩) := by
  refine Eq.trans ?_ (V_main_v3 m c ⟨t.val % 4, by omega⟩ r j)
  blk_ext [iblk, idx t]

/-- The kernel's result. -/
theorem arr2 : (dats m 0 c).arrAt 2 cfg0.N
    = (fun y => nn (m ((c : Thread nD τ).loc main_arg0) : Vec Ideal S2048x1024 .f32)
        (m ((c : Thread nD τ).loc main_arg1) : Vec Ideal S1024x6144 .f32) (y 0).val (y 1).val : Vec Ideal S2048x6144 .f32) := by
  refine (dats m 0 c).arrAt_eq_of_covers 2 _ (by decide +kernel) fun t hf y => ?_
  blk_simp
  rw [after0_2]
  obtain ⟨i, j, rfl⟩ := exists_ix2 y
  have hN : t.val < 8 := lt_of_lt_of_eq t.isLt N_0
  frame_out
  rw [pay1]
  refine (nn_of (by omega : 1024 * (t.val / 4) + i.val < 2048) (by omega : 1536 * (t.val % 4) + j.val < 6144)
    (fun r => tile0 m c t i r (by omega)) (fun r => tile1 m c t r j (by omega))).trans ?_
  blk_simp [idx t]
  congr 1 <;> omega

end Cert.Kernel12Ideal.Gen

namespace Cert.Reference12Ideal.Value

open Idealize.ShloMosaic Idealize.ShloMosaic.TcCoe Cert.Product Cert.Gate Cert.Reference12Ideal.Gen

/-- The reference's result. -/
theorem res (x : FVec Ideal S2048x1024 .f32) (w : FVec Ideal S1024x6144 .f32) :
    Host.dotGeneral dot_S2048x1024_S1024x6144_S2048x6144_1_0_0_1_n_n none x w
    = (fun i => nn x w (i 0).val (i 1).val : FVec Ideal S2048x6144 .f32) := by
  funext i
  obtain ⟨i, j, rfl⟩ := exists_ix2 i
  pointwise
  exact nn_of i.isLt j.isLt (fun r => rfl) (fun r => rfl)

/-- The kernel computes the reference's product. -/
theorem algebraic : Cert.algebraic_Kernel12Ideal_Reference12Ideal := by
  intro m g m' g' _ ha
  refine ⟨fun c => (Cert.Kernel12Ideal.Gen.dats m 0 c).arrAt 2 Cert.Kernel12Ideal.cfg0.N, Cert.Kernel12Ideal.Value.run_blocks m g, ?_⟩
  refine (θ_run Cert.Reference12Ideal.defs _ _).mono (fun r h c => ?_) (run (F := Ideal) m' g')
  obtain ⟨r0, kept⟩ := h c
  obtain ⟨a0, a1⟩ := ha c
  refine ⟨?_, kept⟩
  rw [r0, a0, a1]
  exact (res _ _).trans (Cert.Kernel12Ideal.Gen.arr2 m c).symm

end Cert.Reference12Ideal.Value

end
-- ==== Proof.Merge.lean ====
/-
  The backward pass of the gated merge of two branches: the cotangent of the two gates before the logistic function, its
  column sums, and the cotangents of the two branches.
-/
module

public import proofs.«01_k».proof.Defs
public import proofs.«01_k».proof.Proof.Partial
public import proofs.«01_k».proof.Proof.Gen.Kernel14Ideal.Value
public import proofs.«01_k».proof.Proof.Gen.Reference14Ideal.Run
public import proofs.«01_k».proof.Proof.Gen.Reference14Ideal.Read
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxHeartbeats 1000000

noncomputable section

open Idealize.ShloMosaic Idealize.ShloMosaic.TcCoe Cert.Product Cert.Gate

namespace Cert.Gate

/-- The cotangent of a gate before the logistic function, for the gate's value there, the branch it scales and the
    cotangent of the merged value. -/
def dsig (p y d : EReal) : EReal := d * y * (Ideal.logistic p * (1 - Ideal.logistic p))

/-- What the gated merge is passed backwards from: the projection, its bias, the two branches and the cotangent. -/
structure Merge where
  P : Mat 2048 6144
  B : Mat 1 6144
  ya : Mat 2048 1024
  yb : Mat 2048 1024
  ct : Mat 2048 1024

namespace Merge

variable (D : Merge)

/-- A gate before the logistic function: the projection's last third, plus its bias. -/
def pre (r c : ℕ) : EReal := ent D.P r (4096 + c) + ent D.B 0 (4096 + c)

/-- The cotangent of the two gates side by side. -/
def dpre (r c : ℕ) : EReal :=
  if c < 1024 then dsig (D.pre r c) (ent D.ya r c) (ent D.ct r c)
  else dsig (D.pre r c) (ent D.yb r (c - 1024)) (ent D.ct r (c - 1024))

/-- The cotangent of the first branch. -/
def dya (r c : ℕ) : EReal := Ideal.logistic (D.pre r c) * ent D.ct r c

/-- The cotangent of the second branch. -/
def dyb (r c : ℕ) : EReal := Ideal.logistic (D.pre r (1024 + c)) * ent D.ct r c

end Merge

end Cert.Gate

namespace Cert.Kernel14Ideal.Gen

variable (m : (ℓ : Loc nD τ sig) → Buf (Elt Ideal) ℓ) (c : Dev nD)

/-- The kernel's arguments. -/
def dataAt : Merge where
  P := (m ((c : Thread nD τ).loc main_arg0) : Vec Ideal S2048x6144 .f32)
  B := (m ((c : Thread nD τ).loc main_arg3) : Vec Ideal S1x6144 .f32)
  ya := (m ((c : Thread nD τ).loc main_arg1) : Vec Ideal S2048x1024 .f32)
  yb := (m ((c : Thread nD τ).loc main_arg2) : Vec Ideal S2048x1024 .f32)
  ct := (m ((c : Thread nD τ).loc main_arg4) : Vec Ideal S2048x1024 .f32)

/-- Every window but the bias and its gradient moves by rows with the point. -/
theorem idx : ∀ t : Fin cfg0.N, win0_0.index t = ![t.val, 2] ∧ win0_1.index t = ![t.val, 0] ∧ win0_2.index t = ![t.val, 0]
    ∧ win0_3.index t = ![0, 2] ∧ win0_4.index t = ![t.val, 0] ∧ win0_5.index t = ![t.val, 0] ∧ win0_6.index t = ![t.val, 0]
    ∧ win0_7.index t = ![t.val, 0] :=
  (by decide +kernel : ∀ t : Fin grid0.N, _)

/-- The gates of a point. -/
theorem tile0 (t : Fin cfg0.N) (i : Fin 256) (j : Fin 2048) : (iblk m c 0 t : Vec Ideal S256x2048 .f32) (ix2 i j)
    = ent (dataAt m c).P (256 * t.val + i.val) (4096 + j.val) := by
  have hN : t.val < 8 := lt_of_lt_of_eq t.isLt N_0
  rw [ent_eq _ (by omega) (by omega)]
  refine Eq.trans ?_ (congrFun (V_main_arg0 m c) _)
  blk_ext [iblk, idx t]

/-- The first branch of a point. -/
theorem tile1 (t : Fin cfg0.N) (i : Fin 256) (j : Fin 1024) : (iblk m c 1 t : Vec Ideal S256x1024 .f32) (ix2 i j)
    = ent (dataAt m c).ya (256 * t.val + i.val) j.val := by
  have hN : t.val < 8 := lt_of_lt_of_eq t.isLt N_0
  rw [ent_eq _ (by omega) (by omega)]
  refine Eq.trans ?_ (congrFun (V_main_arg1 m c) _)
  blk_ext [iblk, idx t]

/-- The second branch of a point. -/
theorem tile2 (t : Fin cfg0.N) (i : Fin 256) (j : Fin 1024) : (iblk m c 2 t : Vec Ideal S256x1024 .f32) (ix2 i j)
    = ent (dataAt m c).yb (256 * t.val + i.val) j.val := by
  have hN : t.val < 8 := lt_of_lt_of_eq t.isLt N_0
  rw [ent_eq _ (by omega) (by omega)]
  refine Eq.trans ?_ (congrFun (V_main_arg2 m c) _)
  blk_ext [iblk, idx t]

/-- The gates' bias. -/
theorem tile3 (t : Fin cfg0.N) (j : Fin 2048) : (iblk m c 3 t : Vec Ideal S1x2048 .f32) (ix2 0 j)
    = ent (dataAt m c).B 0 (4096 + j.val) := by
  rw [ent_eq _ (by omega) (by omega)]
  refine Eq.trans ?_ (congrFun (V_main_arg3 m c) _)
  blk_ext [iblk, idx t]

/-- The cotangent of a point. -/
theorem tile4 (t : Fin cfg0.N) (i : Fin 256) (j : Fin 1024) : (iblk m c 4 t : Vec Ideal S256x1024 .f32) (ix2 i j)
    = ent (dataAt m c).ct (256 * t.val + i.val) j.val := by
  have hN : t.val < 8 := lt_of_lt_of_eq t.isLt N_0
  rw [ent_eq _ (by omega) (by omega)]
  refine Eq.trans ?_ (congrFun (V_main_arg4 m c) _)
  blk_ext [iblk, idx t]

/-- A gate of a point before the logistic function. -/
theorem pay3 (t : Fin cfg0.N) (i : Fin 256) (j : Fin 2048) : k0_pay3 (iblk m c 0 t) (iblk m c 3 t) (ix2 i j)
    = (dataAt m c).pre (256 * t.val + i.val) j.val := by
  pointwise [k0_pay3]
  rw [tile0, tile3]
  rfl

/-- The cotangent of the gates of a point. -/
theorem pay8 (t : Fin cfg0.N) (i : Fin 256) (j : Fin 2048) :
    k0_pay8 (iblk m c 0 t) (iblk m c 1 t) (iblk m c 2 t) (iblk m c 3 t) (iblk m c 4 t) (ix2 i j)
    = (dataAt m c).dpre (256 * t.val + i.val) j.val := by
  pointwise [k0_pay8, k0_pay4, k0_pay5, k0_pay6, k0_pay7]
  unfold Merge.dpre dsig
  by_cases hj : j.val < 1024
  · simp only [hj, if_true, dite_true]
    simp only [pay3, tile1, tile4, zero_add]
  · simp only [hj, if_false, dite_false]
    simp only [pay3, tile2, tile4, add_zero, Nat.add_sub_cancel' (Nat.le_of_not_lt hj)]

/-- The column sums of a point. -/
theorem pay9 (t : Fin cfg0.N) (j : Fin 2048) :
    k0_pay9 (iblk m c 0 t) (iblk m c 1 t) (iblk m c 2 t) (iblk m c 3 t) (iblk m c 4 t) (ix2 0 j)
    = ∑ i : Fin 256, (dataAt m c).dpre (256 * t.val + i.val) j.val := by
  pointwise [k0_pay9]
  exact Finset.sum_congr rfl fun i _ => pay8 m c t i j

/-- What a point leaves of the gates' cotangent. -/
theorem out5 (t : Fin cfg0.N) (i : Fin 256) (j : Fin 2048) : (outsAt0 m c t.val t.isLt).1 (ix2 i j)
    = (dataAt m c).dpre (256 * t.val + i.val) j.val := by
  by_cases h0 : t.val % 8 = 0
  · rw [outsAt0_A m c t h0]
    frame_out
    exact pay8 m c t i j
  · rw [outsAt0_B m c t h0]
    frame_out
    exact pay8 m c t i j

/-- The first branch's cotangent of a point. -/
theorem pay11 (t : Fin cfg0.N) (i : Fin 256) (j : Fin 1024) : k0_pay11 (iblk m c 0 t) (iblk m c 3 t) (iblk m c 4 t) (ix2 i j)
    = (dataAt m c).dya (256 * t.val + i.val) j.val := by
  pointwise [k0_pay11, k0_pay4, k0_pay6]
  rw [pay3, tile4]
  rfl

/-- The second branch's cotangent of a point. -/
theorem pay12 (t : Fin cfg0.N) (i : Fin 256) (j : Fin 1024) : k0_pay12 (iblk m c 0 t) (iblk m c 3 t) (iblk m c 4 t) (ix2 i j)
    = (dataAt m c).dyb (256 * t.val + i.val) j.val := by
  pointwise [k0_pay12, k0_pay5, k0_pay7]
  rw [pay3, tile4]
  rfl

/-- What a point leaves of the first branch's cotangent. -/
theorem out6 (t : Fin cfg0.N) (i : Fin 256) (j : Fin 1024) : (outsAt0 m c t.val t.isLt).2.1 (ix2 i j)
    = (dataAt m c).dya (256 * t.val + i.val) j.val := by
  by_cases h0 : t.val % 8 = 0
  · rw [outsAt0_A m c t h0]
    frame_out
    exact pay11 m c t i j
  · rw [outsAt0_B m c t h0]
    frame_out
    exact pay11 m c t i j

/-- What a point leaves of the second branch's cotangent. -/
theorem out7 (t : Fin cfg0.N) (i : Fin 256) (j : Fin 1024) : (outsAt0 m c t.val t.isLt).2.2.1 (ix2 i j)
    = (dataAt m c).dyb (256 * t.val + i.val) j.val := by
  by_cases h0 : t.val % 8 = 0
  · rw [outsAt0_A m c t h0]
    frame_out
    exact pay12 m c t i j
  · rw [outsAt0_B m c t h0]
    frame_out
    exact pay12 m c t i j

/-- The first point starts the column sums. -/
theorem out8_A (t : Fin cfg0.N) (h0 : t.val % 8 = 0) (j : Fin 2048) : (outsAt0 m c t.val t.isLt).2.2.2 (ix2 0 j)
    = 0 + ∑ i : Fin 256, (dataAt m c).dpre (256 * t.val + i.val) j.val := by
  rw [outsAt0_A m c t h0]
  frame_out
  pointwise [k0_pay2, k0_pay1]
  rw [pay9]

/-- Every later point adds its own. -/
theorem out8_B (t : Fin cfg0.N) (h0 : ¬t.val % 8 = 0) (j : Fin 2048) : (outsAt0 m c t.val t.isLt).2.2.2 (ix2 0 j)
    = (outsAt0 m c (t.val - 1) (Nat.lt_of_le_of_lt (Nat.sub_le _ _) t.isLt)).2.2.2 (ix2 0 j)
      + ∑ i : Fin 256, (dataAt m c).dpre (256 * t.val + i.val) j.val := by
  rw [outsAt0_B m c t h0]
  frame_out
  pointwise [k0_pay2]
  rw [pay9]

/-- The array of the gates' cotangent. -/
theorem arr5 : (dats m 0 c).arrAt 5 cfg0.N
    = (fun y => (dataAt m c).dpre (y 0).val (y 1).val : Vec Ideal S2048x2048 .bf16) := by
  refine (dats m 0 c).arrAt_eq_of_covers 5 _ (by decide +kernel) fun t hf y => ?_
  blk_simp
  rw [after0_5]
  obtain ⟨i, j, rfl⟩ := exists_ix2 y
  refine (out5 m c t i j).trans ?_
  blk_simp [idx t]
  rw [Nat.mul_comm]

/-- The array of the first branch's cotangent. -/
theorem arr6 : (dats m 0 c).arrAt 6 cfg0.N
    = (fun y => (dataAt m c).dya (y 0).val (y 1).val : Vec Ideal S2048x1024 .bf16) := by
  refine (dats m 0 c).arrAt_eq_of_covers 6 _ (by decide +kernel) fun t hf y => ?_
  blk_simp
  rw [after0_6]
  obtain ⟨i, j, rfl⟩ := exists_ix2 y
  refine (out6 m c t i j).trans ?_
  blk_simp [idx t]
  rw [Nat.mul_comm]

/-- The array of the second branch's cotangent. -/
theorem arr7 : (dats m 0 c).arrAt 7 cfg0.N
    = (fun y => (dataAt m c).dyb (y 0).val (y 1).val : Vec Ideal S2048x1024 .bf16) := by
  refine (dats m 0 c).arrAt_eq_of_covers 7 _ (by decide +kernel) fun t hf y => ?_
  blk_simp
  rw [after0_7]
  obtain ⟨i, j, rfl⟩ := exists_ix2 y
  refine (out7 m c t i j).trans ?_
  blk_simp [idx t]
  rw [Nat.mul_comm]

/-- The array of the column sums. -/
theorem arr8 : (dats m 0 c).arrAt 8 cfg0.N
    = (fun y => ∑ r : Fin 2048, (dataAt m c).dpre r.val (y 1).val : Vec Ideal S1x2048 .f32) := by
  refine (dats m 0 c).arrAt_eq_of_after_last 8 t0_7 (by decide +kernel) _ fun y => ?_
  blk_simp
  rw [after0_8]
  obtain ⟨i, j, rfl⟩ := exists_ix2 y
  obtain rfl : i = 0 := Subsingleton.elim _ _
  refine ((Pipeline.eq_sum_fin_of_reset_step_apply_last (fun n h => fun j => (outsAt0 m c n h).2.2.2 (ix2 0 j)) 8
    (fun _ => (0 : EReal)) (fun p (j : Fin 2048) => ∑ i : Fin 256, (dataAt m c).dpre (256 * p.val + i.val) j.val)
    (fun t h j => out8_A m c t h j) (fun t h j => out8_B m c t h j) (le_of_eq N_0) t0_7 rfl j).trans (zero_add _)).trans ?_
  exact sum_blocks (s := 8) (b := 256) rfl fun r => (dataAt m c).dpre r j

end Cert.Kernel14Ideal.Gen

namespace Cert.Reference14Ideal.Read

variable (D : Merge)

/-- The first gate before the logistic function. -/
theorem ref4 (r : Fin 2048) (j : Fin 1024) : val_main_v4 (F := Ideal) D.P D.B (ix2 r j) = D.pre r j := by
  pointwise [val_main_v4, val_main_v3, val_main_v2, val_main_v1, val_main_v0]
  rw [Merge.pre, ent_eq _ (by omega) (by omega), ent_eq _ (by omega) (by omega)]
  rfl

/-- The second gate before the logistic function. -/
theorem ref5 (r : Fin 2048) (j : Fin 1024) : val_main_v5 (F := Ideal) D.P D.B (ix2 r j) = D.pre r (1024 + j) := by
  pointwise [val_main_v5, val_main_v3, val_main_v2, val_main_v1, val_main_v0]
  rw [Merge.pre, ent_eq _ (by omega) (by omega), ent_eq _ (by omega) (by omega)]
  rfl

/-- The logistic of the first gate. -/
theorem ref11 (r : Fin 2048) (j : Fin 1024) : val_main_v11 (F := Ideal) D.P D.B (ix2 r j) = Ideal.logistic (D.pre r j) := by
  pointwise [val_main_v11, val_main_v10, val_main_v9, val_main_v8, val_main_v7, val_main_v6, val_main_cst, val_main_cst_0]
  rw [ref4]
  rfl

/-- The logistic of the second gate. -/
theorem ref21 (r : Fin 2048) (j : Fin 1024) :
    val_main_v21 (F := Ideal) D.P D.B (ix2 r j) = Ideal.logistic (D.pre r (1024 + j)) := by
  pointwise [val_main_v21, val_main_v20, val_main_v19, val_main_v18, val_main_v17, val_main_v16, val_main_cst_2, val_main_cst_3]
  rw [ref5]
  rfl

/-- The cotangent of the two gates side by side. -/
theorem ref35 (r j : Fin 2048) : val_main_v35 (F := Ideal) D.P D.ya D.yb D.B D.ct (ix2 r j) = D.dpre r j := by
  pointwise [val_main_v35, val_main_v34, val_main_v33, val_main_v27, val_main_v14, val_main_v13, val_main_v12,
    val_main_cst_1, val_main_v31, val_main_v30, val_main_v28, val_main_v24, val_main_v23, val_main_v22, val_main_cst_4]
  unfold Merge.dpre dsig
  by_cases hj : j.val < 1024
  · simp only [hj, if_true, dite_true]
    rw [ref11, ent_eq D.ya r.isLt hj, ent_eq D.ct r.isLt hj]
  · have hk : j.val - 1024 < 1024 := by omega
    simp only [hj, if_false, dite_false]
    rw [ref21, ent_eq D.yb r.isLt hk, ent_eq D.ct r.isLt hk, Nat.add_sub_cancel' (Nat.le_of_not_lt hj)]

/-- The gates' cotangent. -/
theorem res5 : val_main_v38 (F := Ideal) D.P D.ya D.yb D.B D.ct = fun y => D.dpre (y 0).val (y 1).val := by
  funext y
  obtain ⟨r, j, rfl⟩ := exists_ix2 y
  pointwise [val_main_v38]
  exact ref35 D r j

/-- The first branch's cotangent. -/
theorem res6 : val_main_v39 (F := Ideal) D.P D.B D.ct = fun y => D.dya (y 0).val (y 1).val := by
  funext y
  obtain ⟨r, j, rfl⟩ := exists_ix2 y
  pointwise [val_main_v39, val_main_v32, val_main_v27]
  rw [ref11]
  exact congrArg (_ * ·) (ent_eq D.ct r.isLt j.isLt).symm

/-- The second branch's cotangent. -/
theorem res7 : val_main_v40 (F := Ideal) D.P D.B D.ct = fun y => D.dyb (y 0).val (y 1).val := by
  funext y
  obtain ⟨r, j, rfl⟩ := exists_ix2 y
  pointwise [val_main_v40, val_main_v29, val_main_v28]
  rw [ref21]
  exact congrArg (_ * ·) (ent_eq D.ct r.isLt j.isLt).symm

/-- The column sums of the gates' cotangent. -/
theorem res8 : val_main_v37 (F := Ideal) D.P D.ya D.yb D.B D.ct = fun y => ∑ r : Fin 2048, D.dpre r.val (y 1).val := by
  funext y
  obtain ⟨i, j, rfl⟩ := exists_ix2 y
  obtain rfl : i = 0 := Subsingleton.elim _ _
  pointwise [val_main_v37, val_main_v36, val_main_cst_5]
  simp only [ref35, zero_add]

end Cert.Reference14Ideal.Read

namespace Cert.Reference14Ideal.Value

/-- The kernel computes the reference's gradient of the gated merge. -/
theorem algebraic : Cert.algebraic_Kernel14Ideal_Reference14Ideal := by
  intro m g m' g' _ ha
  refine ⟨fun c => (Cert.Kernel14Ideal.Gen.dats m 0 c).arrAt 5 Cert.Kernel14Ideal.cfg0.N,
    fun c => (Cert.Kernel14Ideal.Gen.dats m 0 c).arrAt 6 Cert.Kernel14Ideal.cfg0.N,
    fun c => (Cert.Kernel14Ideal.Gen.dats m 0 c).arrAt 7 Cert.Kernel14Ideal.cfg0.N,
    fun c => (Cert.Kernel14Ideal.Gen.dats m 0 c).arrAt 8 Cert.Kernel14Ideal.cfg0.N, Cert.Kernel14Ideal.Value.run_blocks m g, ?_⟩
  refine (θ_run Cert.Reference14Ideal.defs _ _).mono (fun r h c => ?_) (run (F := Ideal) m' g')
  obtain ⟨r5, r6, r7, r8, kept⟩ := h c
  obtain ⟨a0, a1, a2, a3, a4⟩ := ha c
  refine ⟨(r5.trans (Read.val_main_v38_eq _ _ _ _ _)).trans ?_, (r6.trans (Read.val_main_v39_eq _ _ _)).trans ?_,
    (r7.trans (Read.val_main_v40_eq _ _ _)).trans ?_, (r8.trans (Read.val_main_v37_eq _ _ _ _ _)).trans ?_, kept⟩
  · rw [a0, a1, a2, a3, a4]
    exact (Read.res5 (Cert.Kernel14Ideal.Gen.dataAt m c)).trans (Cert.Kernel14Ideal.Gen.arr5 m c).symm
  · rw [a0, a3, a4]
    exact (Read.res6 (Cert.Kernel14Ideal.Gen.dataAt m c)).trans (Cert.Kernel14Ideal.Gen.arr6 m c).symm
  · rw [a0, a3, a4]
    exact (Read.res7 (Cert.Kernel14Ideal.Gen.dataAt m c)).trans (Cert.Kernel14Ideal.Gen.arr7 m c).symm
  · rw [a0, a1, a2, a3, a4]
    exact (Read.res8 (Cert.Kernel14Ideal.Gen.dataAt m c)).trans (Cert.Kernel14Ideal.Gen.arr8 m c).symm

end Cert.Reference14Ideal.Value

end
-- ==== Proof.Norm.lean ====
/-
  The backward pass of the root-mean-square norm with its gain and the modulation after it, on extended reals, with no
  program in sight; and the sums that a kernel builds up over its grid.
-/
module

public import proofs.«01_k».proof.Proof.Spec
public import proofs.«01_k».proof.Proof.Partial
public import Idealize.ShloMosaic.Lib.Pipeline.ValueKit

@[expose] public section

noncomputable section

namespace Cert.Gate

open Idealize.ShloMosaic Cert.Product

/-! ## Sums over a grid -/

/-- An array that the first point of a grid starts with the sum of its own `b` rows, and to which every later point adds the
    sum of its own, holds the sum over all rows after the last point. -/
theorem total {ι : Type} {N K b R : ℕ} (hN : N = K) (hR : R = K * b) (out : (n : ℕ) → n < N → ι → EReal) (f : ℕ → ι → EReal)
    (first : ∀ t : Fin N, t.val % K = 0 → ∀ k, out t.val t.isLt k = 0 + ∑ i : Fin b, f (b * t.val + i.val) k)
    (step : ∀ t : Fin N, ¬t.val % K = 0 → ∀ k, out t.val t.isLt k
      = out (t.val - 1) (Nat.lt_of_le_of_lt (Nat.sub_le _ _) t.isLt) k + ∑ i : Fin b, f (b * t.val + i.val) k)
    (t : Fin N) (ht : t.val + 1 = N) (k : ι) : out t.val t.isLt k = ∑ r : Fin R, f r.val k := by
  subst hN
  refine ((Pipeline.eq_sum_fin_of_reset_step_apply_last out N (fun _ => (0 : EReal))
    (fun p k => ∑ i : Fin b, f (b * p.val + i.val) k) first step le_rfl t ht k).trans (zero_add _)).trans ?_
  exact sum_blocks hR fun r => f r k

/-- A positive real factor comes out of a sum. -/
theorem mul_sum_of_nonneg {ι : Type} (s : Finset ι) {x : ℝ} (hx : 0 ≤ x) (f : ι → EReal) :
    ∑ i ∈ s, (x : EReal) * f i = x * ∑ i ∈ s, f i := by
  classical
  induction s using Finset.induction_on with
  | empty => simp
  | insert a s h ih =>
    rw [Finset.sum_insert h, Finset.sum_insert h, ih,
      EReal.left_distrib_of_nonneg_of_ne_top (EReal.coe_nonneg.2 hx) (EReal.coe_ne_top x)]

/-! ## The norm and the modulation -/

/-- What the norm and the modulation are passed backwards from: the norm's argument and gain, the modulation's scale, and the
    cotangents of the argument and of the modulated value. -/
structure Norm where
  x : ℕ → ℕ → EReal
  w : ℕ → EReal
  sc : ℕ → EReal
  dx : ℕ → ℕ → EReal
  dh : ℕ → ℕ → EReal

namespace Norm

variable (D : Norm)

/-- A row's mean square plus the epsilon. -/
def ms (r : ℕ) : EReal := Ideal.div (∑ j : Fin 1024, D.x r j * D.x r j) len + eps
/-- Its reciprocal root. -/
def rs (r : ℕ) : EReal := Ideal.rsqrt (D.ms r)
/-- The derivative of the reciprocal root. -/
def drs (r : ℕ) : EReal := mhalf * Ideal.div (D.rs r) (D.ms r)
/-- The normalised row. -/
def nr (r j : ℕ) : EReal := D.x r j * D.rs r
/-- The cotangent of the norm's value. -/
def q (r j : ℕ) : EReal := D.dh r j * (1 + D.sc j)
/-- The cotangent of the normalised row. -/
def p (r j : ℕ) : EReal := D.q r j * D.w j
/-- The cotangent of the sum of squares. -/
def dms (r : ℕ) : EReal := Ideal.div ((∑ j : Fin 1024, D.x r j * D.p r j) * D.drs r) len
/-- The cotangent of the norm's argument. -/
def dxn (r j : ℕ) : EReal := D.dx r j + D.p r j * D.rs r + D.x r j * D.dms r + D.dms r * D.x r j
/-- A row's part of the cotangent of the gain. -/
def dw (r j : ℕ) : EReal := D.nr r j * D.q r j
/-- A row's part of the cotangent of the scale. -/
def dsc (r j : ℕ) : EReal := D.nr r j * D.w j * D.dh r j

end Norm

/-- The residual before the norm: the residual stream, the sub-layer's output with its gate and the factor of the gate, which
    is column `o` onwards of the modulation; the norm's gain; the two cotangents. -/
structure Res where
  X : Mat 2048 1024
  Y : Mat 2048 1024
  M : Mat 1 9216
  w : Mat 1 1024
  dx : Mat 2048 1024
  dh : Mat 2048 1024
  s : EReal
  o : ℕ

namespace Res

variable (E : Res)

/-- The gate times its factor. -/
def gate (j : ℕ) : EReal := E.s * ent E.M 0 (E.o + j)

/-- The norm after the residual. -/
def norm : Norm where
  x r j := ent E.X r j + E.gate j * ent E.Y r j
  w j := ent E.w 0 j
  sc j := ent E.M 0 (E.o + 2048 + j)
  dx r j := ent E.dx r j
  dh r j := ent E.dh r j

/-- The cotangent of the sub-layer's output. -/
def dy (r j : ℕ) : EReal := E.gate j * E.norm.dxn r j
/-- A row's part of the cotangent of the gate. -/
def dg (r j : ℕ) : EReal := E.norm.dxn r j * ent E.Y r j

end Res

end Cert.Gate

end
-- ==== Proof.Residual.lean ====
/-
  The backward pass of the residual after the mixers, the norm and the modulation after it.
-/
module

public import proofs.«01_k».proof.Defs
public import proofs.«01_k».proof.Proof.Norm
public import proofs.«01_k».proof.Proof.Gen.Kernel15Ideal.Value
public import proofs.«01_k».proof.Proof.Gen.Reference15Ideal.Run
public import proofs.«01_k».proof.Proof.Gen.Reference15Ideal.Read
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxHeartbeats 1000000

noncomputable section

open Idealize.ShloMosaic Idealize.ShloMosaic.TcCoe Cert.Product Cert.Gate

namespace Cert.Kernel15Ideal.Gen

/-! ## A block of rows -/

/-- The blocks are rows `r` onwards of the norm's data, the block of its argument apart. -/
structure Rows (D : Norm) (r : ℕ) (v3 v4 : Vec Ideal S1x1024 .f32) (v5 v6 : Vec Ideal S256x1024 .f32) : Prop where
  w : ∀ j : Fin 1024, v3 (ix2 0 j) = D.w j
  sc : ∀ j : Fin 1024, v4 (ix2 0 j) = D.sc j
  dx : ∀ (i : Fin 256) (j : Fin 1024), v5 (ix2 i j) = D.dx (r + i) j
  dh : ∀ (i : Fin 256) (j : Fin 1024), v6 (ix2 i j) = D.dh (r + i) j

section

variable {D : Norm} {r : ℕ} {v0 v1 v5 v6 : Vec Ideal S256x1024 .f32} {v2 v3 v4 : Vec Ideal S1x1024 .f32}

/-- The block of the norm's argument is rows `r` onwards. -/
abbrev Arg (D : Norm) (r : ℕ) (v0 v1 : Vec Ideal S256x1024 .f32) (v2 : Vec Ideal S1x1024 .f32) : Prop :=
  ∀ (i : Fin 256) (j : Fin 1024), k0_pay8 v0 v1 v2 (ix2 i j) = D.x (r + i) j

/-- The mean squares plus the epsilon. -/
theorem Rows.pay9 (A : Arg D r v0 v1 v2) (i : Fin 256) : k0_pay9 v0 v1 v2 (ix2 i 0) = D.ms (r + i) := by
  pointwise [k0_pay9]; simp only [A _ _]; rfl
/-- Their reciprocal roots. -/
theorem Rows.pay10 (A : Arg D r v0 v1 v2) (i : Fin 256) : k0_pay10 v0 v1 v2 (ix2 i 0) = D.rs (r + i) := by
  pointwise [k0_pay10]; rw [Rows.pay9 A]; rfl
/-- The derivatives of the reciprocal roots. -/
theorem Rows.pay11 (A : Arg D r v0 v1 v2) (i : Fin 256) : k0_pay11 v0 v1 v2 (ix2 i 0) = D.drs (r + i) := by
  pointwise [k0_pay11]; rw [Rows.pay10 A, Rows.pay9 A]; rfl
/-- The normalised rows. -/
theorem Rows.pay12 (A : Arg D r v0 v1 v2) (i : Fin 256) (j : Fin 1024) : k0_pay12 v0 v1 v2 (ix2 i j) = D.nr (r + i) j := by
  pointwise [k0_pay12]; rw [Rows.pay10 A, A]; rfl

variable (H : Rows D r v3 v4 v5 v6)
include H

/-- The column sums of the modulated value's cotangent. -/
theorem Rows.pay14 (j : Fin 1024) : k0_pay14 v6 (ix2 0 j) = ∑ i : Fin 256, D.dh (r + i) j := by
  pointwise [k0_pay14]; simp only [H.dh]
/-- The rows' part of the cotangent of the scale. -/
theorem Rows.pay15 (A : Arg D r v0 v1 v2) (j : Fin 1024) :
    k0_pay15 v0 v1 v2 v3 v6 (ix2 0 j) = ∑ i : Fin 256, D.dsc (r + i) j := by
  pointwise [k0_pay15, k0_pay13]; simp only [Rows.pay12 A, H.w, H.dh]; rfl
/-- The cotangent of the norm's value. -/
theorem Rows.pay16 (i : Fin 256) (j : Fin 1024) : k0_pay16 v4 v6 (ix2 i j) = D.q (r + i) j := by
  pointwise [k0_pay16, k0_pay13]; rw [H.dh, H.sc]; rfl
/-- The rows' part of the cotangent of the gain. -/
theorem Rows.pay17 (A : Arg D r v0 v1 v2) (j : Fin 1024) :
    k0_pay17 (k0_pay12 v0 v1 v2) (k0_pay16 v4 v6) (ix2 0 j) = ∑ i : Fin 256, D.dw (r + i) j := by
  pointwise [k0_pay17]; simp only [Rows.pay12 A, H.pay16]; rfl
/-- The cotangent of the norm's argument. -/
theorem Rows.pay18 (A : Arg D r v0 v1 v2) (i : Fin 256) (j : Fin 1024) :
    k0_pay18 v3 v5 (k0_pay8 v0 v1 v2) (k0_pay10 v0 v1 v2) (k0_pay11 v0 v1 v2) (k0_pay16 v4 v6) (ix2 i j) = D.dxn (r + i) j := by
  pointwise [k0_pay18]
  simp only [Finset.univ_unique, Finset.sum_singleton]
  simp only [show ∀ x : Fin 1, x = 0 from fun x => Subsingleton.elim _ _]
  simp only [Rows.pay10 A, Rows.pay11 A, A _ _, H.pay16, H.w, H.dx]
  rfl

end

/-! ## The points -/

variable (m : (ℓ : Loc nD τ sig) → Buf (Elt Ideal) ℓ) (c : Dev nD)

/-- The kernel's arguments; the gate is the modulation's sixth part, and has the factor one. -/
def dataAt : Res where
  X := (m ((c : Thread nD τ).loc main_arg0) : Vec Ideal S2048x1024 .f32)
  Y := (m ((c : Thread nD τ).loc main_arg1) : Vec Ideal S2048x1024 .f32)
  M := (m ((c : Thread nD τ).loc main_arg2) : Vec Ideal S1x9216 .f32)
  w := (m ((c : Thread nD τ).loc main_arg3) : Vec Ideal S1x1024 .f32)
  dx := (m ((c : Thread nD τ).loc main_arg4) : Vec Ideal S2048x1024 .f32)
  dh := (m ((c : Thread nD τ).loc main_arg5) : Vec Ideal S2048x1024 .f32)
  s := 1
  o := 5120

/-- The arrays move by rows with the point; the vectors are parts of the modulation or whole. -/
theorem idx : ∀ t : Fin cfg0.N, win0_0.index t = ![t.val, 0] ∧ win0_1.index t = ![t.val, 0] ∧ win0_2.index t = ![0, 5]
    ∧ win0_3.index t = ![0, 0] ∧ win0_4.index t = ![0, 7] ∧ win0_6.index t = ![t.val, 0] ∧ win0_7.index t = ![t.val, 0]
    ∧ win0_8.index t = ![t.val, 0] ∧ win0_9.index t = ![t.val, 0] :=
  (by decide +kernel : ∀ t : Fin grid0.N, _)

/-- The residual stream of a point. -/
theorem tile0 (t : Fin cfg0.N) (i : Fin 256) (j : Fin 1024) : (iblk m c 0 t : Vec Ideal S256x1024 .f32) (ix2 i j)
    = ent (dataAt m c).X (256 * t.val + i.val) j.val := by
  have hN : t.val < 8 := lt_of_lt_of_eq t.isLt N_0
  rw [ent_eq _ (by omega) (by omega)]
  refine Eq.trans ?_ (congrFun (V_main_arg0 m c) _)
  blk_ext [iblk, idx t]

/-- The sub-layer's output of a point. -/
theorem tile1 (t : Fin cfg0.N) (i : Fin 256) (j : Fin 1024) : (iblk m c 1 t : Vec Ideal S256x1024 .f32) (ix2 i j)
    = ent (dataAt m c).Y (256 * t.val + i.val) j.val := by
  have hN : t.val < 8 := lt_of_lt_of_eq t.isLt N_0
  rw [ent_eq _ (by omega) (by omega)]
  refine Eq.trans ?_ (congrFun (V_main_arg1 m c) _)
  blk_ext [iblk, idx t]

/-- The gate. -/
theorem tile2 (t : Fin cfg0.N) (j : Fin 1024) : (iblk m c 2 t : Vec Ideal S1x1024 .f32) (ix2 0 j)
    = ent (dataAt m c).M 0 (5120 + j.val) := by
  rw [ent_eq _ (by omega) (by omega)]
  refine Eq.trans ?_ (congrFun (V_main_arg2 m c) _)
  blk_ext [iblk, idx t]

/-- The vectors and cotangents of a point. -/
theorem rows (t : Fin cfg0.N) : Rows (dataAt m c).norm (256 * t.val) (iblk m c 3 t) (iblk m c 4 t) (iblk m c 6 t) (iblk m c 7 t) := by
  have hN : t.val < 8 := lt_of_lt_of_eq t.isLt N_0
  refine ⟨fun j => ?_, fun j => ?_, fun i j => ?_, fun i j => ?_⟩
  · refine Eq.trans ?_ (ent_eq _ (by omega) j.isLt).symm
    refine Eq.trans ?_ (congrFun (V_main_arg3 m c) _)
    blk_ext [iblk, idx t]
  · refine Eq.trans ?_ (ent_eq _ (by omega) (by omega : 7168 + j.val < 9216)).symm
    refine Eq.trans ?_ (congrFun (V_main_arg2 m c) _)
    blk_ext [iblk, idx t]
  · refine Eq.trans ?_ (ent_eq _ (by omega) j.isLt).symm
    refine Eq.trans ?_ (congrFun (V_main_arg4 m c) _)
    blk_ext [iblk, idx t]
  · refine Eq.trans ?_ (ent_eq _ (by omega) j.isLt).symm
    refine Eq.trans ?_ (congrFun (V_main_arg5 m c) _)
    blk_ext [iblk, idx t]

/-- The gate times its factor. -/
theorem gate (t : Fin cfg0.N) (j : Fin 1024) : k0_pay7 (iblk m c 2 t) (ix2 0 j) = (dataAt m c).gate j := by
  pointwise [k0_pay7]
  rw [tile2]
  exact (one_mul _).symm

/-- The norm's argument of a point. -/
theorem arg (t : Fin cfg0.N) : Arg (dataAt m c).norm (256 * t.val) (iblk m c 0 t) (iblk m c 1 t) (iblk m c 2 t) := by
  intro i j
  pointwise [k0_pay8]
  rw [gate, tile0, tile1]
  rfl

/-- The gate's gradient of a point. -/
theorem pay22 (t : Fin cfg0.N) (v72 : Vec Ideal S1x1024 .f32) (j : Fin 1024) :
    k0_pay22 (iblk m c 1 t) (iblk m c 3 t) (iblk m c 6 t) (k0_pay8 (iblk m c 0 t) (iblk m c 1 t) (iblk m c 2 t))
      (k0_pay10 (iblk m c 0 t) (iblk m c 1 t) (iblk m c 2 t)) (k0_pay11 (iblk m c 0 t) (iblk m c 1 t) (iblk m c 2 t))
      (k0_pay16 (iblk m c 4 t) (iblk m c 7 t)) v72 (ix2 0 j)
    = v72 (ix2 0 j) + ∑ i : Fin 256, (dataAt m c).dg (256 * t.val + i.val) j.val := by
  pointwise [k0_pay22, k0_pay19]
  simp only [(rows m c t).pay18 (arg m c t), tile1, one_mul]
  rfl

/-- The sub-layer's cotangent of a point. -/
theorem pay20 (t : Fin cfg0.N) (i : Fin 256) (j : Fin 1024) :
    k0_pay20 (iblk m c 3 t) (iblk m c 6 t) (k0_pay7 (iblk m c 2 t)) (k0_pay8 (iblk m c 0 t) (iblk m c 1 t) (iblk m c 2 t))
      (k0_pay10 (iblk m c 0 t) (iblk m c 1 t) (iblk m c 2 t)) (k0_pay11 (iblk m c 0 t) (iblk m c 1 t) (iblk m c 2 t))
      (k0_pay16 (iblk m c 4 t) (iblk m c 7 t)) (ix2 i j)
    = (dataAt m c).dy (256 * t.val + i.val) j.val := by
  pointwise [k0_pay20, k0_pay19]
  rw [(rows m c t).pay18 (arg m c t), gate]
  rfl

/-- What a point leaves of the residual stream's cotangent. -/
theorem out8 (t : Fin cfg0.N) (i : Fin 256) (j : Fin 1024) : (outsAt0 m c t.val t.isLt).1 (ix2 i j)
    = (dataAt m c).norm.dxn (256 * t.val + i.val) j.val := by
  by_cases h0 : t.val % 8 = 0
  · rw [outsAt0_A m c t h0 h0 h0 h0]
    frame_out
    exact (rows m c t).pay18 (arg m c t) i j
  · rw [outsAt0_B m c t h0 h0 h0 h0]
    frame_out
    exact (rows m c t).pay18 (arg m c t) i j

/-- What a point leaves of the sub-layer's cotangent. -/
theorem out9 (t : Fin cfg0.N) (i : Fin 256) (j : Fin 1024) : (outsAt0 m c t.val t.isLt).2.1 (ix2 i j)
    = (dataAt m c).dy (256 * t.val + i.val) j.val := by
  by_cases h0 : t.val % 8 = 0
  · rw [outsAt0_A m c t h0 h0 h0 h0]
    frame_out
    exact pay20 m c t i j
  · rw [outsAt0_B m c t h0 h0 h0 h0]
    frame_out
    exact pay20 m c t i j

/-- What the points leave of the gate's gradient. -/
theorem out10 (t : Fin cfg0.N) (j : Fin 1024) :
    (t.val % 8 = 0 → (outsAt0 m c t.val t.isLt).2.2.1 (ix2 0 j)
      = 0 + ∑ i : Fin 256, (dataAt m c).dg (256 * t.val + i.val) j.val)
    ∧ (¬t.val % 8 = 0 → (outsAt0 m c t.val t.isLt).2.2.1 (ix2 0 j)
      = (outsAt0 m c (t.val - 1) (Nat.lt_of_le_of_lt (Nat.sub_le _ _) t.isLt)).2.2.1 (ix2 0 j)
        + ∑ i : Fin 256, (dataAt m c).dg (256 * t.val + i.val) j.val) := by
  constructor <;> intro h0
  · rw [outsAt0_A m c t h0 h0 h0 h0]
    frame_out
    refine (pay22 m c t _ j).trans (congrArg (· + _) ?_)
    pointwise [k0_pay21]
  · rw [outsAt0_B m c t h0 h0 h0 h0]
    frame_out
    exact pay22 m c t _ j

/-- What the points leave of the gain's gradient. -/
theorem out11 (t : Fin cfg0.N) (j : Fin 1024) :
    (t.val % 8 = 0 → (outsAt0 m c t.val t.isLt).2.2.2.1 (ix2 0 j)
      = 0 + ∑ i : Fin 256, (dataAt m c).norm.dw (256 * t.val + i.val) j.val)
    ∧ (¬t.val % 8 = 0 → (outsAt0 m c t.val t.isLt).2.2.2.1 (ix2 0 j)
      = (outsAt0 m c (t.val - 1) (Nat.lt_of_le_of_lt (Nat.sub_le _ _) t.isLt)).2.2.2.1 (ix2 0 j)
        + ∑ i : Fin 256, (dataAt m c).norm.dw (256 * t.val + i.val) j.val) := by
  constructor <;> intro h0
  · rw [outsAt0_A m c t h0 h0 h0 h0]
    frame_out
    pointwise [k0_pay2, k0_pay1]
    rw [(rows m c t).pay17 (arg m c t)]
  · rw [outsAt0_B m c t h0 h0 h0 h0]
    frame_out
    pointwise [k0_pay2]
    rw [(rows m c t).pay17 (arg m c t)]

/-- What the points leave of the scale's gradient. -/
theorem out12 (t : Fin cfg0.N) (j : Fin 1024) :
    (t.val % 8 = 0 → (outsAt0 m c t.val t.isLt).2.2.2.2.1 (ix2 0 j)
      = 0 + ∑ i : Fin 256, (dataAt m c).norm.dsc (256 * t.val + i.val) j.val)
    ∧ (¬t.val % 8 = 0 → (outsAt0 m c t.val t.isLt).2.2.2.2.1 (ix2 0 j)
      = (outsAt0 m c (t.val - 1) (Nat.lt_of_le_of_lt (Nat.sub_le _ _) t.isLt)).2.2.2.2.1 (ix2 0 j)
        + ∑ i : Fin 256, (dataAt m c).norm.dsc (256 * t.val + i.val) j.val) := by
  constructor <;> intro h0
  · rw [outsAt0_A m c t h0 h0 h0 h0]
    frame_out
    pointwise [k0_pay4, k0_pay3]
    rw [(rows m c t).pay15 (arg m c t)]
  · rw [outsAt0_B m c t h0 h0 h0 h0]
    frame_out
    pointwise [k0_pay4]
    rw [(rows m c t).pay15 (arg m c t)]

/-- What the points leave of the shift's gradient. -/
theorem out13 (t : Fin cfg0.N) (j : Fin 1024) :
    (t.val % 8 = 0 → (outsAt0 m c t.val t.isLt).2.2.2.2.2 (ix2 0 j)
      = 0 + ∑ i : Fin 256, (dataAt m c).norm.dh (256 * t.val + i.val) j.val)
    ∧ (¬t.val % 8 = 0 → (outsAt0 m c t.val t.isLt).2.2.2.2.2 (ix2 0 j)
      = (outsAt0 m c (t.val - 1) (Nat.lt_of_le_of_lt (Nat.sub_le _ _) t.isLt)).2.2.2.2.2 (ix2 0 j)
        + ∑ i : Fin 256, (dataAt m c).norm.dh (256 * t.val + i.val) j.val) := by
  constructor <;> intro h0
  · rw [outsAt0_A m c t h0 h0 h0 h0]
    frame_out
    pointwise [k0_pay6, k0_pay5]
    rw [(rows m c t).pay14]
  · rw [outsAt0_B m c t h0 h0 h0 h0]
    frame_out
    pointwise [k0_pay6]
    rw [(rows m c t).pay14]

/-! ## The arrays -/

/-- The array of the residual stream's cotangent. -/
theorem arr8 : (dats m 0 c).arrAt 8 cfg0.N
    = (fun y => (dataAt m c).norm.dxn (y 0).val (y 1).val : Vec Ideal S2048x1024 .f32) := by
  refine (dats m 0 c).arrAt_eq_of_covers 8 _ (by decide +kernel) fun t hf y => ?_
  blk_simp
  rw [after0_8]
  obtain ⟨i, j, rfl⟩ := exists_ix2 y
  refine (out8 m c t i j).trans ?_
  blk_simp [idx t]
  rw [Nat.mul_comm]

/-- The array of the sub-layer's cotangent. -/
theorem arr9 : (dats m 0 c).arrAt 9 cfg0.N
    = (fun y => (dataAt m c).dy (y 0).val (y 1).val : Vec Ideal S2048x1024 .bf16) := by
  refine (dats m 0 c).arrAt_eq_of_covers 9 _ (by decide +kernel) fun t hf y => ?_
  blk_simp
  rw [after0_9]
  obtain ⟨i, j, rfl⟩ := exists_ix2 y
  refine (out9 m c t i j).trans ?_
  blk_simp [idx t]
  rw [Nat.mul_comm]

/-- The array of the gate's gradient. -/
theorem arr10 : (dats m 0 c).arrAt 10 cfg0.N
    = (fun y => ∑ r : Fin 2048, (dataAt m c).dg r.val (y 1).val : Vec Ideal S1x1024 .f32) := by
  refine (dats m 0 c).arrAt_eq_of_after_last 10 t0_7 (by decide +kernel) _ fun y => ?_
  blk_simp
  rw [after0_10]
  obtain ⟨i, j, rfl⟩ := exists_ix2 y
  obtain rfl : i = 0 := Subsingleton.elim _ _
  exact total (b := 256) N_0 rfl (fun n h => fun j => (outsAt0 m c n h).2.2.1 (ix2 0 j))
    (fun r (j : Fin 1024) => (dataAt m c).dg r j) (fun t h j => (out10 m c t j).1 h) (fun t h j => (out10 m c t j).2 h) t0_7 rfl j

/-- The array of the gain's gradient. -/
theorem arr11 : (dats m 0 c).arrAt 11 cfg0.N
    = (fun y => ∑ r : Fin 2048, (dataAt m c).norm.dw r.val (y 1).val : Vec Ideal S1x1024 .f32) := by
  refine (dats m 0 c).arrAt_eq_of_after_last 11 t0_7 (by decide +kernel) _ fun y => ?_
  blk_simp
  rw [after0_11]
  obtain ⟨i, j, rfl⟩ := exists_ix2 y
  obtain rfl : i = 0 := Subsingleton.elim _ _
  exact total (b := 256) N_0 rfl (fun n h => fun j => (outsAt0 m c n h).2.2.2.1 (ix2 0 j))
    (fun r (j : Fin 1024) => (dataAt m c).norm.dw r j) (fun t h j => (out11 m c t j).1 h) (fun t h j => (out11 m c t j).2 h) t0_7 rfl j

/-- The array of the scale's gradient. -/
theorem arr12 : (dats m 0 c).arrAt 12 cfg0.N
    = (fun y => ∑ r : Fin 2048, (dataAt m c).norm.dsc r.val (y 1).val : Vec Ideal S1x1024 .f32) := by
  refine (dats m 0 c).arrAt_eq_of_after_last 12 t0_7 (by decide +kernel) _ fun y => ?_
  blk_simp
  rw [after0_12]
  obtain ⟨i, j, rfl⟩ := exists_ix2 y
  obtain rfl : i = 0 := Subsingleton.elim _ _
  exact total (b := 256) N_0 rfl (fun n h => fun j => (outsAt0 m c n h).2.2.2.2.1 (ix2 0 j))
    (fun r (j : Fin 1024) => (dataAt m c).norm.dsc r j) (fun t h j => (out12 m c t j).1 h) (fun t h j => (out12 m c t j).2 h) t0_7 rfl j

/-- The array of the shift's gradient. -/
theorem arr13 : (dats m 0 c).arrAt 13 cfg0.N
    = (fun y => ∑ r : Fin 2048, (dataAt m c).norm.dh r.val (y 1).val : Vec Ideal S1x1024 .f32) := by
  refine (dats m 0 c).arrAt_eq_of_after_last 13 t0_7 (by decide +kernel) _ fun y => ?_
  blk_simp
  rw [after0_13]
  obtain ⟨i, j, rfl⟩ := exists_ix2 y
  obtain rfl : i = 0 := Subsingleton.elim _ _
  exact total (b := 256) N_0 rfl (fun n h => fun j => (outsAt0 m c n h).2.2.2.2.2 (ix2 0 j))
    (fun r (j : Fin 1024) => (dataAt m c).norm.dh r j) (fun t h j => (out13 m c t j).1 h) (fun t h j => (out13 m c t j).2 h) t0_7 rfl j

end Cert.Kernel15Ideal.Gen

namespace Cert.Reference15Ideal.Read

/-- The reference's arguments are the residual's data: the gate is the modulation's sixth part, and has the factor one. -/
structure Is (E : Res) : Prop where
  s : E.s = 1
  o : E.o = 5120

variable {E : Res} (H : Is E)
include H

/-- The gate. -/
theorem ref0 (j : Fin 1024) : val_main_v0 (F := Ideal) E.M (ix2 0 j) = E.gate j := by
  pointwise [val_main_v0]
  rw [Res.gate, H.s, H.o, one_mul, ent_eq _ (by omega) (by omega)]
  rfl

/-- The scale plus one. -/
theorem ref22 (j : Fin 1024) : val_main_v22 (F := Ideal) E.M (ix2 0 j) = 1 + E.norm.sc j := by
  pointwise [val_main_v22, val_main_v21, val_main_cst_3, val_main_v2]
  dsimp only [Res.norm]
  rw [H.o, ent_eq _ (by omega) (by omega)]
  congr 3

/-- The norm's argument. -/
theorem ref5 (r : Fin 2048) (j : Fin 1024) : val_main_v5 (F := Ideal) E.X E.Y E.M (ix2 r j) = E.norm.x r j := by
  pointwise [val_main_v5, val_main_v4, val_main_v3]
  rw [ref0 H]
  dsimp only [Res.norm]
  rw [ent_eq E.X r.isLt j.isLt, ent_eq E.Y r.isLt j.isLt]

/-- The mean squares plus the epsilon. -/
theorem ref12 (r : Fin 2048) : val_main_v12 (F := Ideal) E.X E.Y E.M (ix2 r 0) = E.norm.ms r := by
  pointwise [val_main_v12, val_main_v11, val_main_cst_1, val_main_v10, val_main_v9, val_main_cst_0, val_main_v8, val_main_v7,
    val_main_cst, val_main_v6]
  simp only [ref5 H]
  rfl

/-- Their reciprocal roots. -/
theorem ref13 (r : Fin 2048) : val_main_v13 (F := Ideal) E.X E.Y E.M (ix2 r 0) = E.norm.rs r := by
  pointwise [val_main_v13]
  rw [ref12 H]
  rfl

/-- The derivatives of the reciprocal roots. -/
theorem ref16 (r : Fin 2048) : val_main_v16 (F := Ideal) E.X E.Y E.M (ix2 r 0) = E.norm.drs r := by
  pointwise [val_main_v16, val_main_v15, val_main_cst_2, val_main_v14]
  rw [ref12 H, ref13 H]
  rfl

/-- The normalised rows. -/
theorem ref18 (r : Fin 2048) (j : Fin 1024) : val_main_v18 (F := Ideal) E.X E.Y E.M (ix2 r j) = E.norm.nr r j := by
  pointwise [val_main_v18, val_main_v17]
  rw [ref5 H, ref13 H]
  rfl

/-- The cotangent of the norm's value. -/
theorem ref34 (r : Fin 2048) (j : Fin 1024) : val_main_v34 (F := Ideal) E.M E.dh (ix2 r j) = E.norm.q r j := by
  pointwise [val_main_v34, val_main_v33, val_main_v27]
  rw [ref22 H]
  exact congrArg (· * _) (ent_eq E.dh r.isLt j.isLt).symm

/-- The cotangent of the normalised rows. -/
theorem ref39 (r : Fin 2048) (j : Fin 1024) : val_main_v39 (F := Ideal) E.M E.w E.dh (ix2 r j) = E.norm.p r j := by
  pointwise [val_main_v39, val_main_v38]
  rw [ref34 H]
  exact congrArg (_ * ·) (ent_eq E.w (by omega) j.isLt).symm

/-- The cotangent of the sum of squares. -/
theorem ref48 (r : Fin 2048) : val_main_v48 (F := Ideal) E.X E.Y E.M E.w E.dh (ix2 r 0) = E.norm.dms r := by
  pointwise [val_main_v48, val_main_v47, val_main_cst_8, val_main_v46, val_main_v42, val_main_v41, val_main_cst_7, val_main_v40]
  simp only [ref5 H, ref39 H, ref16 H]
  rfl

/-- The cotangent of the norm's argument. -/
theorem ref54 (r : Fin 2048) (j : Fin 1024) :
    val_main_v54 (F := Ideal) E.X E.Y E.M E.w E.dx E.dh (ix2 r j) = E.norm.dxn r j := by
  pointwise [val_main_v54, val_main_v53, val_main_v52, val_main_v51, val_main_v50, val_main_v49, val_main_cst_9, val_main_v45,
    val_main_v44, val_main_v43]
  simp only [Finset.univ_unique, Finset.sum_singleton]
  simp only [show ∀ x : Fin 1, x = 0 from fun x => Subsingleton.elim _ _]
  rw [ref5 H, ref39 H, ref48 H, ref13 H, ← ent_eq E.dx r.isLt j.isLt]
  rfl

/-- The residual stream's cotangent. -/
theorem res8 : val_main_v54 (F := Ideal) E.X E.Y E.M E.w E.dx E.dh = fun y => E.norm.dxn (y 0).val (y 1).val := by
  funext y
  obtain ⟨r, j, rfl⟩ := exists_ix2 y
  exact ref54 H r j

/-- The sub-layer's cotangent. -/
theorem res9 : val_main_v61 (F := Ideal) E.X E.Y E.M E.w E.dx E.dh = fun y => E.dy (y 0).val (y 1).val := by
  funext y
  obtain ⟨r, j, rfl⟩ := exists_ix2 y
  pointwise [val_main_v61, val_main_v57, val_main_v56, val_main_v55]
  rw [ref54 H, ref0 H]
  rfl

/-- The gate's gradient. -/
theorem res10 : val_main_v60 (F := Ideal) E.X E.Y E.M E.w E.dx E.dh = fun y => ∑ r : Fin 2048, E.dg r.val (y 1).val := by
  funext y
  obtain ⟨i, j, rfl⟩ := exists_ix2 y
  obtain rfl : i = 0 := Subsingleton.elim _ _
  pointwise [val_main_v60, val_main_v59, val_main_cst_10, val_main_v58, val_main_v55]
  refine Finset.sum_congr rfl fun r _ => ?_
  rw [ref54 H]
  exact congrArg (_ * ·) (ent_eq E.Y r.isLt j.isLt).symm

/-- The gain's gradient. -/
theorem res11 : val_main_v37 (F := Ideal) E.X E.Y E.M E.dh = fun y => ∑ r : Fin 2048, E.norm.dw r.val (y 1).val := by
  funext y
  obtain ⟨i, j, rfl⟩ := exists_ix2 y
  obtain rfl : i = 0 := Subsingleton.elim _ _
  pointwise [val_main_v37, val_main_v36, val_main_cst_6, val_main_v35]
  simp only [ref18 H, ref34 H]
  rfl

/-- The scale's gradient. -/
theorem res12 : val_main_v32 (F := Ideal) E.X E.Y E.M E.w E.dh = fun y => ∑ r : Fin 2048, E.norm.dsc r.val (y 1).val := by
  funext y
  obtain ⟨i, j, rfl⟩ := exists_ix2 y
  obtain rfl : i = 0 := Subsingleton.elim _ _
  pointwise [val_main_v32, val_main_v31, val_main_cst_5, val_main_v30, val_main_v20, val_main_v19, val_main_v27]
  refine Finset.sum_congr rfl fun r _ => ?_
  rw [ref18 H, ← ent_eq E.dh r.isLt j.isLt, ← ent_eq E.w (by omega) j.isLt]
  rfl

omit H in
/-- The shift's gradient. -/
theorem res13 : val_main_v29 (F := Ideal) E.dh = fun y => ∑ r : Fin 2048, E.norm.dh r.val (y 1).val := by
  funext y
  obtain ⟨i, j, rfl⟩ := exists_ix2 y
  obtain rfl : i = 0 := Subsingleton.elim _ _
  pointwise [val_main_v29, val_main_v28, val_main_cst_4]
  exact Finset.sum_congr rfl fun r _ => (ent_eq E.dh r.isLt j.isLt).symm

end Cert.Reference15Ideal.Read

namespace Cert.Reference15Ideal.Value

/-- The kernel computes the reference's gradient of the residual, the norm and the modulation after the mixers. -/
theorem algebraic : Cert.algebraic_Kernel15Ideal_Reference15Ideal := by
  intro m g m' g' _ ha
  refine ⟨fun c => (Cert.Kernel15Ideal.Gen.dats m 0 c).arrAt 8 Cert.Kernel15Ideal.cfg0.N,
    fun c => (Cert.Kernel15Ideal.Gen.dats m 0 c).arrAt 9 Cert.Kernel15Ideal.cfg0.N,
    fun c => (Cert.Kernel15Ideal.Gen.dats m 0 c).arrAt 10 Cert.Kernel15Ideal.cfg0.N,
    fun c => (Cert.Kernel15Ideal.Gen.dats m 0 c).arrAt 11 Cert.Kernel15Ideal.cfg0.N,
    fun c => (Cert.Kernel15Ideal.Gen.dats m 0 c).arrAt 12 Cert.Kernel15Ideal.cfg0.N,
    fun c => (Cert.Kernel15Ideal.Gen.dats m 0 c).arrAt 13 Cert.Kernel15Ideal.cfg0.N, Cert.Kernel15Ideal.Value.run_blocks m g, ?_⟩
  refine (θ_run Cert.Reference15Ideal.defs _ _).mono (fun r h c => ?_) (run (F := Ideal) m' g')
  obtain ⟨r8, r9, r10, r11, r12, r13, kept⟩ := h c
  obtain ⟨a0, a1, a2, a3, a4, a5⟩ := ha c
  have H : Read.Is (Cert.Kernel15Ideal.Gen.dataAt m c) := ⟨rfl, rfl⟩
  refine ⟨(r8.trans (Read.val_main_v54_eq _ _)).trans ?_, (r9.trans (Read.val_main_v61_eq _ _)).trans ?_,
    (r10.trans (Read.val_main_v60_eq _ _)).trans ?_, (r11.trans (Read.val_main_v37_eq _ _ _ _)).trans ?_,
    (r12.trans (Read.val_main_v32_eq _ _ _ _ _)).trans ?_, (r13.trans (Read.val_main_v29_eq _)).trans ?_, kept⟩
  · rw [a0, a1, a2, a3, a4, a5]
    exact (Read.res8 H).trans (Cert.Kernel15Ideal.Gen.arr8 m c).symm
  · rw [a0, a1, a2, a3, a4, a5]
    exact (Read.res9 H).trans (Cert.Kernel15Ideal.Gen.arr9 m c).symm
  · rw [a0, a1, a2, a3, a4, a5]
    exact (Read.res10 H).trans (Cert.Kernel15Ideal.Gen.arr10 m c).symm
  · rw [a0, a1, a2, a5]
    exact (Read.res11 H).trans (Cert.Kernel15Ideal.Gen.arr11 m c).symm
  · rw [a0, a1, a2, a3, a5]
    exact (Read.res12 H).trans (Cert.Kernel15Ideal.Gen.arr12 m c).symm
  · rw [a5]
    exact (Read.res13 (E := Cert.Kernel15Ideal.Gen.dataAt m c)).trans (Cert.Kernel15Ideal.Gen.arr13 m c).symm

end Cert.Reference15Ideal.Value

end
-- ==== Proof.Half.lean ====
/-
  The backward pass of the residual after the first feed-forward sub-layer, and of the norm and the modulation after it. The
  gate has the factor one half, and is another part of the modulation than the gate after the mixers. Otherwise both the kernel
  and the reference are those of Proof/Residual.lean, on a modulation whose parts stand where the mixers have theirs, with the
  gate halved.
-/
module

public import proofs.«01_k».proof.Defs
public import proofs.«01_k».proof.Proof.Residual
public import proofs.«01_k».proof.Proof.Gen.Kernel16Ideal.Value
public import proofs.«01_k».proof.Proof.Gen.Reference16Ideal.Run
public import proofs.«01_k».proof.Proof.Gen.Reference16Ideal.Read

@[expose] public section

set_option maxHeartbeats 1000000

noncomputable section

open Idealize.ShloMosaic Idealize.ShloMosaic.TcCoe Cert.Product Cert.Gate

namespace Cert.Gate

/-- One half is a real number. -/
theorem half_eq : half = ((1 / 2 : ℝ) : EReal) := by
  unfold half; simp [Ideal.ofBits, Ideal.ieee, -EReal.coe_mul]; norm_num

/-- One half comes out of a sum. -/
theorem half_sum {n : ℕ} (f : Fin n → EReal) : ∑ i : Fin n, half * f i = half * ∑ i : Fin n, f i := by
  rw [half_eq]
  exact mul_sum_of_nonneg Finset.univ (by norm_num) f

/-- The modulation with its third to fifth parts moved to where its sixth to eighth stand, and the gate, the first of them,
    halved. -/
def moved (M : Mat 1 9216) : Mat 1 9216 := fun y =>
  if (y 1).val < 6144 then half * ent M 0 ((y 1).val - 3072) else ent M 0 ((y 1).val - 3072)

/-- The halved gate. -/
theorem moved_gate (M : Mat 1 9216) (j : Fin 1024) : ent (moved M) 0 (5120 + j.val) = half * ent M 0 (2048 + j.val) := by
  rw [ent_eq _ (by omega) (by omega)]
  refine (if_pos (show 5120 + j.val < 6144 by omega)).trans ?_
  exact congrArg (fun n => half * ent M 0 n) (show 5120 + j.val - 3072 = 2048 + j.val by omega)

/-- The scale. -/
theorem moved_scale (M : Mat 1 9216) (j : Fin 1024) : ent (moved M) 0 (7168 + j.val) = ent M 0 (4096 + j.val) := by
  rw [ent_eq _ (by omega) (by omega)]
  refine (if_neg (show ¬7168 + j.val < 6144 by omega)).trans ?_
  exact congrArg (ent M 0) (show 7168 + j.val - 3072 = 4096 + j.val by omega)

end Cert.Gate

namespace Cert.Kernel16Ideal.Gen

/-! ## A block of rows -/

section

variable (v0 v1 : Vec Ideal S256x1024 .f32) (v2 : Vec Ideal S1x1024 .f32)

/-- The norm's argument is the one of the other residual, with the halved gate. -/
theorem eq8 : k0_pay8 v0 v1 v2 = Cert.Kernel15Ideal.Gen.k0_pay8 v0 v1 (k0_pay7 v2) := by
  funext y
  obtain ⟨i, j, rfl⟩ := exists_ix2 y
  pointwise [k0_pay8, Cert.Kernel15Ideal.Gen.k0_pay8, Cert.Kernel15Ideal.Gen.k0_pay7]

/-- So are the reciprocal roots of its mean squares. -/
theorem eq10 : k0_pay10 v0 v1 v2 = Cert.Kernel15Ideal.Gen.k0_pay10 v0 v1 (k0_pay7 v2) := by
  unfold k0_pay10 k0_pay9; rw [eq8]; rfl

/-- So are the derivatives of these. -/
theorem eq11 : k0_pay11 v0 v1 v2 = Cert.Kernel15Ideal.Gen.k0_pay11 v0 v1 (k0_pay7 v2) := by
  unfold k0_pay11; rw [eq10]; unfold k0_pay9; rw [eq8]; rfl

/-- So are the normalised rows. -/
theorem eq12 : k0_pay12 v0 v1 v2 = Cert.Kernel15Ideal.Gen.k0_pay12 v0 v1 (k0_pay7 v2) := by
  unfold k0_pay12; rw [eq10, eq8]; rfl

end

/-! ## The points -/

variable (m : (ℓ : Loc nD τ sig) → Buf (Elt Ideal) ℓ) (c : Dev nD)

/-- The kernel's modulation. -/
abbrev modAt : Mat 1 9216 := (m ((c : Thread nD τ).loc main_arg2) : Vec Ideal S1x9216 .f32)

/-- The kernel's arguments, the modulation's parts moved and the gate halved. -/
def dataAt : Res where
  X := (m ((c : Thread nD τ).loc main_arg0) : Vec Ideal S2048x1024 .f32)
  Y := (m ((c : Thread nD τ).loc main_arg1) : Vec Ideal S2048x1024 .f32)
  M := moved (modAt m c)
  w := (m ((c : Thread nD τ).loc main_arg3) : Vec Ideal S1x1024 .f32)
  dx := (m ((c : Thread nD τ).loc main_arg4) : Vec Ideal S2048x1024 .f32)
  dh := (m ((c : Thread nD τ).loc main_arg5) : Vec Ideal S2048x1024 .f32)
  s := 1
  o := 5120

/-- The arrays move by rows with the point; the vectors are parts of the modulation or whole. -/
theorem idx : ∀ t : Fin cfg0.N, win0_0.index t = ![t.val, 0] ∧ win0_1.index t = ![t.val, 0] ∧ win0_2.index t = ![0, 2]
    ∧ win0_3.index t = ![0, 0] ∧ win0_4.index t = ![0, 4] ∧ win0_6.index t = ![t.val, 0] ∧ win0_7.index t = ![t.val, 0]
    ∧ win0_8.index t = ![t.val, 0] ∧ win0_9.index t = ![t.val, 0] :=
  (by decide +kernel : ∀ t : Fin grid0.N, _)

/-- The sub-layer's output of a point. -/
theorem tile1 (t : Fin cfg0.N) (i : Fin 256) (j : Fin 1024) : (iblk m c 1 t : Vec Ideal S256x1024 .f32) (ix2 i j)
    = ent (dataAt m c).Y (256 * t.val + i.val) j.val := by
  have hN : t.val < 8 := lt_of_lt_of_eq t.isLt N_0
  rw [ent_eq _ (by omega) (by omega)]
  refine Eq.trans ?_ (congrFun (V_main_arg1 m c) _)
  blk_ext [iblk, idx t]

/-- The vectors and cotangents of a point. -/
theorem rows (t : Fin cfg0.N) : Cert.Kernel15Ideal.Gen.Rows (dataAt m c).norm (256 * t.val) (iblk m c 3 t) (iblk m c 4 t)
    (iblk m c 6 t) (iblk m c 7 t) := by
  have hN : t.val < 8 := lt_of_lt_of_eq t.isLt N_0
  refine ⟨fun j => ?_, fun j => ?_, fun i j => ?_, fun i j => ?_⟩
  · refine Eq.trans ?_ (ent_eq _ (by omega) j.isLt).symm
    refine Eq.trans ?_ (congrFun (V_main_arg3 m c) _)
    blk_ext [iblk, idx t]
  · refine Eq.trans ?_ (moved_scale (modAt m c) j).symm
    refine Eq.trans ?_ (ent_eq _ (by omega) (by omega : 4096 + j.val < 9216)).symm
    refine Eq.trans ?_ (congrFun (V_main_arg2 m c) _)
    blk_ext [iblk, idx t]
  · refine Eq.trans ?_ (ent_eq _ (by omega) j.isLt).symm
    refine Eq.trans ?_ (congrFun (V_main_arg4 m c) _)
    blk_ext [iblk, idx t]
  · refine Eq.trans ?_ (ent_eq _ (by omega) j.isLt).symm
    refine Eq.trans ?_ (congrFun (V_main_arg5 m c) _)
    blk_ext [iblk, idx t]

/-- The halved gate. -/
theorem gate (t : Fin cfg0.N) (j : Fin 1024) : k0_pay7 (iblk m c 2 t) (ix2 0 j) = (dataAt m c).gate j := by
  refine Eq.trans ?_ ((one_mul _).trans (moved_gate (modAt m c) j)).symm
  pointwise [k0_pay7]
  refine congrArg (half * ·) (Eq.trans ?_ (ent_eq _ (by omega) (by omega : 2048 + j.val < 9216)).symm)
  refine Eq.trans ?_ (congrFun (V_main_arg2 m c) _)
  blk_ext [iblk, idx t]

/-- The norm's argument of a point. -/
theorem arg (t : Fin cfg0.N) : Cert.Kernel15Ideal.Gen.Arg (dataAt m c).norm (256 * t.val) (iblk m c 0 t) (iblk m c 1 t)
    (k0_pay7 (iblk m c 2 t)) := by
  have hN : t.val < 8 := lt_of_lt_of_eq t.isLt N_0
  intro i j
  rw [← eq8]
  pointwise [k0_pay8]
  rw [gate, tile1]
  refine congrArg (· + _) (Eq.trans ?_ (ent_eq _ (by omega) j.isLt).symm)
  refine Eq.trans ?_ (congrFun (V_main_arg0 m c) _)
  blk_ext [iblk, idx t]

/-- The cotangent of the norm's argument of a point. -/
theorem pay18 (t : Fin cfg0.N) (i : Fin 256) (j : Fin 1024) :
    k0_pay18 (iblk m c 3 t) (iblk m c 6 t) (k0_pay8 (iblk m c 0 t) (iblk m c 1 t) (iblk m c 2 t))
      (k0_pay10 (iblk m c 0 t) (iblk m c 1 t) (iblk m c 2 t)) (k0_pay11 (iblk m c 0 t) (iblk m c 1 t) (iblk m c 2 t))
      (k0_pay16 (iblk m c 4 t) (iblk m c 7 t)) (ix2 i j)
    = (dataAt m c).norm.dxn (256 * t.val + i.val) j.val := by
  rw [eq8, eq10, eq11]
  exact (rows m c t).pay18 (arg m c t) i j

/-- The part of the gain's gradient of a point. -/
theorem pay17 (t : Fin cfg0.N) (j : Fin 1024) :
    k0_pay17 (k0_pay12 (iblk m c 0 t) (iblk m c 1 t) (iblk m c 2 t)) (k0_pay16 (iblk m c 4 t) (iblk m c 7 t)) (ix2 0 j)
    = ∑ i : Fin 256, (dataAt m c).norm.dw (256 * t.val + i.val) j.val := by
  rw [eq12]
  exact (rows m c t).pay17 (arg m c t) j

/-- The part of the scale's gradient of a point. -/
theorem pay15 (t : Fin cfg0.N) (j : Fin 1024) :
    k0_pay15 (iblk m c 0 t) (iblk m c 1 t) (iblk m c 2 t) (iblk m c 3 t) (iblk m c 7 t) (ix2 0 j)
    = ∑ i : Fin 256, (dataAt m c).norm.dsc (256 * t.val + i.val) j.val := by
  unfold k0_pay15
  rw [eq12]
  exact (rows m c t).pay15 (arg m c t) j

/-- The gate's gradient of a point. -/
theorem pay22 (t : Fin cfg0.N) (v72 : Vec Ideal S1x1024 .f32) (j : Fin 1024) :
    k0_pay22 (iblk m c 1 t) (iblk m c 3 t) (iblk m c 6 t) (k0_pay8 (iblk m c 0 t) (iblk m c 1 t) (iblk m c 2 t))
      (k0_pay10 (iblk m c 0 t) (iblk m c 1 t) (iblk m c 2 t)) (k0_pay11 (iblk m c 0 t) (iblk m c 1 t) (iblk m c 2 t))
      (k0_pay16 (iblk m c 4 t) (iblk m c 7 t)) v72 (ix2 0 j)
    = v72 (ix2 0 j) + ∑ i : Fin 256, half * (dataAt m c).dg (256 * t.val + i.val) j.val := by
  rw [half_sum]
  pointwise [k0_pay22, k0_pay19]
  simp only [pay18, tile1]
  rfl

/-- The sub-layer's cotangent of a point. -/
theorem pay20 (t : Fin cfg0.N) (i : Fin 256) (j : Fin 1024) :
    k0_pay20 (iblk m c 3 t) (iblk m c 6 t) (k0_pay7 (iblk m c 2 t)) (k0_pay8 (iblk m c 0 t) (iblk m c 1 t) (iblk m c 2 t))
      (k0_pay10 (iblk m c 0 t) (iblk m c 1 t) (iblk m c 2 t)) (k0_pay11 (iblk m c 0 t) (iblk m c 1 t) (iblk m c 2 t))
      (k0_pay16 (iblk m c 4 t) (iblk m c 7 t)) (ix2 i j)
    = (dataAt m c).dy (256 * t.val + i.val) j.val := by
  pointwise [k0_pay20, k0_pay19]
  rw [pay18, gate]
  rfl

/-- What a point leaves of the two rowwise results. -/
theorem out (t : Fin cfg0.N) (i : Fin 256) (j : Fin 1024) :
    (outsAt0 m c t.val t.isLt).1 (ix2 i j) = (dataAt m c).norm.dxn (256 * t.val + i.val) j.val
    ∧ (outsAt0 m c t.val t.isLt).2.1 (ix2 i j) = (dataAt m c).dy (256 * t.val + i.val) j.val := by
  by_cases h0 : t.val % 8 = 0
  · rw [outsAt0_A m c t h0 h0 h0 h0]
    constructor
    · frame_out
      exact pay18 m c t i j
    · frame_out
      exact pay20 m c t i j
  · rw [outsAt0_B m c t h0 h0 h0 h0]
    constructor
    · frame_out
      exact pay18 m c t i j
    · frame_out
      exact pay20 m c t i j

/-- What the first point leaves of the four accumulated results. -/
theorem first (t : Fin cfg0.N) (h0 : t.val % 8 = 0) (j : Fin 1024) :
    (outsAt0 m c t.val t.isLt).2.2.1 (ix2 0 j) = 0 + ∑ i : Fin 256, half * (dataAt m c).dg (256 * t.val + i.val) j.val
    ∧ (outsAt0 m c t.val t.isLt).2.2.2.1 (ix2 0 j) = 0 + ∑ i : Fin 256, (dataAt m c).norm.dw (256 * t.val + i.val) j.val
    ∧ (outsAt0 m c t.val t.isLt).2.2.2.2.1 (ix2 0 j) = 0 + ∑ i : Fin 256, (dataAt m c).norm.dsc (256 * t.val + i.val) j.val
    ∧ (outsAt0 m c t.val t.isLt).2.2.2.2.2 (ix2 0 j) = 0 + ∑ i : Fin 256, (dataAt m c).norm.dh (256 * t.val + i.val) j.val := by
  rw [outsAt0_A m c t h0 h0 h0 h0]
  refine ⟨?_, ?_, ?_, ?_⟩
  · frame_out
    refine (pay22 m c t _ j).trans (congrArg (· + _) ?_)
    pointwise [k0_pay21]
  · frame_out
    pointwise [k0_pay2, k0_pay1]
    rw [pay17]
  · frame_out
    pointwise [k0_pay4, k0_pay3]
    rw [pay15]
  · frame_out
    pointwise [k0_pay6, k0_pay5]
    exact (rows m c t).pay14 j

/-- What a later point leaves of them. -/
theorem later (t : Fin cfg0.N) (h0 : ¬t.val % 8 = 0) (j : Fin 1024) :
    (outsAt0 m c t.val t.isLt).2.2.1 (ix2 0 j)
      = (outsAt0 m c (t.val - 1) (Nat.lt_of_le_of_lt (Nat.sub_le _ _) t.isLt)).2.2.1 (ix2 0 j)
        + ∑ i : Fin 256, half * (dataAt m c).dg (256 * t.val + i.val) j.val
    ∧ (outsAt0 m c t.val t.isLt).2.2.2.1 (ix2 0 j)
      = (outsAt0 m c (t.val - 1) (Nat.lt_of_le_of_lt (Nat.sub_le _ _) t.isLt)).2.2.2.1 (ix2 0 j)
        + ∑ i : Fin 256, (dataAt m c).norm.dw (256 * t.val + i.val) j.val
    ∧ (outsAt0 m c t.val t.isLt).2.2.2.2.1 (ix2 0 j)
      = (outsAt0 m c (t.val - 1) (Nat.lt_of_le_of_lt (Nat.sub_le _ _) t.isLt)).2.2.2.2.1 (ix2 0 j)
        + ∑ i : Fin 256, (dataAt m c).norm.dsc (256 * t.val + i.val) j.val
    ∧ (outsAt0 m c t.val t.isLt).2.2.2.2.2 (ix2 0 j)
      = (outsAt0 m c (t.val - 1) (Nat.lt_of_le_of_lt (Nat.sub_le _ _) t.isLt)).2.2.2.2.2 (ix2 0 j)
        + ∑ i : Fin 256, (dataAt m c).norm.dh (256 * t.val + i.val) j.val := by
  rw [outsAt0_B m c t h0 h0 h0 h0]
  refine ⟨?_, ?_, ?_, ?_⟩
  · frame_out
    exact pay22 m c t _ j
  · frame_out
    pointwise [k0_pay2]
    rw [pay17]
  · frame_out
    pointwise [k0_pay4]
    rw [pay15]
  · frame_out
    pointwise [k0_pay6]
    exact congrArg (_ + ·) ((rows m c t).pay14 j)

/-! ## The arrays -/

/-- The array of the residual stream's cotangent. -/
theorem arr8 : (dats m 0 c).arrAt 8 cfg0.N
    = (fun y => (dataAt m c).norm.dxn (y 0).val (y 1).val : Vec Ideal S2048x1024 .f32) := by
  refine (dats m 0 c).arrAt_eq_of_covers 8 _ (by decide +kernel) fun t hf y => ?_
  blk_simp
  rw [after0_8]
  obtain ⟨i, j, rfl⟩ := exists_ix2 y
  refine (out m c t i j).1.trans ?_
  blk_simp [idx t]
  rw [Nat.mul_comm]

/-- The array of the sub-layer's cotangent. -/
theorem arr9 : (dats m 0 c).arrAt 9 cfg0.N
    = (fun y => (dataAt m c).dy (y 0).val (y 1).val : Vec Ideal S2048x1024 .bf16) := by
  refine (dats m 0 c).arrAt_eq_of_covers 9 _ (by decide +kernel) fun t hf y => ?_
  blk_simp
  rw [after0_9]
  obtain ⟨i, j, rfl⟩ := exists_ix2 y
  refine (out m c t i j).2.trans ?_
  blk_simp [idx t]
  rw [Nat.mul_comm]

/-- The array of the gate's gradient. -/
theorem arr10 : (dats m 0 c).arrAt 10 cfg0.N
    = (fun y => half * ∑ r : Fin 2048, (dataAt m c).dg r.val (y 1).val : Vec Ideal S1x1024 .f32) := by
  refine (dats m 0 c).arrAt_eq_of_after_last 10 t0_7 (by decide +kernel) _ fun y => ?_
  blk_simp
  rw [after0_10]
  obtain ⟨i, j, rfl⟩ := exists_ix2 y
  obtain rfl : i = 0 := Subsingleton.elim _ _
  exact (total (b := 256) N_0 rfl (fun n h => fun j => (outsAt0 m c n h).2.2.1 (ix2 0 j))
    (fun r (j : Fin 1024) => half * (dataAt m c).dg r j) (fun t h j => (first m c t h j).1)
    (fun t h j => (later m c t h j).1) t0_7 rfl j).trans (half_sum _)

/-- The array of the gain's gradient. -/
theorem arr11 : (dats m 0 c).arrAt 11 cfg0.N
    = (fun y => ∑ r : Fin 2048, (dataAt m c).norm.dw r.val (y 1).val : Vec Ideal S1x1024 .f32) := by
  refine (dats m 0 c).arrAt_eq_of_after_last 11 t0_7 (by decide +kernel) _ fun y => ?_
  blk_simp
  rw [after0_11]
  obtain ⟨i, j, rfl⟩ := exists_ix2 y
  obtain rfl : i = 0 := Subsingleton.elim _ _
  exact total (b := 256) N_0 rfl (fun n h => fun j => (outsAt0 m c n h).2.2.2.1 (ix2 0 j))
    (fun r (j : Fin 1024) => (dataAt m c).norm.dw r j) (fun t h j => (first m c t h j).2.1)
    (fun t h j => (later m c t h j).2.1) t0_7 rfl j

/-- The array of the scale's gradient. -/
theorem arr12 : (dats m 0 c).arrAt 12 cfg0.N
    = (fun y => ∑ r : Fin 2048, (dataAt m c).norm.dsc r.val (y 1).val : Vec Ideal S1x1024 .f32) := by
  refine (dats m 0 c).arrAt_eq_of_after_last 12 t0_7 (by decide +kernel) _ fun y => ?_
  blk_simp
  rw [after0_12]
  obtain ⟨i, j, rfl⟩ := exists_ix2 y
  obtain rfl : i = 0 := Subsingleton.elim _ _
  exact total (b := 256) N_0 rfl (fun n h => fun j => (outsAt0 m c n h).2.2.2.2.1 (ix2 0 j))
    (fun r (j : Fin 1024) => (dataAt m c).norm.dsc r j) (fun t h j => (first m c t h j).2.2.1)
    (fun t h j => (later m c t h j).2.2.1) t0_7 rfl j

/-- The array of the shift's gradient. -/
theorem arr13 : (dats m 0 c).arrAt 13 cfg0.N
    = (fun y => ∑ r : Fin 2048, (dataAt m c).norm.dh r.val (y 1).val : Vec Ideal S1x1024 .f32) := by
  refine (dats m 0 c).arrAt_eq_of_after_last 13 t0_7 (by decide +kernel) _ fun y => ?_
  blk_simp
  rw [after0_13]
  obtain ⟨i, j, rfl⟩ := exists_ix2 y
  obtain rfl : i = 0 := Subsingleton.elim _ _
  exact total (b := 256) N_0 rfl (fun n h => fun j => (outsAt0 m c n h).2.2.2.2.2 (ix2 0 j))
    (fun r (j : Fin 1024) => (dataAt m c).norm.dh r j) (fun t h j => (first m c t h j).2.2.2)
    (fun t h j => (later m c t h j).2.2.2) t0_7 rfl j

end Cert.Kernel16Ideal.Gen

namespace Cert.Reference16Ideal.Read

open Cert.Reference15Ideal.Read (Is res8 res9 res10 res11 res12 res13)

section

variable (X Y dx dh : Vec Ideal S2048x1024 .f32) (M : Vec Ideal S1x9216 .f32) (w : Vec Ideal S1x1024 .f32)

/-- The halved gate is the other reference's gate. -/
theorem gate_eq : val_main_v4 (F := Ideal) M = Cert.Reference15Ideal.Read.val_main_v0 (F := Ideal) (moved M) := by
  funext y
  obtain ⟨i, j, rfl⟩ := exists_ix2 y
  obtain rfl : i = 0 := Subsingleton.elim _ _
  pointwise [val_main_v4, val_main_v3, val_main_cst, val_main_v0, Cert.Reference15Ideal.Read.val_main_v0]
  refine Eq.trans ?_ ((moved_gate M j).symm.trans (ent_eq _ (by omega) (by omega)))
  rw [ent_eq _ (by omega) (by omega)]
  rfl

/-- So is the scale plus one. -/
theorem scale_eq : val_main_v24 (F := Ideal) M = Cert.Reference15Ideal.Read.val_main_v22 (F := Ideal) (moved M) := by
  funext y
  obtain ⟨i, j, rfl⟩ := exists_ix2 y
  obtain rfl : i = 0 := Subsingleton.elim _ _
  pointwise [val_main_v24, val_main_v23, val_main_cst_4, val_main_v2, Cert.Reference15Ideal.Read.val_main_v22,
    Cert.Reference15Ideal.Read.val_main_v21, Cert.Reference15Ideal.Read.val_main_cst_3, Cert.Reference15Ideal.Read.val_main_v2]
  refine congrArg (_ + ·) (Eq.trans ?_ ((moved_scale M j).symm.trans (ent_eq _ (by omega) (by omega))))
  rw [ent_eq _ (by omega) (by omega)]
  rfl

/-- So is the norm's argument. -/
theorem arg_eq : val_main_v7 (F := Ideal) X Y M = Cert.Reference15Ideal.Read.val_main_v5 (F := Ideal) X Y (moved M) := by
  unfold val_main_v7 val_main_v6 val_main_v5; rw [gate_eq]; rfl

/-- So are the reciprocal roots. -/
theorem root_eq : val_main_v15 (F := Ideal) X Y M = Cert.Reference15Ideal.Read.val_main_v13 (F := Ideal) X Y (moved M) := by
  unfold val_main_v15 val_main_v14 val_main_v12 val_main_v10 val_main_v9 val_main_v8; rw [arg_eq]; rfl

/-- So are their derivatives. -/
theorem droot_eq : val_main_v18 (F := Ideal) X Y M = Cert.Reference15Ideal.Read.val_main_v16 (F := Ideal) X Y (moved M) := by
  unfold val_main_v18 val_main_v16; rw [root_eq]
  unfold val_main_v14 val_main_v12 val_main_v10 val_main_v9 val_main_v8; rw [arg_eq]; rfl

/-- So are the normalised rows. -/
theorem nr_eq : val_main_v20 (F := Ideal) X Y M = Cert.Reference15Ideal.Read.val_main_v18 (F := Ideal) X Y (moved M) := by
  unfold val_main_v20 val_main_v19; rw [root_eq, arg_eq]; rfl

/-- So is the cotangent of the norm's value. -/
theorem q_eq : val_main_v36 (F := Ideal) M dh = Cert.Reference15Ideal.Read.val_main_v34 (F := Ideal) (moved M) dh := by
  unfold val_main_v36 val_main_v35; rw [scale_eq]; rfl

/-- So is the cotangent of the normalised rows. -/
theorem p_eq : val_main_v41 (F := Ideal) M w dh = Cert.Reference15Ideal.Read.val_main_v39 (F := Ideal) (moved M) w dh := by
  unfold val_main_v41; rw [q_eq]; rfl

/-- So is the cotangent of the sum of squares. -/
theorem dms_eq : val_main_v52 (F := Ideal) X Y M w dh
    = Cert.Reference15Ideal.Read.val_main_v50 (F := Ideal) X Y (moved M) w dh := by
  unfold val_main_v52 val_main_v51 val_main_v50 val_main_v48 val_main_v44 val_main_v43 val_main_v42
  rw [droot_eq, arg_eq, p_eq]; rfl

/-- So is the residual stream's cotangent. -/
theorem dx_eq : val_main_v56 (F := Ideal) X Y M w dx dh
    = Cert.Reference15Ideal.Read.val_main_v54 (F := Ideal) X Y (moved M) w dx dh := by
  unfold val_main_v56 val_main_v55 val_main_v54 val_main_v53 val_main_v47 val_main_v46 val_main_v45
  rw [dms_eq, arg_eq, p_eq, root_eq]; rfl

/-- So is the sub-layer's cotangent. -/
theorem dy_eq : val_main_v65 (F := Ideal) X Y M w dx dh
    = Cert.Reference15Ideal.Read.val_main_v61 (F := Ideal) X Y (moved M) w dx dh := by
  unfold val_main_v65 val_main_v59 val_main_v58 val_main_v57; rw [gate_eq, dx_eq]; rfl

/-- So is the gain's gradient. -/
theorem dw_eq : val_main_v39 (F := Ideal) X Y M dh = Cert.Reference15Ideal.Read.val_main_v37 (F := Ideal) X Y (moved M) dh := by
  unfold val_main_v39 val_main_v38 val_main_v37; rw [nr_eq, q_eq]; rfl

/-- So is the scale's gradient. -/
theorem dsc_eq : val_main_v34 (F := Ideal) X Y M w dh
    = Cert.Reference15Ideal.Read.val_main_v32 (F := Ideal) X Y (moved M) w dh := by
  unfold val_main_v34 val_main_v33 val_main_v32 val_main_v22; rw [nr_eq]; rfl

/-- The gate's gradient is half the other reference's. -/
theorem dg_eq (y : S1x1024.Idx) : val_main_v64 (F := Ideal) X Y M w dx dh y
    = half * Cert.Reference15Ideal.Read.val_main_v60 (F := Ideal) X Y (moved M) w dx dh y := by
  unfold val_main_v64 val_main_v62 val_main_v61 val_main_v60 val_main_v57; rw [dx_eq]; rfl

end

end Cert.Reference16Ideal.Read

namespace Cert.Reference16Ideal.Value

open Cert.Reference15Ideal.Read (Is res8 res9 res10 res11 res12 res13)

/-- The kernel computes the reference's gradient of the residual with a halved gate, the norm and the modulation. -/
theorem algebraic : Cert.algebraic_Kernel16Ideal_Reference16Ideal := by
  intro m g m' g' _ ha
  refine ⟨fun c => (Cert.Kernel16Ideal.Gen.dats m 0 c).arrAt 8 Cert.Kernel16Ideal.cfg0.N,
    fun c => (Cert.Kernel16Ideal.Gen.dats m 0 c).arrAt 9 Cert.Kernel16Ideal.cfg0.N,
    fun c => (Cert.Kernel16Ideal.Gen.dats m 0 c).arrAt 10 Cert.Kernel16Ideal.cfg0.N,
    fun c => (Cert.Kernel16Ideal.Gen.dats m 0 c).arrAt 11 Cert.Kernel16Ideal.cfg0.N,
    fun c => (Cert.Kernel16Ideal.Gen.dats m 0 c).arrAt 12 Cert.Kernel16Ideal.cfg0.N,
    fun c => (Cert.Kernel16Ideal.Gen.dats m 0 c).arrAt 13 Cert.Kernel16Ideal.cfg0.N, Cert.Kernel16Ideal.Value.run_blocks m g, ?_⟩
  refine (θ_run Cert.Reference16Ideal.defs _ _).mono (fun r h c => ?_) (run (F := Ideal) m' g')
  obtain ⟨r8, r9, r10, r11, r12, r13, kept⟩ := h c
  obtain ⟨a0, a1, a2, a3, a4, a5⟩ := ha c
  have H : Is (Cert.Kernel16Ideal.Gen.dataAt m c) := ⟨rfl, rfl⟩
  refine ⟨(r8.trans (Read.val_main_v56_eq _ _)).trans ?_, (r9.trans (Read.val_main_v65_eq _ _)).trans ?_,
    (r10.trans (Read.val_main_v64_eq _ _)).trans ?_, (r11.trans (Read.val_main_v39_eq _ _ _ _)).trans ?_,
    (r12.trans (Read.val_main_v34_eq _ _ _ _ _)).trans ?_, (r13.trans (Read.val_main_v31_eq _)).trans ?_, kept⟩
  · rw [a0, a1, a2, a3, a4, a5, Read.dx_eq]
    exact (res8 H).trans (Cert.Kernel16Ideal.Gen.arr8 m c).symm
  · rw [a0, a1, a2, a3, a4, a5, Read.dy_eq]
    exact (res9 H).trans (Cert.Kernel16Ideal.Gen.arr9 m c).symm
  · rw [a0, a1, a2, a3, a4, a5]
    refine Eq.trans ?_ (Cert.Kernel16Ideal.Gen.arr10 m c).symm
    funext y
    exact (Read.dg_eq _ _ _ _ _ _ y).trans (congrArg (half * ·) (congrFun (res10 H) y))
  · rw [a0, a1, a2, a5, Read.dw_eq]
    exact (res11 H).trans (Cert.Kernel16Ideal.Gen.arr11 m c).symm
  · rw [a0, a1, a2, a3, a5, Read.dsc_eq]
    exact (res12 H).trans (Cert.Kernel16Ideal.Gen.arr12 m c).symm
  · rw [a5]
    exact (res13 (E := Cert.Kernel16Ideal.Gen.dataAt m c)).trans (Cert.Kernel16Ideal.Gen.arr13 m c).symm

end Cert.Reference16Ideal.Value

end
-- ==== Proof.First.lean ====
/-
  The backward pass of the first sub-layer's norm and modulation. No residual stands before the norm: the reference is the one
  of Proof/Residual.lean whose sub-layer's output is zero, on a modulation whose scale stands where the mixers have theirs.
-/
module

public import proofs.«01_k».proof.Defs
public import proofs.«01_k».proof.Proof.Residual
public import proofs.«01_k».proof.Proof.Gen.Kernel17Ideal.Value
public import proofs.«01_k».proof.Proof.Gen.Reference17Ideal.Run
public import proofs.«01_k».proof.Proof.Gen.Reference17Ideal.Read

@[expose] public section

set_option maxHeartbeats 1000000

noncomputable section

open Idealize.ShloMosaic Idealize.ShloMosaic.TcCoe Cert.Product Cert.Gate

namespace Cert.Gate

/-- The modulation with its second part, the scale, moved to where the eighth stands. -/
def lifted (M : Mat 1 9216) : Mat 1 9216 := fun y => if 6144 ≤ (y 1).val then ent M 0 ((y 1).val - 6144) else 0

/-- The scale. -/
theorem lifted_scale (M : Mat 1 9216) (j : Fin 1024) : ent (lifted M) 0 (7168 + j.val) = ent M 0 (1024 + j.val) := by
  rw [ent_eq _ (by omega) (by omega)]
  refine (if_pos (show 6144 ≤ 7168 + j.val by omega)).trans ?_
  exact congrArg (ent M 0) (show 7168 + j.val - 6144 = 1024 + j.val by omega)

/-- The sub-layer's output that is not there. -/
def zeros : Mat 2048 1024 := fun _ => (0 : EReal)

/-- Without a sub-layer's output the norm's argument is the residual stream. -/
theorem norm_x (E : Res) (h : E.Y = zeros) {r j : ℕ} (hr : r < 2048) (hj : j < 1024) : E.norm.x r j = ent E.X r j := by
  dsimp only [Res.norm]
  rw [h, ent_eq zeros hr hj]
  exact (congrArg (_ + ·) (mul_zero _)).trans (add_zero _)

end Cert.Gate

namespace Cert.Kernel17Ideal.Gen

/-! ## A block of rows -/

/-- The blocks are rows `r` onwards of the norm's data. -/
structure Rows (D : Norm) (r : ℕ) (v0 v3 v4 : Vec Ideal S512x1024 .f32) (v1 v2 : Vec Ideal S1x1024 .f32) : Prop where
  x : ∀ (i : Fin 512) (j : Fin 1024), v0 (ix2 i j) = D.x (r + i) j
  w : ∀ j : Fin 1024, v1 (ix2 0 j) = D.w j
  sc : ∀ j : Fin 1024, v2 (ix2 0 j) = D.sc j
  dx : ∀ (i : Fin 512) (j : Fin 1024), v3 (ix2 i j) = D.dx (r + i) j
  dh : ∀ (i : Fin 512) (j : Fin 1024), v4 (ix2 i j) = D.dh (r + i) j

section

variable {D : Norm} {r : ℕ} {v0 v3 v4 : Vec Ideal S512x1024 .f32} {v1 v2 : Vec Ideal S1x1024 .f32} (H : Rows D r v0 v3 v4 v1 v2)
include H

/-- The mean squares plus the epsilon. -/
theorem Rows.pay1 (i : Fin 512) : k0_pay1 v0 (ix2 i 0) = D.ms (r + i) := by
  pointwise [k0_pay1]; simp only [H.x]; rfl
/-- Their reciprocal roots. -/
theorem Rows.pay2 (i : Fin 512) : k0_pay2 v0 (ix2 i 0) = D.rs (r + i) := by
  pointwise [k0_pay2]; rw [H.pay1]; rfl
/-- The derivatives of the reciprocal roots. -/
theorem Rows.pay3 (i : Fin 512) : k0_pay3 v0 (ix2 i 0) = D.drs (r + i) := by
  pointwise [k0_pay3]; rw [H.pay2, H.pay1]; rfl
/-- The normalised rows. -/
theorem Rows.pay4 (i : Fin 512) (j : Fin 1024) : k0_pay4 v0 (ix2 i j) = D.nr (r + i) j := by
  pointwise [k0_pay4]; rw [H.pay2, H.x]; rfl
/-- The column sums of the modulated value's cotangent. -/
theorem Rows.pay6 (j : Fin 1024) : k0_pay6 v4 (ix2 0 j) = ∑ i : Fin 512, D.dh (r + i) j := by
  pointwise [k0_pay6]; simp only [H.dh]
/-- The rows' part of the cotangent of the scale. -/
theorem Rows.pay7 (j : Fin 1024) : k0_pay7 v0 v1 v4 (ix2 0 j) = ∑ i : Fin 512, D.dsc (r + i) j := by
  pointwise [k0_pay7, k0_pay5]; simp only [H.pay4, H.w, H.dh]; rfl
/-- The cotangent of the norm's value. -/
theorem Rows.pay8 (i : Fin 512) (j : Fin 1024) : k0_pay8 v2 v4 (ix2 i j) = D.q (r + i) j := by
  pointwise [k0_pay8, k0_pay5]; rw [H.dh, H.sc]; rfl
/-- The rows' part of the cotangent of the gain. -/
theorem Rows.pay9 (j : Fin 1024) : k0_pay9 v0 v2 v4 (ix2 0 j) = ∑ i : Fin 512, D.dw (r + i) j := by
  pointwise [k0_pay9]; simp only [H.pay4, H.pay8]; rfl
/-- The cotangent of the normalised rows. -/
theorem Rows.pay10 (i : Fin 512) (j : Fin 1024) : k0_pay10 v1 v2 v4 (ix2 i j) = D.p (r + i) j := by
  pointwise [k0_pay10]; rw [H.pay8, H.w]; rfl
/-- The cotangent of the norm's argument. -/
theorem Rows.pay13 (i : Fin 512) (j : Fin 1024) :
    k0_pay13 v0 v3 (k0_pay3 v0) (k0_pay11 v0 v1 v2 v4) (k0_pay12 v0 v1 v2 v4) (ix2 i j) = D.dxn (r + i) j := by
  pointwise [k0_pay13, k0_pay12, k0_pay11]
  simp only [Finset.univ_unique, Finset.sum_singleton]
  simp only [show ∀ x : Fin 1, x = 0 from fun x => Subsingleton.elim _ _]
  simp only [H.pay2, H.pay3, H.pay10, H.x, H.dx]
  rfl

end

/-! ## The points -/

variable (m : (ℓ : Loc nD τ sig) → Buf (Elt Ideal) ℓ) (c : Dev nD)

/-- The kernel's modulation. -/
abbrev modAt : Mat 1 9216 := (m ((c : Thread nD τ).loc main_arg1) : Vec Ideal S1x9216 .f32)

/-- The kernel's arguments, with a sub-layer's output of zeros and the modulation's scale moved. -/
def dataAt : Res where
  X := (m ((c : Thread nD τ).loc main_arg0) : Vec Ideal S2048x1024 .f32)
  Y := zeros
  M := lifted (modAt m c)
  w := (m ((c : Thread nD τ).loc main_arg2) : Vec Ideal S1x1024 .f32)
  dx := (m ((c : Thread nD τ).loc main_arg3) : Vec Ideal S2048x1024 .f32)
  dh := (m ((c : Thread nD τ).loc main_arg4) : Vec Ideal S2048x1024 .f32)
  s := 1
  o := 5120

/-- The arrays move by rows with the point; the gain is whole, the scale is the modulation's second part. -/
theorem idx : ∀ t : Fin cfg0.N, win0_0.index t = ![t.val, 0] ∧ win0_1.index t = ![0, 0] ∧ win0_2.index t = ![0, 1]
    ∧ win0_4.index t = ![t.val, 0] ∧ win0_5.index t = ![t.val, 0] ∧ win0_6.index t = ![t.val, 0] :=
  (by decide +kernel : ∀ t : Fin grid0.N, _)

/-- The rows of a point. -/
theorem rows (t : Fin cfg0.N) : Rows (dataAt m c).norm (512 * t.val) (iblk m c 0 t) (iblk m c 4 t) (iblk m c 5 t)
    (iblk m c 1 t) (iblk m c 2 t) := by
  have hN : t.val < 4 := lt_of_lt_of_eq t.isLt N_0
  refine ⟨fun i j => ?_, fun j => ?_, fun j => ?_, fun i j => ?_, fun i j => ?_⟩
  · refine Eq.trans ?_ (norm_x (dataAt m c) rfl (by omega) j.isLt).symm
    refine Eq.trans ?_ (ent_eq _ (by omega) j.isLt).symm
    refine Eq.trans ?_ (congrFun (V_main_arg0 m c) _)
    blk_ext [iblk, idx t]
  · refine Eq.trans ?_ (ent_eq _ (by omega) j.isLt).symm
    refine Eq.trans ?_ (congrFun (V_main_arg2 m c) _)
    blk_ext [iblk, idx t]
  · refine Eq.trans ?_ (lifted_scale (modAt m c) j).symm
    refine Eq.trans ?_ (ent_eq _ (by omega) (by omega : 1024 + j.val < 9216)).symm
    refine Eq.trans ?_ (congrFun (V_main_arg1 m c) _)
    blk_ext [iblk, idx t]
  · refine Eq.trans ?_ (ent_eq _ (by omega) j.isLt).symm
    refine Eq.trans ?_ (congrFun (V_main_arg3 m c) _)
    blk_ext [iblk, idx t]
  · refine Eq.trans ?_ (ent_eq _ (by omega) j.isLt).symm
    refine Eq.trans ?_ (congrFun (V_main_arg4 m c) _)
    blk_ext [iblk, idx t]

/-- What a point leaves of the residual stream's cotangent. -/
theorem out (t : Fin cfg0.N) (i : Fin 512) (j : Fin 1024) : (outsAt0 m c t.val t.isLt).1 (ix2 i j)
    = (dataAt m c).norm.dxn (512 * t.val + i.val) j.val := by
  by_cases h0 : t.val % 4 = 0
  · rw [outsAt0_A m c t h0 h0 h0]
    frame_out
    exact (rows m c t).pay13 i j
  · rw [outsAt0_B m c t h0 h0 h0]
    frame_out
    exact (rows m c t).pay13 i j

/-- What the first point leaves of the three accumulated results. -/
theorem first (t : Fin cfg0.N) (h0 : t.val % 4 = 0) (j : Fin 1024) :
    (outsAt0 m c t.val t.isLt).2.1 (ix2 0 j) = 0 + ∑ i : Fin 512, (dataAt m c).norm.dw (512 * t.val + i.val) j.val
    ∧ (outsAt0 m c t.val t.isLt).2.2.1 (ix2 0 j) = 0 + ∑ i : Fin 512, (dataAt m c).norm.dsc (512 * t.val + i.val) j.val
    ∧ (outsAt0 m c t.val t.isLt).2.2.2 (ix2 0 j) = 0 + ∑ i : Fin 512, (dataAt m c).norm.dh (512 * t.val + i.val) j.val := by
  rw [outsAt0_A m c t h0 h0 h0]
  refine ⟨?_, ?_, ?_⟩
  · frame_out
    pointwise [k0_pay15, k0_pay14]
    exact (rows m c t).pay9 j
  · frame_out
    pointwise [k0_pay17, k0_pay16]
    exact (rows m c t).pay7 j
  · frame_out
    pointwise [k0_pay19, k0_pay18]
    exact (rows m c t).pay6 j

/-- What a later point leaves of them. -/
theorem later (t : Fin cfg0.N) (h0 : ¬t.val % 4 = 0) (j : Fin 1024) :
    (outsAt0 m c t.val t.isLt).2.1 (ix2 0 j)
      = (outsAt0 m c (t.val - 1) (Nat.lt_of_le_of_lt (Nat.sub_le _ _) t.isLt)).2.1 (ix2 0 j)
        + ∑ i : Fin 512, (dataAt m c).norm.dw (512 * t.val + i.val) j.val
    ∧ (outsAt0 m c t.val t.isLt).2.2.1 (ix2 0 j)
      = (outsAt0 m c (t.val - 1) (Nat.lt_of_le_of_lt (Nat.sub_le _ _) t.isLt)).2.2.1 (ix2 0 j)
        + ∑ i : Fin 512, (dataAt m c).norm.dsc (512 * t.val + i.val) j.val
    ∧ (outsAt0 m c t.val t.isLt).2.2.2 (ix2 0 j)
      = (outsAt0 m c (t.val - 1) (Nat.lt_of_le_of_lt (Nat.sub_le _ _) t.isLt)).2.2.2 (ix2 0 j)
        + ∑ i : Fin 512, (dataAt m c).norm.dh (512 * t.val + i.val) j.val := by
  rw [outsAt0_B m c t h0 h0 h0]
  refine ⟨?_, ?_, ?_⟩
  · frame_out
    pointwise [k0_pay15]
    exact congrArg (_ + ·) ((rows m c t).pay9 j)
  · frame_out
    pointwise [k0_pay17]
    exact congrArg (_ + ·) ((rows m c t).pay7 j)
  · frame_out
    pointwise [k0_pay19]
    exact congrArg (_ + ·) ((rows m c t).pay6 j)

/-! ## The arrays -/

/-- The array of the residual stream's cotangent. -/
theorem arr6 : (dats m 0 c).arrAt 6 cfg0.N
    = (fun y => (dataAt m c).norm.dxn (y 0).val (y 1).val : Vec Ideal S2048x1024 .f32) := by
  refine (dats m 0 c).arrAt_eq_of_covers 6 _ (by decide +kernel) fun t hf y => ?_
  blk_simp
  rw [after0_6]
  obtain ⟨i, j, rfl⟩ := exists_ix2 y
  refine (out m c t i j).trans ?_
  blk_simp [idx t]
  rw [Nat.mul_comm]

/-- The array of the gain's gradient. -/
theorem arr7 : (dats m 0 c).arrAt 7 cfg0.N
    = (fun y => ∑ r : Fin 2048, (dataAt m c).norm.dw r.val (y 1).val : Vec Ideal S1x1024 .f32) := by
  refine (dats m 0 c).arrAt_eq_of_after_last 7 t0_3 (by decide +kernel) _ fun y => ?_
  blk_simp
  rw [after0_7]
  obtain ⟨i, j, rfl⟩ := exists_ix2 y
  obtain rfl : i = 0 := Subsingleton.elim _ _
  exact total (b := 512) N_0 rfl (fun n h => fun j => (outsAt0 m c n h).2.1 (ix2 0 j))
    (fun r (j : Fin 1024) => (dataAt m c).norm.dw r j) (fun t h j => (first m c t h j).1)
    (fun t h j => (later m c t h j).1) t0_3 rfl j

/-- The array of the scale's gradient. -/
theorem arr8 : (dats m 0 c).arrAt 8 cfg0.N
    = (fun y => ∑ r : Fin 2048, (dataAt m c).norm.dsc r.val (y 1).val : Vec Ideal S1x1024 .f32) := by
  refine (dats m 0 c).arrAt_eq_of_after_last 8 t0_3 (by decide +kernel) _ fun y => ?_
  blk_simp
  rw [after0_8]
  obtain ⟨i, j, rfl⟩ := exists_ix2 y
  obtain rfl : i = 0 := Subsingleton.elim _ _
  exact total (b := 512) N_0 rfl (fun n h => fun j => (outsAt0 m c n h).2.2.1 (ix2 0 j))
    (fun r (j : Fin 1024) => (dataAt m c).norm.dsc r j) (fun t h j => (first m c t h j).2.1)
    (fun t h j => (later m c t h j).2.1) t0_3 rfl j

/-- The array of the shift's gradient. -/
theorem arr9 : (dats m 0 c).arrAt 9 cfg0.N
    = (fun y => ∑ r : Fin 2048, (dataAt m c).norm.dh r.val (y 1).val : Vec Ideal S1x1024 .f32) := by
  refine (dats m 0 c).arrAt_eq_of_after_last 9 t0_3 (by decide +kernel) _ fun y => ?_
  blk_simp
  rw [after0_9]
  obtain ⟨i, j, rfl⟩ := exists_ix2 y
  obtain rfl : i = 0 := Subsingleton.elim _ _
  exact total (b := 512) N_0 rfl (fun n h => fun j => (outsAt0 m c n h).2.2.2 (ix2 0 j))
    (fun r (j : Fin 1024) => (dataAt m c).norm.dh r j) (fun t h j => (first m c t h j).2.2)
    (fun t h j => (later m c t h j).2.2) t0_3 rfl j

end Cert.Kernel17Ideal.Gen

namespace Cert.Reference17Ideal.Read

section

variable (X dx dh : Vec Ideal S2048x1024 .f32) (M : Vec Ideal S1x9216 .f32) (w : Vec Ideal S1x1024 .f32)

/-- The norm's argument is the other reference's, without a sub-layer's output. -/
theorem arg_eq : X = Cert.Reference15Ideal.Read.val_main_v5 (F := Ideal) X zeros (lifted M) := by
  funext y
  obtain ⟨i, j, rfl⟩ := exists_ix2 y
  pointwise [Cert.Reference15Ideal.Read.val_main_v5, Cert.Reference15Ideal.Read.val_main_v4]
  exact ((congrArg (_ + ·) (mul_zero _)).trans (add_zero _)).symm

/-- The scale plus one is the other reference's. -/
theorem scale_eq : val_main_v18 (F := Ideal) M = Cert.Reference15Ideal.Read.val_main_v22 (F := Ideal) (lifted M) := by
  funext y
  obtain ⟨i, j, rfl⟩ := exists_ix2 y
  obtain rfl : i = 0 := Subsingleton.elim _ _
  pointwise [val_main_v18, val_main_v17, val_main_cst_3, val_main_v1, Cert.Reference15Ideal.Read.val_main_v22,
    Cert.Reference15Ideal.Read.val_main_v21, Cert.Reference15Ideal.Read.val_main_cst_3, Cert.Reference15Ideal.Read.val_main_v2]
  refine congrArg (_ + ·) (Eq.trans ?_ ((lifted_scale M j).symm.trans (ent_eq _ (by omega) (by omega))))
  rw [ent_eq _ (by omega) (by omega)]
  rfl

/-- So are the reciprocal roots. -/
theorem root_eq : val_main_v9 (F := Ideal) X = Cert.Reference15Ideal.Read.val_main_v13 (F := Ideal) X zeros (lifted M) := by
  conv_lhs => rw [arg_eq X M]
  rfl

/-- So are their derivatives. -/
theorem droot_eq : val_main_v12 (F := Ideal) X = Cert.Reference15Ideal.Read.val_main_v16 (F := Ideal) X zeros (lifted M) := by
  conv_lhs => rw [arg_eq X M]
  rfl

/-- So are the normalised rows. -/
theorem nr_eq : val_main_v14 (F := Ideal) X = Cert.Reference15Ideal.Read.val_main_v18 (F := Ideal) X zeros (lifted M) := by
  conv_lhs => rw [arg_eq X M]
  rfl

/-- So is the cotangent of the norm's value. -/
theorem q_eq : val_main_v30 (F := Ideal) M dh = Cert.Reference15Ideal.Read.val_main_v34 (F := Ideal) (lifted M) dh := by
  unfold val_main_v30 val_main_v29; rw [scale_eq]; rfl

/-- So is the cotangent of the normalised rows. -/
theorem p_eq : val_main_v35 (F := Ideal) M w dh = Cert.Reference15Ideal.Read.val_main_v39 (F := Ideal) (lifted M) w dh := by
  unfold val_main_v35; rw [q_eq]; rfl

/-- So is the cotangent of the sum of squares. -/
theorem dms_eq : val_main_v46 (F := Ideal) X M w dh
    = Cert.Reference15Ideal.Read.val_main_v50 (F := Ideal) X zeros (lifted M) w dh := by
  unfold val_main_v46 val_main_v45 val_main_v44 val_main_v42 val_main_v38 val_main_v37 val_main_v36
  rw [droot_eq X M, p_eq]
  unfold Cert.Reference15Ideal.Read.val_main_v50 Cert.Reference15Ideal.Read.val_main_v49 Cert.Reference15Ideal.Read.val_main_v48
    Cert.Reference15Ideal.Read.val_main_v46 Cert.Reference15Ideal.Read.val_main_v42 Cert.Reference15Ideal.Read.val_main_v41
    Cert.Reference15Ideal.Read.val_main_v40
  rw [← arg_eq X M]
  rfl

/-- So is the residual stream's cotangent. -/
theorem dx_eq : val_main_v50 (F := Ideal) X M w dx dh
    = Cert.Reference15Ideal.Read.val_main_v54 (F := Ideal) X zeros (lifted M) w dx dh := by
  unfold val_main_v50 val_main_v49 val_main_v48 val_main_v47 val_main_v41 val_main_v40 val_main_v39
  rw [dms_eq, p_eq, root_eq X M]
  unfold Cert.Reference15Ideal.Read.val_main_v54 Cert.Reference15Ideal.Read.val_main_v53 Cert.Reference15Ideal.Read.val_main_v52
    Cert.Reference15Ideal.Read.val_main_v51
  rw [← arg_eq X M]
  rfl

/-- So is the gain's gradient. -/
theorem dw_eq : val_main_v33 (F := Ideal) X M dh = Cert.Reference15Ideal.Read.val_main_v37 (F := Ideal) X zeros (lifted M) dh := by
  unfold val_main_v33 val_main_v32 val_main_v31; rw [nr_eq X M, q_eq]; rfl

/-- So is the scale's gradient. -/
theorem dsc_eq : val_main_v28 (F := Ideal) X w dh
    = Cert.Reference15Ideal.Read.val_main_v32 (F := Ideal) X zeros (lifted M) w dh := by
  unfold val_main_v28 val_main_v27 val_main_v26 val_main_v16; rw [nr_eq X M]; rfl

end

end Cert.Reference17Ideal.Read

namespace Cert.Reference17Ideal.Value

open Cert.Reference15Ideal.Read (Is res8 res11 res12 res13)

/-- The kernel computes the reference's gradient of the first norm and modulation. -/
theorem algebraic : Cert.algebraic_Kernel17Ideal_Reference17Ideal := by
  intro m g m' g' _ ha
  refine ⟨fun c => (Cert.Kernel17Ideal.Gen.dats m 0 c).arrAt 6 Cert.Kernel17Ideal.cfg0.N,
    fun c => (Cert.Kernel17Ideal.Gen.dats m 0 c).arrAt 7 Cert.Kernel17Ideal.cfg0.N,
    fun c => (Cert.Kernel17Ideal.Gen.dats m 0 c).arrAt 8 Cert.Kernel17Ideal.cfg0.N,
    fun c => (Cert.Kernel17Ideal.Gen.dats m 0 c).arrAt 9 Cert.Kernel17Ideal.cfg0.N, Cert.Kernel17Ideal.Value.run_blocks m g, ?_⟩
  refine (θ_run Cert.Reference17Ideal.defs _ _).mono (fun r h c => ?_) (run (F := Ideal) m' g')
  obtain ⟨r6, r7, r8, r9, kept⟩ := h c
  obtain ⟨a0, a1, a2, a3, a4⟩ := ha c
  have H : Is (Cert.Kernel17Ideal.Gen.dataAt m c) := ⟨rfl, rfl⟩
  refine ⟨(r6.trans (Read.val_main_v50_eq _ _)).trans ?_, (r7.trans (Read.val_main_v33_eq _ _ _)).trans ?_,
    (r8.trans (Read.val_main_v28_eq _ _ _)).trans ?_, (r9.trans (Read.val_main_v25_eq _)).trans ?_, kept⟩
  · rw [a0, a1, a2, a3, a4, Read.dx_eq]
    exact (res8 H).trans (Cert.Kernel17Ideal.Gen.arr6 m c).symm
  · rw [a0, a1, a4, Read.dw_eq]
    exact (res11 H).trans (Cert.Kernel17Ideal.Gen.arr7 m c).symm
  · rw [a0, a2, a4, Read.dsc_eq _ _ (Cert.Kernel17Ideal.Gen.modAt m c)]
    exact (res12 H).trans (Cert.Kernel17Ideal.Gen.arr8 m c).symm
  · rw [a4]
    exact (res13 (E := Cert.Kernel17Ideal.Gen.dataAt m c)).trans (Cert.Kernel17Ideal.Gen.arr9 m c).symm

end Cert.Reference17Ideal.Value

end
-- ==== Proof.Silu.lean ====
/-
  The backward pass of the layer norm with gain and bias and of the activation after it, a number times its logistic.
-/
module

public import proofs.«01_k».proof.Defs
public import proofs.«01_k».proof.Pre_finite_inputs18
public import proofs.«01_k».proof.Proof.Glu
public import proofs.«01_k».proof.Proof.Norm
public import proofs.«01_k».proof.Proof.Ref
public import proofs.«01_k».proof.Proof.Gen.Kernel18Ideal.Value
public import proofs.«01_k».proof.Proof.Gen.Reference18Ideal.Run
public import proofs.«01_k».proof.Proof.Gen.Reference18Ideal.Read

@[expose] public section

set_option maxHeartbeats 1000000

noncomputable section

open Idealize.ShloMosaic Idealize.ShloMosaic.TcCoe Cert.Product Cert.Gate

namespace Cert.Gate

/-- The cotangent of the activation's argument `y`, for the cotangent `d` of its value. -/
def dsilu (d y : EReal) : EReal := d * Ideal.logistic y + y * d * (Ideal.logistic y * (1 - Ideal.logistic y))

/-- It is finite at any argument, infinities included: there the second part is zero. -/
theorem dsilu_fin {d : EReal} (h : IsFin d) (y : EReal) : IsFin (dsilu d y) := by
  refine (h.mul (logistic_fin y)).add ?_
  induction y with
  | bot => rw [Ideal.logistic_bot, zero_mul, mul_zero]; exact IsFin.zero
  | top =>
    rw [Ideal.logistic_top, one_mul, show (1 : EReal) - 1 = 0 from EReal.sub_self (by decide) (by decide), mul_zero]
    exact IsFin.zero
  | coe r =>
    obtain ⟨s, hs⟩ := logistic_fin (r : EReal)
    rw [hs]
    exact (IsFin.mul ⟨r, rfl⟩ h).mul (IsFin.mul ⟨s, rfl⟩ ⟨1 - s, (EReal.coe_sub 1 s).symm⟩)

/-- What the norm and the activation are passed backwards from: the norm's argument, gain and bias, and the cotangent. -/
structure Silu where
  z : Mat 2048 1024
  g : Mat 1 1024
  b : Mat 1 1024
  dz : Mat 2048 1024

namespace Silu

variable (D : Silu)

/-- A row of the norm's argument. -/
def row (r j : ℕ) : EReal := ent D.z r j
/-- The activation's argument. -/
def y (r j : ℕ) : EReal := nrm (D.row r) j * ent D.g 0 j + ent D.b 0 j
/-- Its cotangent. -/
def dy (r j : ℕ) : EReal := dsilu (ent D.dz r j) (D.y r j)
/-- The cotangent of the normalised row. -/
def dn (r j : ℕ) : EReal := D.dy r j * ent D.g 0 j
/-- The cotangent of the norm's argument. -/
def da (r j : ℕ) : EReal := dnrm (D.row r) (D.dn r) j
/-- The same in the steps of the kernel. -/
def daSteps (r j : ℕ) : EReal := dnrmSteps (D.row r) (D.dn r) j
/-- A row's part of the gain's cotangent. -/
def dg (r j : ℕ) : EReal := nrm (D.row r) j * D.dy r j

/-- With a finite gain and a finite cotangent, the steps of the kernel give the cotangent of the norm's argument. -/
theorem daSteps_eq (hg : ∀ i, IsFin (D.g i)) (hd : ∀ i, IsFin (D.dz i)) (r j : ℕ) : D.daSteps r j = D.da r j :=
  dnrmSteps_eq _ _ (fun _ => IsFin.ne (((dsilu_fin (at2_fin _ _ _ fun _ _ => hd _) _).mul (at2_fin _ _ _ fun _ _ => hg _)).mul
    (rstd_fin _))) j

end Silu

end Cert.Gate

namespace Cert.Pre_finite_inputs18

/-- The precondition's shape relations hold. -/
theorem facts : Facts := by
  constructor <;> decide

variable [Facts]
open Facts

/-- The precondition makes the gain and the cotangent finite. -/
theorem finite {x0 x3 : FVec Ideal S2048x1024 .f32} {x1 x2 : FVec Ideal S1x1024 .f32}
    (h : fn (F := Ideal) x0 x1 x2 x3 = fun _ => 1#1) : (∀ i, IsFin (x1 i)) ∧ (∀ i, IsFin (x3 i)) := by
  haveI := Cert.Pre_finite_inputs.facts
  have e := congrFun h ix0
  dsimp only [fn] at e
  obtain ⟨e1, e3⟩ := IntOp.andi_eq_one.1 e
  exact ⟨Cert.Pre_finite_inputs.fin_of_all _ _ _ _ e1, Cert.Pre_finite_inputs.fin_of_all _ _ _ _ e3⟩

end Cert.Pre_finite_inputs18

namespace Cert.Kernel18Ideal.Gen

/-! ## A block of rows -/

/-- The blocks are rows `r` onwards of the data. -/
structure Rows (D : Silu) (r : ℕ) (v0 v3 : Vec Ideal S512x1024 .f32) (v1 v2 : Vec Ideal S1x1024 .f32) : Prop where
  z : ∀ (i : Fin 512) (j : Fin 1024), v0 (ix2 i j) = D.row (r + i) j
  g : ∀ j : Fin 1024, v1 (ix2 0 j) = ent D.g 0 j
  b : ∀ j : Fin 1024, v2 (ix2 0 j) = ent D.b 0 j
  dz : ∀ (i : Fin 512) (j : Fin 1024), v3 (ix2 i j) = ent D.dz (r + i) j

section

variable {D : Silu} {r : ℕ} {v0 v3 : Vec Ideal S512x1024 .f32} {v1 v2 : Vec Ideal S1x1024 .f32} (H : Rows D r v0 v3 v1 v2)
include H

/-- The deviations from the row's mean. -/
theorem Rows.pay2 (i : Fin 512) (j : Fin 1024) : k0_pay2 v0 (ix2 i j) = dev (D.row (r + i)) j := by
  pointwise [k0_pay2]; simp only [H.z]; rfl
/-- The variance plus the epsilon. -/
theorem Rows.pay3 (i : Fin 512) : k0_pay3 v0 (ix2 i 0) = var (D.row (r + i)) := by
  pointwise [k0_pay3]; simp only [H.pay2]; rfl
/-- Its reciprocal root. -/
theorem Rows.pay4 (i : Fin 512) : k0_pay4 v0 (ix2 i 0) = rstd (D.row (r + i)) := by
  pointwise [k0_pay4]; rw [H.pay3]; rfl
/-- The derivative of the reciprocal root. -/
theorem Rows.pay5 (i : Fin 512) : k0_pay5 v0 (ix2 i 0) = drstd (D.row (r + i)) := by
  pointwise [k0_pay5]; rw [H.pay4, H.pay3]; rfl
/-- The normalised rows. -/
theorem Rows.pay6 (i : Fin 512) (j : Fin 1024) : k0_pay6 v0 (ix2 i j) = nrm (D.row (r + i)) j := by
  pointwise [k0_pay6]; rw [H.pay2, H.pay4]; rfl
/-- The cotangent of the activation's argument. -/
theorem Rows.pay7 (i : Fin 512) (j : Fin 1024) : k0_pay7 v0 v1 v2 v3 (ix2 i j) = D.dy (r + i) j := by
  pointwise [k0_pay7]; rw [H.pay6, H.g, H.b, H.dz]; rfl
/-- The rows' part of the bias's cotangent. -/
theorem Rows.pay8 (j : Fin 1024) : k0_pay8 v0 v1 v2 v3 (ix2 0 j) = ∑ i : Fin 512, D.dy (r + i) j := by
  pointwise [k0_pay8]; simp only [H.pay7]
/-- The rows' part of the gain's cotangent. -/
theorem Rows.pay9 (j : Fin 1024) : k0_pay9 v0 v1 v2 v3 (ix2 0 j) = ∑ i : Fin 512, D.dg (r + i) j := by
  pointwise [k0_pay9]; simp only [H.pay6, H.pay7]; rfl
/-- The cotangent of the normalised rows. -/
theorem Rows.pay10 (i : Fin 512) (j : Fin 1024) : k0_pay10 v0 v1 v2 v3 (ix2 i j) = D.dn (r + i) j := by
  pointwise [k0_pay10]; rw [H.pay7, H.g]; rfl
/-- The cotangent of the norm's argument. -/
theorem Rows.pay11 (i : Fin 512) (j : Fin 1024) :
    k0_pay11 (k0_pay2 v0) (k0_pay4 v0) (k0_pay5 v0) (k0_pay10 v0 v1 v2 v3) (ix2 i j) = D.daSteps (r + i) j := by
  pointwise [k0_pay11]
  simp only [Finset.univ_unique, Finset.sum_singleton]
  simp only [show ∀ x : Fin 1, x = 0 from fun x => Subsingleton.elim _ _]
  simp only [H.pay2, H.pay4, H.pay5, H.pay10]
  rfl

end

/-! ## The points -/

variable (m : (ℓ : Loc nD τ sig) → Buf (Elt Ideal) ℓ) (c : Dev nD)

/-- The kernel's arguments. -/
def dataAt : Silu where
  z := (m ((c : Thread nD τ).loc main_arg0) : Vec Ideal S2048x1024 .f32)
  g := (m ((c : Thread nD τ).loc main_arg1) : Vec Ideal S1x1024 .f32)
  b := (m ((c : Thread nD τ).loc main_arg2) : Vec Ideal S1x1024 .f32)
  dz := (m ((c : Thread nD τ).loc main_arg3) : Vec Ideal S2048x1024 .f32)

/-- The arrays move by rows with the point; the gain and the bias are whole. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The rows of a point. -/
theorem rows (t : Fin cfg0.N) : Rows (dataAt m c) (512 * t.val) (iblk m c 0 t) (iblk m c 3 t) (iblk m c 1 t)
    (iblk m c 2 t) := by
  have hN : t.val < 4 := lt_of_lt_of_eq t.isLt N_0
  refine ⟨fun i j => ?_, fun j => ?_, fun j => ?_, fun i j => ?_⟩
  · refine Eq.trans ?_ (ent_eq _ (by omega) j.isLt).symm
    refine Eq.trans ?_ (congrFun (V_main_arg0 m c) _)
    blk_ext [iblk, idx t]
  · refine Eq.trans ?_ (ent_eq _ (by omega) j.isLt).symm
    refine Eq.trans ?_ (congrFun (V_main_arg1 m c) _)
    blk_ext [iblk, idx t]
  · refine Eq.trans ?_ (ent_eq _ (by omega) j.isLt).symm
    refine Eq.trans ?_ (congrFun (V_main_arg2 m c) _)
    blk_ext [iblk, idx t]
  · refine Eq.trans ?_ (ent_eq _ (by omega) j.isLt).symm
    refine Eq.trans ?_ (congrFun (V_main_arg3 m c) _)
    blk_ext [iblk, idx t]

/-- What a point leaves of the cotangent of the norm's argument. -/
theorem out (t : Fin cfg0.N) (i : Fin 512) (j : Fin 1024) : (outsAt0 m c t.val t.isLt).1 (ix2 i j)
    = (dataAt m c).daSteps (512 * t.val + i.val) j.val := by
  by_cases h0 : t.val % 4 = 0
  · rw [outsAt0_A m c t h0 h0]
    frame_out
    exact (rows m c t).pay11 i j
  · rw [outsAt0_B m c t h0 h0]
    frame_out
    exact (rows m c t).pay11 i j

/-- What the first point leaves of the two accumulated results. -/
theorem first (t : Fin cfg0.N) (h0 : t.val % 4 = 0) (j : Fin 1024) :
    (outsAt0 m c t.val t.isLt).2.1 (ix2 0 j) = 0 + ∑ i : Fin 512, (dataAt m c).dg (512 * t.val + i.val) j.val
    ∧ (outsAt0 m c t.val t.isLt).2.2 (ix2 0 j) = 0 + ∑ i : Fin 512, (dataAt m c).dy (512 * t.val + i.val) j.val := by
  rw [outsAt0_A m c t h0 h0]
  constructor
  · frame_out
    pointwise [k0_pay13, k0_pay12]
    exact (rows m c t).pay9 j
  · frame_out
    pointwise [k0_pay1, k0_pay14]
    exact (rows m c t).pay8 j

/-- What a later point leaves of them. -/
theorem later (t : Fin cfg0.N) (h0 : ¬t.val % 4 = 0) (j : Fin 1024) :
    (outsAt0 m c t.val t.isLt).2.1 (ix2 0 j)
      = (outsAt0 m c (t.val - 1) (Nat.lt_of_le_of_lt (Nat.sub_le _ _) t.isLt)).2.1 (ix2 0 j)
        + ∑ i : Fin 512, (dataAt m c).dg (512 * t.val + i.val) j.val
    ∧ (outsAt0 m c t.val t.isLt).2.2 (ix2 0 j)
      = (outsAt0 m c (t.val - 1) (Nat.lt_of_le_of_lt (Nat.sub_le _ _) t.isLt)).2.2 (ix2 0 j)
        + ∑ i : Fin 512, (dataAt m c).dy (512 * t.val + i.val) j.val := by
  rw [outsAt0_B m c t h0 h0]
  constructor
  · frame_out
    pointwise [k0_pay13]
    exact congrArg (_ + ·) ((rows m c t).pay9 j)
  · frame_out
    pointwise [k0_pay1]
    exact congrArg (_ + ·) ((rows m c t).pay8 j)

/-! ## The arrays -/

/-- The array of the cotangent of the norm's argument, where the gain and the cotangent are finite. -/
theorem arr4 (hg : ∀ i, IsFin ((dataAt m c).g i)) (hd : ∀ i, IsFin ((dataAt m c).dz i)) : (dats m 0 c).arrAt 4 cfg0.N
    = (fun y => (dataAt m c).da (y 0).val (y 1).val : Vec Ideal S2048x1024 .f32) := by
  refine (dats m 0 c).arrAt_eq_of_covers 4 _ (by decide +kernel) fun t hf y => ?_
  blk_simp
  rw [after0_4]
  obtain ⟨i, j, rfl⟩ := exists_ix2 y
  refine ((out m c t i j).trans ((dataAt m c).daSteps_eq hg hd _ _)).trans ?_
  blk_simp [idx t]
  rw [Nat.mul_comm]

/-- The array of the gain's gradient. -/
theorem arr5 : (dats m 0 c).arrAt 5 cfg0.N
    = (fun y => ∑ r : Fin 2048, (dataAt m c).dg r.val (y 1).val : Vec Ideal S1x1024 .f32) := by
  refine (dats m 0 c).arrAt_eq_of_after_last 5 t0_3 (by decide +kernel) _ fun y => ?_
  blk_simp
  rw [after0_5]
  obtain ⟨i, j, rfl⟩ := exists_ix2 y
  obtain rfl : i = 0 := Subsingleton.elim _ _
  exact total (b := 512) N_0 rfl (fun n h => fun j => (outsAt0 m c n h).2.1 (ix2 0 j))
    (fun r (j : Fin 1024) => (dataAt m c).dg r j) (fun t h j => (first m c t h j).1)
    (fun t h j => (later m c t h j).1) t0_3 rfl j

/-- The array of the bias's gradient. -/
theorem arr6 : (dats m 0 c).arrAt 6 cfg0.N
    = (fun y => ∑ r : Fin 2048, (dataAt m c).dy r.val (y 1).val : Vec Ideal S1x1024 .f32) := by
  refine (dats m 0 c).arrAt_eq_of_after_last 6 t0_3 (by decide +kernel) _ fun y => ?_
  blk_simp
  rw [after0_6]
  obtain ⟨i, j, rfl⟩ := exists_ix2 y
  obtain rfl : i = 0 := Subsingleton.elim _ _
  exact total (b := 512) N_0 rfl (fun n h => fun j => (outsAt0 m c n h).2.2 (ix2 0 j))
    (fun r (j : Fin 1024) => (dataAt m c).dy r j) (fun t h j => (first m c t h j).2)
    (fun t h j => (later m c t h j).2) t0_3 rfl j

end Cert.Kernel18Ideal.Gen

namespace Cert.Reference18Ideal.Read

variable (D : Silu)

/-- The deviations from the row's mean. -/
theorem ref5 (r : Fin 2048) (j : Fin 1024) : val_main_v5 (F := Ideal) D.z (ix2 r j) = dev (D.row r) j := by
  pointwise [val_main_v5, val_main_v4, val_main_v3, val_main_v2, val_main_cst_0, val_main_v1, val_main_v0, val_main_cst]
  simp only [← ent_eq D.z r.isLt (Fin.isLt _)]
  rfl

/-- The same, where the reference writes them a second time. -/
theorem ref14 (r : Fin 2048) (j : Fin 1024) : val_main_v14 (F := Ideal) D.z (ix2 r j) = dev (D.row r) j := ref5 D r j

/-- The variance plus the epsilon. -/
theorem ref16 (r : Fin 2048) : val_main_v16 (F := Ideal) D.z (ix2 r 0) = var (D.row r) := by
  pointwise [val_main_v16, val_main_v15, val_main_cst_4, val_main_v12, val_main_v11, val_main_cst_3, val_main_v10, val_main_v9,
    val_main_cst_2, val_main_v6]
  simp only [ref5 D]
  rfl

/-- Its reciprocal root. -/
theorem ref17 (r : Fin 2048) : val_main_v17 (F := Ideal) D.z (ix2 r 0) = rstd (D.row r) := by
  pointwise [val_main_v17]
  rw [ref16 D]
  rfl

/-- The derivative of the reciprocal root. -/
theorem ref20 (r : Fin 2048) : val_main_v20 (F := Ideal) D.z (ix2 r 0) = drstd (D.row r) := by
  pointwise [val_main_v20, val_main_v19, val_main_cst_5, val_main_v18]
  rw [ref16 D, ref17 D]
  rfl

/-- The normalised rows. -/
theorem ref22 (r : Fin 2048) (j : Fin 1024) : val_main_v22 (F := Ideal) D.z (ix2 r j) = nrm (D.row r) j := by
  pointwise [val_main_v22, val_main_v21]
  rw [ref14 D, ref17 D]
  rfl

/-- The activation's argument. -/
theorem ref26 (r : Fin 2048) (j : Fin 1024) : val_main_v26 (F := Ideal) D.z D.g D.b (ix2 r j) = D.y r j := by
  pointwise [val_main_v26, val_main_v25, val_main_v24, val_main_v23]
  rw [ref22 D, ← ent_eq D.g (by omega) j.isLt, ← ent_eq D.b (by omega) j.isLt]
  rfl

/-- Its logistic. -/
theorem ref27 (r : Fin 2048) (j : Fin 1024) :
    val_main_v27_2 (F := Ideal) D.z D.g D.b (ix2 r j) = Ideal.logistic (D.y r j) := by
  pointwise [val_main_v27_2, val_main_call0_v4, val_main_call0_cst_0, val_main_call0_v3, val_main_call0_v2, val_main_call0_cst,
    val_main_call0_v1, val_main_call0_v0]
  rw [ref26 D]
  rfl

/-- Its cotangent. -/
theorem ref28 (r : Fin 2048) (j : Fin 1024) : val_main_v28 (F := Ideal) D.z D.g D.b D.dz (ix2 r j) = D.dy r j := by
  pointwise [val_main_v28, val_main_call1_v2, val_main_call1_v1, val_main_call1_v0, val_main_v27_1, val_main_call0_v7,
    val_main_call0_v6, val_main_call0_cst_1]
  rw [ref26 D, ref27 D, ← ent_eq D.dz r.isLt j.isLt]
  rfl

/-- The cotangent of the normalised rows. -/
theorem ref35 (r : Fin 2048) (j : Fin 1024) : val_main_v35 (F := Ideal) D.z D.g D.b D.dz (ix2 r j) = D.dn r j := by
  pointwise [val_main_v35, val_main_v34]
  rw [ref28 D]
  exact congrArg (_ * ·) (ent_eq D.g (by omega) j.isLt).symm

/-- The direct part of the deviations' cotangent. -/
theorem ref40 (r : Fin 2048) (j : Fin 1024) :
    val_main_v40 (F := Ideal) D.z D.g D.b D.dz (ix2 r j) = D.dn r j * rstd (D.row r) := by
  pointwise [val_main_v40, val_main_v39]
  rw [ref35 D, ref17 D]

/-- The part that comes by the variance. -/
theorem ref49 (r : Fin 2048) (j : Fin 1024) :
    val_main_v49 (F := Ideal) D.z D.g D.b D.dz (ix2 r j) = ddevVar (D.row r) (D.dn r) j := by
  pointwise [val_main_v49, val_main_v48, val_main_v47, val_main_cst_11, val_main_v46, val_main_v45, val_main_cst_10,
    val_main_v41, val_main_v38, val_main_v37, val_main_cst_8, val_main_v36, val_main_v8, val_main_v7, val_main_cst_1]
  simp only [Finset.univ_unique, Finset.sum_singleton]
  simp only [show ∀ x : Fin 1, x = 0 from fun x => Subsingleton.elim _ _]
  simp only [ref14 D, ref35 D, ref20 D, ref5 D, Cert.ReferenceIdeal.Read.word_two]
  rfl

/-- The cotangent of the norm's argument. -/
theorem res4 : val_main_v59 (F := Ideal) D.z D.g D.b D.dz = fun y => D.da (y 0).val (y 1).val := by
  funext y
  obtain ⟨r, j, rfl⟩ := exists_ix2 y
  pointwise [val_main_v59, val_main_v58, val_main_v57, val_main_cst_14, val_main_v56, val_main_v55, val_main_cst_13,
    val_main_v54, val_main_v53, val_main_v52, val_main_v51, val_main_cst_12, val_main_v50, val_main_v44, val_main_v43,
    val_main_cst_9, val_main_v42]
  simp only [Finset.univ_unique, Finset.sum_singleton]
  simp only [ref40 D, ref49 D]
  rfl

/-- The gain's gradient. -/
theorem res5 : val_main_v33 (F := Ideal) D.z D.g D.b D.dz = fun y => ∑ r : Fin 2048, D.dg r.val (y 1).val := by
  funext y
  obtain ⟨i, j, rfl⟩ := exists_ix2 y
  obtain rfl : i = 0 := Subsingleton.elim _ _
  pointwise [val_main_v33, val_main_v32, val_main_cst_7, val_main_v31]
  simp only [ref22 D, ref28 D]
  rfl

/-- The bias's gradient. -/
theorem res6 : val_main_v30 (F := Ideal) D.z D.g D.b D.dz = fun y => ∑ r : Fin 2048, D.dy r.val (y 1).val := by
  funext y
  obtain ⟨i, j, rfl⟩ := exists_ix2 y
  obtain rfl : i = 0 := Subsingleton.elim _ _
  pointwise [val_main_v30, val_main_v29, val_main_cst_6]
  simp only [ref28 D]

end Cert.Reference18Ideal.Read

namespace Cert.Reference18Ideal.Value

variable [Cert.Pre_finite_inputs18.Facts]

/-- The kernel computes the reference's gradient of the layer norm and the activation, where the gain and the cotangent are
    finite. -/
theorem algebraic : Cert.algebraic_Kernel18Ideal_Reference18Ideal_pre_finite_inputs18 := by
  intro m g m' g' hp ha
  refine ⟨fun c => (Cert.Kernel18Ideal.Gen.dats m 0 c).arrAt 4 Cert.Kernel18Ideal.cfg0.N,
    fun c => (Cert.Kernel18Ideal.Gen.dats m 0 c).arrAt 5 Cert.Kernel18Ideal.cfg0.N,
    fun c => (Cert.Kernel18Ideal.Gen.dats m 0 c).arrAt 6 Cert.Kernel18Ideal.cfg0.N, Cert.Kernel18Ideal.Value.run_blocks m g, ?_⟩
  refine (θ_run Cert.Reference18Ideal.defs _ _).mono (fun r h c => ?_) (run (F := Ideal) m' g')
  obtain ⟨r4, r5, r6, kept⟩ := h c
  obtain ⟨a0, a1, a2, a3⟩ := ha c
  obtain ⟨hg, hd⟩ := Cert.Pre_finite_inputs18.finite (hp c)
  refine ⟨(r4.trans (Read.val_main_v59_eq _ _)).trans ?_, (r5.trans (Read.val_main_v33_eq _ _)).trans ?_,
    (r6.trans (Read.val_main_v30_eq _ _)).trans ?_, kept⟩
  · rw [a0, a1, a2, a3]
    exact (Read.res4 (Cert.Kernel18Ideal.Gen.dataAt m c)).trans (Cert.Kernel18Ideal.Gen.arr4 m c hg hd).symm
  · rw [a0, a1, a2, a3]
    exact (Read.res5 (Cert.Kernel18Ideal.Gen.dataAt m c)).trans (Cert.Kernel18Ideal.Gen.arr5 m c).symm
  · rw [a0, a1, a2, a3]
    exact (Read.res6 (Cert.Kernel18Ideal.Gen.dataAt m c)).trans (Cert.Kernel18Ideal.Gen.arr6 m c).symm

end Cert.Reference18Ideal.Value

end
-- ==== Proof.Last.lean ====
/-
  The last residual and its norm, the loss, and its backward pass: half the sum over the rows of the mean squared deviation from
  the target.
-/
module

public import proofs.«01_k».proof.Defs
public import proofs.«01_k».proof.Proof.Residual
public import proofs.«01_k».proof.Proof.Half
public import proofs.«01_k».proof.Proof.Gen.Kernel19Ideal.Value
public import proofs.«01_k».proof.Proof.Gen.Reference19Ideal.Run
public import proofs.«01_k».proof.Proof.Gen.Reference19Ideal.Read

@[expose] public section

set_option maxHeartbeats 1000000

noncomputable section

open Idealize.ShloMosaic Idealize.ShloMosaic.TcCoe Cert.Product Cert.Gate

namespace Cert.Gate

/-- What the loss is of: the residual stream, the sub-layer's output, the modulation whose ninth part is the gate, the norm's
    gain, the target. -/
structure Last where
  X : Mat 2048 1024
  Y : Mat 2048 1024
  M : Mat 1 9216
  w : Mat 1 1024
  T : Mat 2048 1024

namespace Last

variable (D : Last)

/-- The halved gate. -/
def gate (j : ℕ) : EReal := half * ent D.M 0 (8192 + j)
/-- The norm's argument. -/
def x (r j : ℕ) : EReal := ent D.X r j + D.gate j * ent D.Y r j
/-- A row's mean square plus the epsilon. -/
def ms (r : ℕ) : EReal := Ideal.div (∑ j : Fin 1024, D.x r j * D.x r j) len + eps
/-- Its reciprocal root. -/
def rs (r : ℕ) : EReal := Ideal.rsqrt (D.ms r)
/-- The derivative of the reciprocal root. -/
def drs (r : ℕ) : EReal := mhalf * Ideal.div (D.rs r) (D.ms r)
/-- The normalised row. -/
def nr (r j : ℕ) : EReal := D.x r j * D.rs r
/-- The deviation from the target. -/
def err (r j : ℕ) : EReal := D.nr r j * ent D.w 0 j - ent D.T r j
/-- A row's part of the loss. -/
def part (r : ℕ) : EReal := Ideal.div (∑ j : Fin 1024, D.err r j * D.err r j) len
/-- The cotangent of the deviation. -/
def derr (r j : ℕ) : EReal := Ideal.div half len * (2 * D.err r j)
/-- The cotangent of the normalised row. -/
def p (r j : ℕ) : EReal := D.derr r j * ent D.w 0 j
/-- The cotangent of the sum of squares. -/
def dms (r : ℕ) : EReal := Ideal.div ((∑ j : Fin 1024, D.x r j * D.p r j) * D.drs r) len
/-- The cotangent of the norm's argument. -/
def dx (r j : ℕ) : EReal := D.p r j * D.rs r + D.x r j * D.dms r + D.dms r * D.x r j
/-- The cotangent of the sub-layer's output. -/
def dy (r j : ℕ) : EReal := D.gate j * D.dx r j
/-- A row's part of twice the cotangent of the gate. -/
def dg (r j : ℕ) : EReal := D.dx r j * ent D.Y r j
/-- A row's part of the cotangent of the gain. -/
def dw (r j : ℕ) : EReal := D.nr r j * D.derr r j

/-- The square's derivative, factor by factor. -/
theorem derr_eq (r j : ℕ) :
    D.err r j * Ideal.div half len + Ideal.div half len * D.err r j = D.derr r j := by
  have e : D.derr r j = 2 * (Ideal.div half len * D.err r j) := by unfold derr; ac_rfl
  rw [e, two_mul', mul_comm (D.err r j)]

end Last

end Cert.Gate

namespace Cert.Kernel19Ideal.Gen

/-! ## A block of rows -/

/-- The blocks are rows `r` onwards of the data. -/
structure Rows (D : Last) (r : ℕ) (v0 v1 v2 : Vec Ideal S512x1024 .f32) (v3 v5 : Vec Ideal S1x1024 .f32) : Prop where
  T : ∀ (i : Fin 512) (j : Fin 1024), v0 (ix2 i j) = ent D.T (r + i) j
  X : ∀ (i : Fin 512) (j : Fin 1024), v1 (ix2 i j) = ent D.X (r + i) j
  Y : ∀ (i : Fin 512) (j : Fin 1024), v2 (ix2 i j) = ent D.Y (r + i) j
  g : ∀ j : Fin 1024, v3 (ix2 0 j) = ent D.M 0 (8192 + j)
  w : ∀ j : Fin 1024, v5 (ix2 0 j) = ent D.w 0 j

section

variable {D : Last} {r : ℕ} {v0 v1 v2 : Vec Ideal S512x1024 .f32} {v3 v5 : Vec Ideal S1x1024 .f32} (H : Rows D r v0 v1 v2 v3 v5)
include H

/-- The halved gate. -/
theorem Rows.pay4 (j : Fin 1024) : k0_pay4 v3 (ix2 0 j) = D.gate j := by
  pointwise [k0_pay4]; rw [H.g]; rfl
/-- The norm's argument. -/
theorem Rows.pay5 (i : Fin 512) (j : Fin 1024) : k0_pay5 v1 v2 v3 (ix2 i j) = D.x (r + i) j := by
  pointwise [k0_pay5]; rw [H.pay4, H.X, H.Y]; rfl
/-- The mean squares plus the epsilon. -/
theorem Rows.pay6 (i : Fin 512) : k0_pay6 v1 v2 v3 (ix2 i 0) = D.ms (r + i) := by
  pointwise [k0_pay6]; simp only [H.pay5]; rfl
/-- Their reciprocal roots. -/
theorem Rows.pay7 (i : Fin 512) : k0_pay7 v1 v2 v3 (ix2 i 0) = D.rs (r + i) := by
  pointwise [k0_pay7]; rw [H.pay6]; rfl
/-- The derivatives of the reciprocal roots. -/
theorem Rows.pay8 (i : Fin 512) : k0_pay8 v1 v2 v3 (ix2 i 0) = D.drs (r + i) := by
  pointwise [k0_pay8]; rw [H.pay7, H.pay6]; rfl
/-- The normalised rows. -/
theorem Rows.pay9 (i : Fin 512) (j : Fin 1024) : k0_pay9 v1 v2 v3 (ix2 i j) = D.nr (r + i) j := by
  pointwise [k0_pay9]; rw [H.pay7, H.pay5]; rfl
/-- The deviations from the target. -/
theorem Rows.pay10 (i : Fin 512) (j : Fin 1024) : k0_pay10 v0 v1 v2 v3 v5 (ix2 i j) = D.err (r + i) j := by
  pointwise [k0_pay10]; rw [H.pay9, H.w, H.T]; rfl
/-- The rows' halved parts of the loss. -/
theorem Rows.pay11 (i : Fin 512) : k0_pay11 v0 v1 v2 v3 v5 (ix2 i 0) = half * D.part (r + i) := by
  pointwise [k0_pay11]; simp only [H.pay10]; rfl
/-- The cotangent of the deviations. -/
theorem Rows.pay14 (i : Fin 512) (j : Fin 1024) :
    k0_pay14 (k0_pay10 v0 v1 v2 v3 v5) k0_pay12 k0_pay13 (ix2 i j) = D.derr (r + i) j := by
  rw [← D.derr_eq]
  pointwise [k0_pay14, k0_pay12, k0_pay13]
  simp only [Finset.univ_unique, Finset.sum_singleton]
  rw [H.pay10]
  rfl
/-- The rows' part of the gain's gradient. -/
theorem Rows.pay15 (j : Fin 1024) : k0_pay15 (k0_pay9 v1 v2 v3) (k0_pay10 v0 v1 v2 v3 v5) k0_pay12 k0_pay13 (ix2 0 j)
    = ∑ i : Fin 512, D.dw (r + i) j := by
  pointwise [k0_pay15]; simp only [H.pay9, H.pay14]; rfl
/-- The cotangent of the norm's argument. -/
theorem Rows.pay16 (i : Fin 512) (j : Fin 1024) :
    k0_pay16 v5 (k0_pay5 v1 v2 v3) (k0_pay7 v1 v2 v3) (k0_pay8 v1 v2 v3) (k0_pay10 v0 v1 v2 v3 v5) k0_pay12 k0_pay13 (ix2 i j)
    = D.dx (r + i) j := by
  pointwise [k0_pay16]
  simp only [Finset.univ_unique, Finset.sum_singleton]
  simp only [show ∀ x : Fin 1, x = 0 from fun x => Subsingleton.elim _ _]
  simp only [H.pay5, H.pay7, H.pay8, H.pay14, H.w]
  rfl
/-- The rows' part of the gate's gradient. -/
theorem Rows.pay17 (j : Fin 1024) :
    k0_pay17 v2 v5 (k0_pay5 v1 v2 v3) (k0_pay7 v1 v2 v3) (k0_pay8 v1 v2 v3) (k0_pay10 v0 v1 v2 v3 v5) k0_pay12 k0_pay13 (ix2 0 j)
    = ∑ i : Fin 512, half * D.dg (r + i) j := by
  rw [half_sum]
  pointwise [k0_pay17]; simp only [H.pay16, H.Y]; rfl
/-- The sub-layer's cotangent. -/
theorem Rows.pay18 (i : Fin 512) (j : Fin 1024) :
    k0_pay18 v5 (k0_pay4 v3) (k0_pay5 v1 v2 v3) (k0_pay7 v1 v2 v3) (k0_pay8 v1 v2 v3) (k0_pay10 v0 v1 v2 v3 v5) k0_pay12 k0_pay13
      (ix2 i j) = D.dy (r + i) j := by
  pointwise [k0_pay18]; rw [H.pay16, H.pay4]; rfl
/-- A sum of the loss's parts, added to what is there. -/
theorem Rows.pay3 (v : Vec Ideal S8x128 .f32) (i : Fin 8) (j : Fin 128) : k0_pay3 (k0_pay11 v0 v1 v2 v3 v5) v (ix2 i j)
    = v (ix2 i j) + ∑ k : Fin 512, half * D.part (r + k) := by
  pointwise [k0_pay3]
  simp only [show ∀ x : Fin 1, x = 0 from fun x => Subsingleton.elim _ _]
  simp only [H.pay11]

end

/-! ## The points -/

variable (m : (ℓ : Loc nD τ sig) → Buf (Elt Ideal) ℓ) (c : Dev nD)

/-- The kernel's arguments. -/
def dataAt : Last where
  X := (m ((c : Thread nD τ).loc main_arg0) : Vec Ideal S2048x1024 .f32)
  Y := (m ((c : Thread nD τ).loc main_arg1) : Vec Ideal S2048x1024 .f32)
  M := (m ((c : Thread nD τ).loc main_arg2) : Vec Ideal S1x9216 .f32)
  w := (m ((c : Thread nD τ).loc main_arg3) : Vec Ideal S1x1024 .f32)
  T := (m ((c : Thread nD τ).loc main_arg4) : Vec Ideal S2048x1024 .f32)

/-- The arrays move by rows with the point; the vectors are whole. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0] :=
  (by decide +kernel : ∀ t : Fin grid0.N, _)

/-- The gate that the launch reads is the modulation's ninth part. -/
theorem V_main_v0 (j : Fin 1024) : (V m c main_v0 : Vec Ideal S1x1024 .f32) (ix2 0 j) = ent (dataAt m c).M 0 (8192 + j.val) := by
  rw [ent_eq _ (by omega) (by omega)]
  unfold V
  simp only [hostOps0]
  entry_read
  pointwise
  rfl

/-- The blocks of a point. -/
theorem rows (t : Fin cfg0.N) : Rows (dataAt m c) (512 * t.val) (iblk m c 2 t) (iblk m c 0 t) (iblk m c 1 t) (iblk m c 3 t)
    (iblk m c 4 t) := by
  have hN : t.val < 4 := lt_of_lt_of_eq t.isLt N_0
  refine ⟨fun i j => ?_, fun i j => ?_, fun i j => ?_, fun j => ?_, fun j => ?_⟩
  · refine Eq.trans ?_ (ent_eq _ (by omega) j.isLt).symm
    refine Eq.trans ?_ (congrFun (V_main_arg4 m c) _)
    blk_ext [iblk, idx t]
  · refine Eq.trans ?_ (ent_eq _ (by omega) j.isLt).symm
    refine Eq.trans ?_ (congrFun (V_main_arg0 m c) _)
    blk_ext [iblk, idx t]
  · refine Eq.trans ?_ (ent_eq _ (by omega) j.isLt).symm
    refine Eq.trans ?_ (congrFun (V_main_arg1 m c) _)
    blk_ext [iblk, idx t]
  · refine Eq.trans ?_ (V_main_v0 m c j)
    blk_ext [iblk, idx t]
  · refine Eq.trans ?_ (ent_eq _ (by omega) j.isLt).symm
    refine Eq.trans ?_ (congrFun (V_main_arg3 m c) _)
    blk_ext [iblk, idx t]

/-- What a point leaves of the two rowwise results. -/
theorem out (t : Fin cfg0.N) (i : Fin 512) (j : Fin 1024) :
    (outsAt0 m c t.val t.isLt).1 (ix2 i j) = (dataAt m c).dx (512 * t.val + i.val) j.val
    ∧ (outsAt0 m c t.val t.isLt).2.1 (ix2 i j) = (dataAt m c).dy (512 * t.val + i.val) j.val := by
  by_cases h0 : t.val % 4 = 0
  · rw [outsAt0_A m c t h0]
    constructor
    · frame_out
      exact (rows m c t).pay16 i j
    · frame_out
      exact (rows m c t).pay18 i j
  · rw [outsAt0_B m c t h0]
    constructor
    · frame_out
      exact (rows m c t).pay16 i j
    · frame_out
      exact (rows m c t).pay18 i j

/-- What the first point leaves of the two accumulated gradients. -/
theorem first (t : Fin cfg0.N) (h0 : t.val % 4 = 0) (j : Fin 1024) :
    (outsAt0 m c t.val t.isLt).2.2.1 (ix2 0 j) = 0 + ∑ i : Fin 512, half * (dataAt m c).dg (512 * t.val + i.val) j.val
    ∧ (outsAt0 m c t.val t.isLt).2.2.2.1 (ix2 0 j) = 0 + ∑ i : Fin 512, (dataAt m c).dw (512 * t.val + i.val) j.val := by
  rw [outsAt0_A m c t h0]
  constructor
  · frame_out
    pointwise [k0_pay1, k0_pay22, k0_pay19]
    rw [(rows m c t).pay17]
  · frame_out
    pointwise [k0_pay2, k0_pay20]
    rw [(rows m c t).pay15]

/-- What a later point leaves of them. -/
theorem later (t : Fin cfg0.N) (h0 : ¬t.val % 4 = 0) (j : Fin 1024) :
    (outsAt0 m c t.val t.isLt).2.2.1 (ix2 0 j)
      = (outsAt0 m c (t.val - 1) (Nat.lt_of_le_of_lt (Nat.sub_le _ _) t.isLt)).2.2.1 (ix2 0 j)
        + ∑ i : Fin 512, half * (dataAt m c).dg (512 * t.val + i.val) j.val
    ∧ (outsAt0 m c t.val t.isLt).2.2.2.1 (ix2 0 j)
      = (outsAt0 m c (t.val - 1) (Nat.lt_of_le_of_lt (Nat.sub_le _ _) t.isLt)).2.2.2.1 (ix2 0 j)
        + ∑ i : Fin 512, (dataAt m c).dw (512 * t.val + i.val) j.val := by
  rw [outsAt0_B m c t h0]
  constructor
  · frame_out
    pointwise [k0_pay1, k0_pay22]
    rw [(rows m c t).pay17]
  · frame_out
    pointwise [k0_pay2]
    rw [(rows m c t).pay15]

/-- What the first point leaves of the loss, in each entry of its block. -/
theorem firstLoss (t : Fin cfg0.N) (h0 : t.val % 4 = 0) (y : S8x128.Idx) :
    (outsAt0 m c t.val t.isLt).2.2.2.2 y = 0 + ∑ i : Fin 512, half * (dataAt m c).part (512 * t.val + i.val) := by
  obtain ⟨a, b, rfl⟩ := exists_ix2 y
  rw [outsAt0_A m c t h0]
  frame_out
  refine ((rows m c t).pay3 _ a b).trans (congrArg (· + _) ?_)
  pointwise [k0_pay21]

/-- What a later point leaves of the loss. -/
theorem laterLoss (t : Fin cfg0.N) (h0 : ¬t.val % 4 = 0) (y : S8x128.Idx) :
    (outsAt0 m c t.val t.isLt).2.2.2.2 y
      = (outsAt0 m c (t.val - 1) (Nat.lt_of_le_of_lt (Nat.sub_le _ _) t.isLt)).2.2.2.2 y
        + ∑ i : Fin 512, half * (dataAt m c).part (512 * t.val + i.val) := by
  obtain ⟨a, b, rfl⟩ := exists_ix2 y
  rw [outsAt0_B m c t h0]
  frame_out
  exact (rows m c t).pay3 _ a b

/-! ## The arrays -/

/-- The array of the residual stream's cotangent. -/
theorem arr5 : (dats m 0 c).arrAt 5 cfg0.N
    = (fun y => (dataAt m c).dx (y 0).val (y 1).val : Vec Ideal S2048x1024 .f32) := by
  refine (dats m 0 c).arrAt_eq_of_covers 5 _ (by decide +kernel) fun t hf y => ?_
  blk_simp
  rw [after0_5]
  obtain ⟨i, j, rfl⟩ := exists_ix2 y
  refine (out m c t i j).1.trans ?_
  blk_simp [idx t]
  rw [Nat.mul_comm]

/-- The array of the sub-layer's cotangent. -/
theorem arr6 : (dats m 0 c).arrAt 6 cfg0.N
    = (fun y => (dataAt m c).dy (y 0).val (y 1).val : Vec Ideal S2048x1024 .bf16) := by
  refine (dats m 0 c).arrAt_eq_of_covers 6 _ (by decide +kernel) fun t hf y => ?_
  blk_simp
  rw [after0_6]
  obtain ⟨i, j, rfl⟩ := exists_ix2 y
  refine (out m c t i j).2.trans ?_
  blk_simp [idx t]
  rw [Nat.mul_comm]

/-- The array of the gate's gradient. -/
theorem arr7 : (dats m 0 c).arrAt 7 cfg0.N
    = (fun y => half * ∑ r : Fin 2048, (dataAt m c).dg r.val (y 1).val : Vec Ideal S1x1024 .f32) := by
  refine (dats m 0 c).arrAt_eq_of_after_last 7 t0_3 (by decide +kernel) _ fun y => ?_
  blk_simp
  rw [after0_7]
  obtain ⟨i, j, rfl⟩ := exists_ix2 y
  obtain rfl : i = 0 := Subsingleton.elim _ _
  exact (total (b := 512) N_0 rfl (fun n h => fun j => (outsAt0 m c n h).2.2.1 (ix2 0 j))
    (fun r (j : Fin 1024) => half * (dataAt m c).dg r j) (fun t h j => (first m c t h j).1)
    (fun t h j => (later m c t h j).1) t0_3 rfl j).trans (half_sum _)

/-- The array of the gain's gradient. -/
theorem arr8 : (dats m 0 c).arrAt 8 cfg0.N
    = (fun y => ∑ r : Fin 2048, (dataAt m c).dw r.val (y 1).val : Vec Ideal S1x1024 .f32) := by
  refine (dats m 0 c).arrAt_eq_of_after_last 8 t0_3 (by decide +kernel) _ fun y => ?_
  blk_simp
  rw [after0_8]
  obtain ⟨i, j, rfl⟩ := exists_ix2 y
  obtain rfl : i = 0 := Subsingleton.elim _ _
  exact total (b := 512) N_0 rfl (fun n h => fun j => (outsAt0 m c n h).2.2.2.1 (ix2 0 j))
    (fun r (j : Fin 1024) => (dataAt m c).dw r j) (fun t h j => (first m c t h j).2)
    (fun t h j => (later m c t h j).2) t0_3 rfl j

/-- The array of the loss. -/
theorem arr9 : (dats m 0 c).arrAt 9 cfg0.N
    = (fun _ => half * ∑ r : Fin 2048, (dataAt m c).part r.val : Vec Ideal S8x128 .f32) := by
  refine (dats m 0 c).arrAt_eq_of_after_last 9 t0_3 (by decide +kernel) _ fun y => ?_
  blk_simp
  rw [after0_9]
  exact (total (b := 512) N_0 rfl (fun n h => (outsAt0 m c n h).2.2.2.2) (fun r (_ : S8x128.Idx) => half * (dataAt m c).part r)
    (fun t h y => firstLoss m c t h y) (fun t h y => laterLoss m c t h y) t0_3 rfl y).trans (half_sum _)

end Cert.Kernel19Ideal.Gen

/-! ## The reference -/

namespace Cert.Reference19Ideal.Read

variable (D : Last)

/-- The reference's halved gate. -/
theorem ref2 (j : Fin 1024) : val_main_v2 (F := Ideal) D.M (ix2 0 j) = D.gate j := by
  pointwise [val_main_v2, val_main_v1, val_main_cst, val_main_v0]
  unfold Last.gate
  rw [ent_eq D.M (by omega) (by omega)]
  rfl

/-- The reference's argument of the norm. -/
theorem ref5 (r : Fin 2048) (j : Fin 1024) : val_main_v5 (F := Ideal) D.X D.Y D.M (ix2 r j) = D.x r j := by
  pointwise [val_main_v5, val_main_v4, val_main_v3]
  rw [ref2]
  unfold Last.x
  rw [ent_eq D.X r.isLt j.isLt, ent_eq D.Y r.isLt j.isLt]

/-- The reference's mean squares plus the epsilon. -/
theorem ref12 (r : Fin 2048) : val_main_v12 (F := Ideal) D.X D.Y D.M (ix2 r 0) = D.ms r := by
  pointwise [val_main_v12, val_main_v11, val_main_cst_2, val_main_v10, val_main_v9, val_main_cst_1, val_main_v8, val_main_v7,
    val_main_cst_0, val_main_v6]
  simp only [ref5]
  rfl

/-- Their reciprocal roots. -/
theorem ref13 (r : Fin 2048) : val_main_v13 (F := Ideal) D.X D.Y D.M (ix2 r 0) = D.rs r := by
  pointwise [val_main_v13]; rw [ref12]; rfl

/-- The derivatives of the reciprocal roots. -/
theorem ref16 (r : Fin 2048) : val_main_v16 (F := Ideal) D.X D.Y D.M (ix2 r 0) = D.drs r := by
  pointwise [val_main_v16, val_main_v15, val_main_cst_3, val_main_v14]; rw [ref13, ref12]; rfl

/-- The reference's normalised rows. -/
theorem ref18 (r : Fin 2048) (j : Fin 1024) : val_main_v18 (F := Ideal) D.X D.Y D.M (ix2 r j) = D.nr r j := by
  pointwise [val_main_v18, val_main_v17]; rw [ref13, ref5]; rfl

/-- The reference's deviations from the target. -/
theorem ref21 (r : Fin 2048) (j : Fin 1024) : val_main_v21 (F := Ideal) D.X D.Y D.M D.w D.T (ix2 r j) = D.err r j := by
  pointwise [val_main_v21, val_main_v20, val_main_v19]
  rw [ref18]
  unfold Last.err
  rw [ent_eq D.w (by omega) j.isLt, ent_eq D.T r.isLt j.isLt]
  rfl

/-- The float word of two. -/
theorem word_two : Ideal.ofBits .f32 1073741824#32 = 2 := by
  rw [show (2 : EReal) = ((2 : ℝ) : EReal) by norm_cast]
  simp [Ideal.ofBits, Ideal.ieee, -EReal.coe_mul]; norm_num

/-- The cotangent of the deviations. -/
theorem ref35 (r : Fin 2048) (j : Fin 1024) : val_main_v35 (F := Ideal) D.X D.Y D.M D.w D.T (ix2 r j) = D.derr r j := by
  pointwise [val_main_v35, val_main_v34, val_main_v33, val_main_v32, val_main_cst_11, val_main_v31, val_main_v30,
    val_main_cst_10, val_main_cst_9, val_main_v24, val_main_v23, val_main_cst_4]
  rw [ref21]
  rw [word_two]
  rfl

/-- The cotangent of the normalised rows. -/
theorem ref40 (r : Fin 2048) (j : Fin 1024) : val_main_v40 (F := Ideal) D.X D.Y D.M D.w D.T (ix2 r j) = D.p r j := by
  pointwise [val_main_v40, val_main_v39]
  rw [ref35]
  unfold Last.p
  rw [ent_eq D.w (by omega) j.isLt]
  rfl

/-- The cotangent of the norm's argument. -/
theorem ref54 (r : Fin 2048) (j : Fin 1024) : val_main_v54 (F := Ideal) D.X D.Y D.M D.w D.T (ix2 r j) = D.dx r j := by
  pointwise [val_main_v54, val_main_v53, val_main_v52, val_main_v51, val_main_v50, val_main_v49, val_main_cst_15, val_main_v48,
    val_main_v47, val_main_cst_14, val_main_v46, val_main_v45, val_main_v44, val_main_v43, val_main_v42, val_main_cst_13,
    val_main_v41]
  simp only [Finset.univ_unique, Finset.sum_singleton]
  simp only [show ∀ x : Fin 1, x = 0 from fun x => Subsingleton.elim _ _]
  simp only [ref5, ref13, ref16, ref40]
  rfl

/-- The reference's cotangent of the residual stream. -/
theorem res5 : val_main_v54 (F := Ideal) D.X D.Y D.M D.w D.T = fun y => D.dx (y 0).val (y 1).val := by
  funext y
  obtain ⟨r, j, rfl⟩ := exists_ix2 y
  exact ref54 D r j

/-- The reference's cotangent of the sub-layer's output. -/
theorem res6 : val_main_v62 (F := Ideal) D.X D.Y D.M D.w D.T = fun y => D.dy (y 0).val (y 1).val := by
  funext y
  obtain ⟨r, j, rfl⟩ := exists_ix2 y
  pointwise [val_main_v62, val_main_v56, val_main_v55]
  rw [ref54, ref2]
  rfl

/-- The reference's gradient of the gate. -/
theorem res7 : val_main_v61 (F := Ideal) D.X D.Y D.M D.w D.T = fun y => half * ∑ r : Fin 2048, D.dg r.val (y 1).val := by
  funext y
  obtain ⟨i, j, rfl⟩ := exists_ix2 y
  obtain rfl : i = 0 := Subsingleton.elim _ _
  pointwise [val_main_v61, val_main_v60, val_main_cst_17, val_main_v59, val_main_v58, val_main_cst_16, val_main_v57]
  refine congrArg (half * ·) (Finset.sum_congr rfl fun r _ => ?_)
  rw [ref54]
  unfold Last.dg
  rw [ent_eq D.Y r.isLt j.isLt]

/-- The reference's gradient of the gain. -/
theorem res8 : val_main_v38 (F := Ideal) D.X D.Y D.M D.w D.T = fun y => ∑ r : Fin 2048, D.dw r.val (y 1).val := by
  funext y
  obtain ⟨i, j, rfl⟩ := exists_ix2 y
  obtain rfl : i = 0 := Subsingleton.elim _ _
  pointwise [val_main_v38, val_main_v37, val_main_cst_12, val_main_v36]
  simp only [ref18, ref35]
  rfl

/-- The reference's loss, in each entry of the block. -/
theorem res9 : val_main_v63 (F := Ideal) D.X D.Y D.M D.w D.T = fun _ => half * ∑ r : Fin 2048, D.part r.val := by
  funext y
  obtain ⟨i, j, rfl⟩ := exists_ix2 y
  pointwise [val_main_v63, val_main_v29, val_main_cst_8, val_main_v28, val_main_cst_7, val_main_v27, val_main_v26, val_main_cst_6,
    val_main_v25, val_main_cst_5, val_main_v22]
  simp only [ref21]
  rfl

end Cert.Reference19Ideal.Read

namespace Cert.Reference19Ideal.Value

/-- The kernel computes the reference's loss and its gradient. -/
theorem algebraic : Cert.algebraic_Kernel19Ideal_Reference19Ideal := by
  intro m g m' g' _ ha
  refine ⟨fun c => (Cert.Kernel19Ideal.Gen.dats m 0 c).arrAt 5 Cert.Kernel19Ideal.cfg0.N,
    fun c => (Cert.Kernel19Ideal.Gen.dats m 0 c).arrAt 6 Cert.Kernel19Ideal.cfg0.N,
    fun c => (Cert.Kernel19Ideal.Gen.dats m 0 c).arrAt 7 Cert.Kernel19Ideal.cfg0.N,
    fun c => (Cert.Kernel19Ideal.Gen.dats m 0 c).arrAt 8 Cert.Kernel19Ideal.cfg0.N,
    fun c => (Cert.Kernel19Ideal.Gen.dats m 0 c).arrAt 9 Cert.Kernel19Ideal.cfg0.N, Cert.Kernel19Ideal.Value.run_blocks m g, ?_⟩
  refine (θ_run Cert.Reference19Ideal.defs _ _).mono (fun r h c => ?_) (run (F := Ideal) m' g')
  obtain ⟨r5, r6, r7, r8, r9, kept⟩ := h c
  obtain ⟨a0, a1, a2, a3, a4⟩ := ha c
  refine ⟨(r5.trans (Read.val_main_v54_eq _ _)).trans ?_, (r6.trans (Read.val_main_v62_eq _ _)).trans ?_,
    (r7.trans (Read.val_main_v61_eq _ _)).trans ?_, (r8.trans (Read.val_main_v38_eq _ _ _ _ _)).trans ?_,
    (r9.trans (Read.val_main_v63_eq _ _ _ _ _)).trans ?_, kept⟩
  · rw [a0, a1, a2, a3, a4]
    exact (Read.res5 (Cert.Kernel19Ideal.Gen.dataAt m c)).trans (Cert.Kernel19Ideal.Gen.arr5 m c).symm
  · rw [a0, a1, a2, a3, a4]
    exact (Read.res6 (Cert.Kernel19Ideal.Gen.dataAt m c)).trans (Cert.Kernel19Ideal.Gen.arr6 m c).symm
  · rw [a0, a1, a2, a3, a4]
    exact (Read.res7 (Cert.Kernel19Ideal.Gen.dataAt m c)).trans (Cert.Kernel19Ideal.Gen.arr7 m c).symm
  · rw [a0, a1, a2, a3, a4]
    exact (Read.res8 (Cert.Kernel19Ideal.Gen.dataAt m c)).trans (Cert.Kernel19Ideal.Gen.arr8 m c).symm
  · rw [a0, a1, a2, a3, a4]
    exact (Read.res9 (Cert.Kernel19Ideal.Gen.dataAt m c)).trans (Cert.Kernel19Ideal.Gen.arr9 m c).symm

end Cert.Reference19Ideal.Value

end
-- ==== Proof.Forward.lean ====
/-
  Two forward calls that work row by row: the gated merge of the two branches, and the residual after the mixers with the
  norm and the modulation after it.
-/
module

public import proofs.«01_k».proof.Defs
public import proofs.«01_k».proof.Proof.Norm
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21Ideal.Value
public import proofs.«01_k».proof.Proof.Gen.Reference21Ideal.Run
public import proofs.«01_k».proof.Proof.Gen.Reference21Ideal.Read
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxHeartbeats 1000000

noncomputable section

open Idealize.ShloMosaic Idealize.ShloMosaic.TcCoe Cert.Product Cert.Gate

namespace Cert.Gate

/-- A gate before the logistic function: a column of the projection's last third, plus its bias. -/
def preGate (P : Mat 2048 6144) (B : Mat 1 6144) (r j : ℕ) : EReal := ent P r (4096 + j) + ent B 0 (4096 + j)

/-- The merged branches. -/
def merged (P : Mat 2048 6144) (B : Mat 1 6144) (ya yb : Mat 2048 1024) (r j : ℕ) : EReal :=
  Ideal.logistic (preGate P B r j) * ent ya r j + Ideal.logistic (preGate P B r (1024 + j)) * ent yb r j

/-- A row's root-mean-square norm with a gain, and its modulation by a scale and a shift. -/
def modNorm (x : ℕ → EReal) (w sc sh : EReal) (j : ℕ) : EReal :=
  x j * Ideal.rsqrt (Ideal.div (∑ k : Fin 1024, x k * x k) len + eps) * w * (1 + sc) + sh

/-- A residual and the norm after it: the residual stream, the sub-layer's output, the modulation, whose gate, shift and scale
    are the three parts from column `o` onwards, the norm's gain, and the factor of the gate. -/
structure Stream where
  X : Mat 2048 1024
  Y : Mat 2048 1024
  M : Mat 1 9216
  w : Mat 1 1024
  s : EReal
  o : ℕ

namespace Stream

variable (E : Stream)

/-- The residual stream after the sub-layer. -/
def x (r j : ℕ) : EReal := ent E.X r j + E.s * ent E.M 0 (E.o + j) * ent E.Y r j
/-- Its norm, modulated. -/
def h (r j : ℕ) : EReal := modNorm (E.x r) (ent E.w 0 j) (ent E.M 0 (E.o + 2048 + j)) (ent E.M 0 (E.o + 1024 + j)) j

end Stream

end Cert.Gate

/-! ## The gated merge -/

namespace Cert.Kernel20Ideal.Gen

variable (m : (ℓ : Loc nD τ sig) → Buf (Elt Ideal) ℓ) (c : Dev nD)

/-- The projection. -/
abbrev proj : Mat 2048 6144 := (m ((c : Thread nD τ).loc main_arg0) : Vec Ideal S2048x6144 .f32)
/-- The first branch. -/
abbrev ya : Mat 2048 1024 := (m ((c : Thread nD τ).loc main_arg1) : Vec Ideal S2048x1024 .f32)
/-- The second branch. -/
abbrev yb : Mat 2048 1024 := (m ((c : Thread nD τ).loc main_arg2) : Vec Ideal S2048x1024 .f32)
/-- The projection's bias. -/
abbrev bias : Mat 1 6144 := (m ((c : Thread nD τ).loc main_arg3) : Vec Ideal S1x6144 .f32)

/-- Every window but the bias moves by rows with the point. -/
theorem idx : ∀ t : Fin cfg0.N, win0_0.index t = ![t.val, 2] ∧ win0_1.index t = ![t.val, 0] ∧ win0_2.index t = ![t.val, 0]
    ∧ win0_3.index t = ![0, 2] ∧ win0_4.index t = ![t.val, 0] :=
  (by decide +kernel : ∀ t : Fin grid0.N, _)

/-- The gates of a point. -/
theorem tile0 (t : Fin cfg0.N) (i : Fin 256) (j : Fin 2048) : (iblk m c 0 t : Vec Ideal S256x2048 .f32) (ix2 i j)
    = ent (proj m c) (256 * t.val + i.val) (4096 + j.val) := by
  have hN : t.val < 8 := lt_of_lt_of_eq t.isLt N_0
  rw [ent_eq _ (by omega) (by omega)]
  refine Eq.trans ?_ (congrFun (V_main_arg0 m c) _)
  blk_ext [iblk, idx t]

/-- The first branch of a point. -/
theorem tile1 (t : Fin cfg0.N) (i : Fin 256) (j : Fin 1024) : (iblk m c 1 t : Vec Ideal S256x1024 .f32) (ix2 i j)
    = ent (ya m c) (256 * t.val + i.val) j.val := by
  have hN : t.val < 8 := lt_of_lt_of_eq t.isLt N_0
  rw [ent_eq _ (by omega) (by omega)]
  refine Eq.trans ?_ (congrFun (V_main_arg1 m c) _)
  blk_ext [iblk, idx t]

/-- The second branch of a point. -/
theorem tile2 (t : Fin cfg0.N) (i : Fin 256) (j : Fin 1024) : (iblk m c 2 t : Vec Ideal S256x1024 .f32) (ix2 i j)
    = ent (yb m c) (256 * t.val + i.val) j.val := by
  have hN : t.val < 8 := lt_of_lt_of_eq t.isLt N_0
  rw [ent_eq _ (by omega) (by omega)]
  refine Eq.trans ?_ (congrFun (V_main_arg2 m c) _)
  blk_ext [iblk, idx t]

/-- The gates' bias. -/
theorem tile3 (t : Fin cfg0.N) (j : Fin 2048) : (iblk m c 3 t : Vec Ideal S1x2048 .f32) (ix2 0 j)
    = ent (bias m c) 0 (4096 + j.val) := by
  rw [ent_eq _ (by omega) (by omega)]
  refine Eq.trans ?_ (congrFun (V_main_arg3 m c) _)
  blk_ext [iblk, idx t]

/-- The merged branches of a point. -/
theorem pay1 (t : Fin cfg0.N) (i : Fin 256) (j : Fin 1024) :
    k0_pay1 (iblk m c 0 t) (iblk m c 1 t) (iblk m c 2 t) (iblk m c 3 t) (ix2 i j)
    = merged (proj m c) (bias m c) (ya m c) (yb m c) (256 * t.val + i.val) j.val := by
  pointwise [k0_pay1]
  rw [tile0, tile0, tile3, tile3, tile1, tile2]
  rfl

/-- The kernel's result. -/
theorem arr4 : (dats m 0 c).arrAt 4 cfg0.N
    = (fun y => merged (proj m c) (bias m c) (ya m c) (yb m c) (y 0).val (y 1).val : Vec Ideal S2048x1024 .bf16) := by
  refine (dats m 0 c).arrAt_eq_of_covers 4 _ (by decide +kernel) fun t hf y => ?_
  blk_simp
  rw [after0_4]
  obtain ⟨i, j, rfl⟩ := exists_ix2 y
  frame_out
  refine (pay1 m c t i j).trans ?_
  blk_simp [idx t]
  rw [Nat.mul_comm]

end Cert.Kernel20Ideal.Gen

namespace Cert.Reference20Ideal.Read

/-- The reference's merged branches. -/
theorem res4 (P : Vec Ideal S2048x6144 .f32) (ya yb : Vec Ideal S2048x1024 .f32) (B : Vec Ideal S1x6144 .f32) :
    val_main_v21 (F := Ideal) P ya yb B = fun y => merged P B ya yb (y 0).val (y 1).val := by
  funext y
  obtain ⟨r, j, rfl⟩ := exists_ix2 y
  pointwise [val_main_v21, val_main_v20, val_main_v19, val_main_v18, val_main_v17, val_main_cst_2, val_main_v16, val_main_v15,
    val_main_cst_1, val_main_v14, val_main_v13, val_main_v12, val_main_v11, val_main_v10, val_main_cst_0, val_main_v9,
    val_main_v8, val_main_cst, val_main_v7, val_main_v6, val_main_v5, val_main_v4, val_main_v3, val_main_v2, val_main_v1,
    val_main_v0]
  unfold merged preGate
  rw [ent_eq P r.isLt (by omega), ent_eq P r.isLt (by omega), ent_eq B (by omega) (by omega), ent_eq B (by omega) (by omega),
    ent_eq ya r.isLt j.isLt, ent_eq yb r.isLt j.isLt]
  rfl

end Cert.Reference20Ideal.Read

namespace Cert.Reference20Ideal.Value

/-- The kernel computes the reference's gated merge. -/
theorem algebraic : Cert.algebraic_Kernel20Ideal_Reference20Ideal := by
  intro m g m' g' _ ha
  refine ⟨fun c => (Cert.Kernel20Ideal.Gen.dats m 0 c).arrAt 4 Cert.Kernel20Ideal.cfg0.N, Cert.Kernel20Ideal.Value.run_blocks m g, ?_⟩
  refine (θ_run Cert.Reference20Ideal.defs _ _).mono (fun r h c => ⟨(h c).1.trans ?_, (h c).2⟩) (run (F := Ideal) m' g')
  obtain ⟨a0, a1, a2, a3⟩ := ha c
  refine (Read.val_main_v21_eq _ _ _ _).trans ?_
  rw [a0, a1, a2, a3]
  exact (Read.res4 _ _ _ _).trans (Cert.Kernel20Ideal.Gen.arr4 m c).symm

end Cert.Reference20Ideal.Value

/-! ## The residual after the mixers -/

namespace Cert.Kernel21Ideal.Gen

variable (m : (ℓ : Loc nD τ sig) → Buf (Elt Ideal) ℓ) (c : Dev nD)

/-- The kernel's arguments; the gate is the modulation's sixth part, and has the factor one. -/
def dataAt : Stream where
  X := (m ((c : Thread nD τ).loc main_arg0) : Vec Ideal S2048x1024 .f32)
  Y := (m ((c : Thread nD τ).loc main_arg1) : Vec Ideal S2048x1024 .f32)
  M := (m ((c : Thread nD τ).loc main_arg2) : Vec Ideal S1x9216 .f32)
  w := (m ((c : Thread nD τ).loc main_arg3) : Vec Ideal S1x1024 .f32)
  s := 1
  o := 5120

/-- The arrays move by rows with the point; the vectors are parts of the modulation or whole. -/
theorem idx : ∀ t : Fin cfg0.N, win0_0.index t = ![t.val, 0] ∧ win0_1.index t = ![t.val, 0] ∧ win0_2.index t = ![0, 5]
    ∧ win0_3.index t = ![0, 0] ∧ win0_4.index t = ![0, 7] ∧ win0_5.index t = ![0, 6] ∧ win0_6.index t = ![t.val, 0]
    ∧ win0_7.index t = ![t.val, 0] :=
  (by decide +kernel : ∀ t : Fin grid0.N, _)

/-- The part of the modulation from column `p` onwards. -/
theorem part (p : ℕ) (hp : p + 1024 ≤ 9216) (j : Fin 1024) {x : EReal}
    (h : x = (V m c main_arg2 : Vec Ideal S1x9216 .f32) (ix2 0 ⟨p + j.val, by omega⟩)) : x = ent (dataAt m c).M 0 (p + j.val) := by
  rw [ent_eq _ (by omega) (by omega)]
  exact h.trans (congrFun (V_main_arg2 m c) _)

/-- The residual stream after the sub-layer of a point. -/
theorem pay1 (t : Fin cfg0.N) (i : Fin 512) (j : Fin 1024) : k0_pay1 (iblk m c 0 t) (iblk m c 1 t) (iblk m c 2 t) (ix2 i j)
    = (dataAt m c).x (512 * t.val + i.val) j.val := by
  have hN : t.val < 4 := lt_of_lt_of_eq t.isLt N_0
  pointwise [k0_pay1]
  refine congrArg₂ (· + ·) ?_ (congrArg₂ (· * ·) ?_ ?_)
  · refine Eq.trans ?_ (ent_eq _ (by omega) j.isLt).symm
    refine Eq.trans ?_ (congrFun (V_main_arg0 m c) _)
    blk_ext [iblk, idx t]
  · refine Eq.trans (part m c 5120 (by omega) j ?_) (one_mul _).symm
    blk_ext [iblk, idx t]
  · refine Eq.trans ?_ (ent_eq _ (by omega) j.isLt).symm
    refine Eq.trans ?_ (congrFun (V_main_arg1 m c) _)
    blk_ext [iblk, idx t]

/-- The modulated norm of a point. -/
theorem pay2 (t : Fin cfg0.N) (i : Fin 512) (j : Fin 1024) :
    k0_pay2 (iblk m c 0 t) (iblk m c 1 t) (iblk m c 2 t) (iblk m c 3 t) (iblk m c 4 t) (iblk m c 5 t) (ix2 i j)
    = (dataAt m c).h (512 * t.val + i.val) j.val := by
  pointwise [k0_pay2]
  simp only [pay1]
  refine congrArg₂ (· + ·) (congrArg₂ (· * ·) (congrArg₂ (· * ·) rfl ?_) (congrArg₂ (· + ·) rfl ?_)) ?_
  · refine Eq.trans ?_ (ent_eq _ (by omega) j.isLt).symm
    refine Eq.trans ?_ (congrFun (V_main_arg3 m c) _)
    blk_ext [iblk, idx t]
  · refine part m c 7168 (by omega) j ?_
    blk_ext [iblk, idx t]
  · refine part m c 6144 (by omega) j ?_
    blk_ext [iblk, idx t]

/-- The array of the residual stream. -/
theorem arr6 : (dats m 0 c).arrAt 6 cfg0.N = (fun y => (dataAt m c).x (y 0).val (y 1).val : Vec Ideal S2048x1024 .f32) := by
  refine (dats m 0 c).arrAt_eq_of_covers 6 _ (by decide +kernel) fun t hf y => ?_
  blk_simp
  rw [after0_6]
  obtain ⟨i, j, rfl⟩ := exists_ix2 y
  frame_out
  refine (pay1 m c t i j).trans ?_
  blk_simp [idx t]
  rw [Nat.mul_comm]

/-- The array of the modulated norm. -/
theorem arr7 : (dats m 0 c).arrAt 7 cfg0.N = (fun y => (dataAt m c).h (y 0).val (y 1).val : Vec Ideal S2048x1024 .bf16) := by
  refine (dats m 0 c).arrAt_eq_of_covers 7 _ (by decide +kernel) fun t hf y => ?_
  blk_simp
  rw [after0_7]
  obtain ⟨i, j, rfl⟩ := exists_ix2 y
  frame_out
  refine (pay2 m c t i j).trans ?_
  blk_simp [idx t]
  rw [Nat.mul_comm]

end Cert.Kernel21Ideal.Gen

namespace Cert.Reference21Ideal.Read

variable {E : Stream} (s : E.s = 1) (o : E.o = 5120)
include s o

/-- The reference's residual stream. -/
theorem ref5 (r : Fin 2048) (j : Fin 1024) : val_main_v5 (F := Ideal) E.X E.Y E.M (ix2 r j) = E.x r j := by
  pointwise [val_main_v5, val_main_v4, val_main_v3, val_main_v0]
  unfold Stream.x
  rw [s, o, one_mul, ent_eq E.X r.isLt j.isLt, ent_eq E.Y r.isLt j.isLt, ent_eq E.M (by omega) (by omega)]
  rfl

/-- The reference's residual stream, as an array. -/
theorem res6 : val_main_v5 (F := Ideal) E.X E.Y E.M = fun y => E.x (y 0).val (y 1).val := by
  funext y
  obtain ⟨r, j, rfl⟩ := exists_ix2 y
  exact ref5 s o r j

/-- The reference's modulated norm. -/
theorem res7 : val_main_v24 (F := Ideal) E.X E.Y E.M E.w = fun y => E.h (y 0).val (y 1).val := by
  funext y
  obtain ⟨r, j, rfl⟩ := exists_ix2 y
  pointwise [val_main_v24, val_main_v23, val_main_v22, val_main_v21, val_main_v20, val_main_v19, val_main_v18, val_main_cst_2,
    val_main_v17, val_main_v16, val_main_v15, val_main_v14, val_main_v13, val_main_v12, val_main_v11, val_main_cst_1,
    val_main_v10, val_main_v9, val_main_cst_0, val_main_v8, val_main_v7, val_main_cst, val_main_v6, val_main_v2, val_main_v1]
  simp only [ref5 s o]
  unfold Stream.h modNorm
  rw [o, ent_eq E.w (by omega) j.isLt, ent_eq E.M (by omega) (by omega), ent_eq E.M (by omega) (by omega)]
  rfl

end Cert.Reference21Ideal.Read

namespace Cert.Reference21Ideal.Value

/-- The kernel computes the reference's residual after the mixers and the modulated norm after it. -/
theorem algebraic : Cert.algebraic_Kernel21Ideal_Reference21Ideal := by
  intro m g m' g' _ ha
  refine ⟨fun c => (Cert.Kernel21Ideal.Gen.dats m 0 c).arrAt 6 Cert.Kernel21Ideal.cfg0.N,
    fun c => (Cert.Kernel21Ideal.Gen.dats m 0 c).arrAt 7 Cert.Kernel21Ideal.cfg0.N, Cert.Kernel21Ideal.Value.run_blocks m g, ?_⟩
  refine (θ_run Cert.Reference21Ideal.defs _ _).mono (fun r h c => ?_) (run (F := Ideal) m' g')
  obtain ⟨r6, r7, kept⟩ := h c
  obtain ⟨a0, a1, a2, a3⟩ := ha c
  refine ⟨(r6.trans (Read.val_main_v5_eq _ _ _)).trans ?_, (r7.trans (Read.val_main_v24_eq _ _ _ _)).trans ?_, kept⟩
  · rw [a0, a1, a2]
    exact (Read.res6 (E := Cert.Kernel21Ideal.Gen.dataAt m c) rfl rfl).trans (Cert.Kernel21Ideal.Gen.arr6 m c).symm
  · rw [a0, a1, a2, a3]
    exact (Read.res7 (E := Cert.Kernel21Ideal.Gen.dataAt m c) rfl rfl).trans (Cert.Kernel21Ideal.Gen.arr7 m c).symm

end Cert.Reference21Ideal.Value

end
-- ==== Proof.Modulated.lean ====
/-
  Two further forward calls with a norm and a modulation: the residual after the first feed-forward sub-layer, whose output is
  halved, and the first norm and modulation.
-/
module

public import proofs.«01_k».proof.Defs
public import proofs.«01_k».proof.Proof.Forward
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23Ideal.Value
public import proofs.«01_k».proof.Proof.Gen.Reference23Ideal.Run
public import proofs.«01_k».proof.Proof.Gen.Reference23Ideal.Read

@[expose] public section

set_option maxHeartbeats 1000000

noncomputable section

open Idealize.ShloMosaic Idealize.ShloMosaic.TcCoe Cert.Product Cert.Gate

/-! ## The residual after the first feed-forward sub-layer -/

namespace Cert.Kernel22Ideal.Gen

variable (m : (ℓ : Loc nD τ sig) → Buf (Elt Ideal) ℓ) (c : Dev nD)

/-- The kernel's arguments; the gate is the modulation's third part, and has the factor a half. -/
def dataAt : Stream where
  X := (m ((c : Thread nD τ).loc main_arg0) : Vec Ideal S2048x1024 .f32)
  Y := (m ((c : Thread nD τ).loc main_arg1) : Vec Ideal S2048x1024 .f32)
  M := (m ((c : Thread nD τ).loc main_arg2) : Vec Ideal S1x9216 .f32)
  w := (m ((c : Thread nD τ).loc main_arg3) : Vec Ideal S1x1024 .f32)
  s := half
  o := 2048

/-- The arrays move by rows with the point; the vectors are parts of the modulation or whole. -/
theorem idx : ∀ t : Fin cfg0.N, win0_0.index t = ![t.val, 0] ∧ win0_1.index t = ![t.val, 0] ∧ win0_2.index t = ![0, 2]
    ∧ win0_3.index t = ![0, 0] ∧ win0_4.index t = ![0, 4] ∧ win0_5.index t = ![0, 3] ∧ win0_6.index t = ![t.val, 0]
    ∧ win0_7.index t = ![t.val, 0] :=
  (by decide +kernel : ∀ t : Fin grid0.N, _)

/-- The part of the modulation from column `p` onwards. -/
theorem part (p : ℕ) (hp : p + 1024 ≤ 9216) (j : Fin 1024) {x : EReal}
    (h : x = (V m c main_arg2 : Vec Ideal S1x9216 .f32) (ix2 0 ⟨p + j.val, by omega⟩)) : x = ent (dataAt m c).M 0 (p + j.val) := by
  rw [ent_eq _ (by omega) (by omega)]
  exact h.trans (congrFun (V_main_arg2 m c) _)

/-- The residual stream after the halved sub-layer of a point, whose blocks have 256 rows. -/
theorem pay1 (t : Fin cfg0.N) (i : Fin 256) (j : Fin 1024) : k0_pay1 (iblk m c 0 t) (iblk m c 1 t) (iblk m c 2 t) (ix2 i j)
    = (dataAt m c).x (256 * t.val + i.val) j.val := by
  have hN : t.val < 8 := lt_of_lt_of_eq t.isLt N_0
  pointwise [k0_pay1]
  refine congrArg₂ (· + ·) ?_ (congrArg₂ (· * ·) (congrArg₂ (· * ·) rfl ?_) ?_)
  · refine Eq.trans ?_ (ent_eq _ (by omega) j.isLt).symm
    refine Eq.trans ?_ (congrFun (V_main_arg0 m c) _)
    blk_ext [iblk, idx t]
  · refine part m c 2048 (by omega) j ?_
    blk_ext [iblk, idx t]
  · refine Eq.trans ?_ (ent_eq _ (by omega) j.isLt).symm
    refine Eq.trans ?_ (congrFun (V_main_arg1 m c) _)
    blk_ext [iblk, idx t]

/-- The modulated norm of a point. -/
theorem pay2 (t : Fin cfg0.N) (i : Fin 256) (j : Fin 1024) :
    k0_pay2 (iblk m c 0 t) (iblk m c 1 t) (iblk m c 2 t) (iblk m c 3 t) (iblk m c 4 t) (iblk m c 5 t) (ix2 i j)
    = (dataAt m c).h (256 * t.val + i.val) j.val := by
  pointwise [k0_pay2]
  simp only [pay1]
  refine congrArg₂ (· + ·) (congrArg₂ (· * ·) (congrArg₂ (· * ·) rfl ?_) (congrArg₂ (· + ·) rfl ?_)) ?_
  · refine Eq.trans ?_ (ent_eq _ (by omega) j.isLt).symm
    refine Eq.trans ?_ (congrFun (V_main_arg3 m c) _)
    blk_ext [iblk, idx t]
  · refine part m c 4096 (by omega) j ?_
    blk_ext [iblk, idx t]
  · refine part m c 3072 (by omega) j ?_
    blk_ext [iblk, idx t]

/-- The array of the residual stream. -/
theorem arr6 : (dats m 0 c).arrAt 6 cfg0.N = (fun y => (dataAt m c).x (y 0).val (y 1).val : Vec Ideal S2048x1024 .f32) := by
  refine (dats m 0 c).arrAt_eq_of_covers 6 _ (by decide +kernel) fun t hf y => ?_
  blk_simp
  rw [after0_6]
  obtain ⟨i, j, rfl⟩ := exists_ix2 y
  frame_out
  refine (pay1 m c t i j).trans ?_
  blk_simp [idx t]
  rw [Nat.mul_comm]

/-- The array of the modulated norm. -/
theorem arr7 : (dats m 0 c).arrAt 7 cfg0.N = (fun y => (dataAt m c).h (y 0).val (y 1).val : Vec Ideal S2048x1024 .bf16) := by
  refine (dats m 0 c).arrAt_eq_of_covers 7 _ (by decide +kernel) fun t hf y => ?_
  blk_simp
  rw [after0_7]
  obtain ⟨i, j, rfl⟩ := exists_ix2 y
  frame_out
  refine (pay2 m c t i j).trans ?_
  blk_simp [idx t]
  rw [Nat.mul_comm]

end Cert.Kernel22Ideal.Gen

namespace Cert.Reference22Ideal.Read

variable {E : Stream} (s : E.s = half) (o : E.o = 2048)
include s o

/-- The reference's residual stream. -/
theorem ref7 (r : Fin 2048) (j : Fin 1024) : val_main_v7 (F := Ideal) E.X E.Y E.M (ix2 r j) = E.x r j := by
  pointwise [val_main_v7, val_main_v6, val_main_v5, val_main_v4, val_main_v3, val_main_cst, val_main_v0]
  unfold Stream.x
  rw [s, o, ent_eq E.X r.isLt j.isLt, ent_eq E.Y r.isLt j.isLt, ent_eq E.M (by omega) (by omega)]
  rfl

/-- The reference's residual stream, as an array. -/
theorem res6 : val_main_v7 (F := Ideal) E.X E.Y E.M = fun y => E.x (y 0).val (y 1).val := by
  funext y
  obtain ⟨r, j, rfl⟩ := exists_ix2 y
  exact ref7 s o r j

/-- The reference's modulated norm. -/
theorem res7 : val_main_v26 (F := Ideal) E.X E.Y E.M E.w = fun y => E.h (y 0).val (y 1).val := by
  funext y
  obtain ⟨r, j, rfl⟩ := exists_ix2 y
  pointwise [val_main_v26, val_main_v25, val_main_v24, val_main_v23, val_main_v22, val_main_v21, val_main_v20, val_main_cst_3,
    val_main_v19, val_main_v18, val_main_v17, val_main_v16, val_main_v15, val_main_v14, val_main_v13, val_main_cst_2,
    val_main_v12, val_main_v11, val_main_cst_1, val_main_v10, val_main_v9, val_main_cst_0, val_main_v8, val_main_v2, val_main_v1]
  simp only [ref7 s o]
  unfold Stream.h modNorm
  rw [o, ent_eq E.w (by omega) j.isLt, ent_eq E.M (by omega) (by omega), ent_eq E.M (by omega) (by omega)]
  rfl

end Cert.Reference22Ideal.Read

namespace Cert.Reference22Ideal.Value

/-- The kernel computes the reference's residual after the first sub-layer and the modulated norm after it. -/
theorem algebraic : Cert.algebraic_Kernel22Ideal_Reference22Ideal := by
  intro m g m' g' _ ha
  refine ⟨fun c => (Cert.Kernel22Ideal.Gen.dats m 0 c).arrAt 6 Cert.Kernel22Ideal.cfg0.N,
    fun c => (Cert.Kernel22Ideal.Gen.dats m 0 c).arrAt 7 Cert.Kernel22Ideal.cfg0.N, Cert.Kernel22Ideal.Value.run_blocks m g, ?_⟩
  refine (θ_run Cert.Reference22Ideal.defs _ _).mono (fun r h c => ?_) (run (F := Ideal) m' g')
  obtain ⟨r6, r7, kept⟩ := h c
  obtain ⟨a0, a1, a2, a3⟩ := ha c
  refine ⟨(r6.trans (Read.val_main_v7_eq _ _ _)).trans ?_, (r7.trans (Read.val_main_v26_eq _ _ _ _)).trans ?_, kept⟩
  · rw [a0, a1, a2]
    exact (Read.res6 (E := Cert.Kernel22Ideal.Gen.dataAt m c) rfl rfl).trans (Cert.Kernel22Ideal.Gen.arr6 m c).symm
  · rw [a0, a1, a2, a3]
    exact (Read.res7 (E := Cert.Kernel22Ideal.Gen.dataAt m c) rfl rfl).trans (Cert.Kernel22Ideal.Gen.arr7 m c).symm

end Cert.Reference22Ideal.Value

/-! ## The first norm and modulation -/

namespace Cert.Kernel23Ideal.Gen

variable (m : (ℓ : Loc nD τ sig) → Buf (Elt Ideal) ℓ) (c : Dev nD)

/-- The residual stream. -/
abbrev rows : Mat 2048 1024 := (m ((c : Thread nD τ).loc main_arg0) : Vec Ideal S2048x1024 .f32)
/-- The modulation. -/
abbrev modu : Mat 1 9216 := (m ((c : Thread nD τ).loc main_arg1) : Vec Ideal S1x9216 .f32)
/-- The norm's gain. -/
abbrev gain : Mat 1 1024 := (m ((c : Thread nD τ).loc main_arg2) : Vec Ideal S1x1024 .f32)

/-- The rows move with the point; the gain is whole, the scale is the modulation's second part and the shift its first. -/
theorem idx : ∀ t : Fin cfg0.N, win0_0.index t = ![t.val, 0] ∧ win0_1.index t = ![0, 0] ∧ win0_2.index t = ![0, 1]
    ∧ win0_3.index t = ![0, 0] ∧ win0_4.index t = ![t.val, 0] :=
  (by decide +kernel : ∀ t : Fin grid0.N, _)

/-- The rows of a point. -/
theorem tile0 (t : Fin cfg0.N) (i : Fin 512) (j : Fin 1024) : (iblk m c 0 t : Vec Ideal S512x1024 .f32) (ix2 i j)
    = ent (rows m c) (512 * t.val + i.val) j.val := by
  have hN : t.val < 4 := lt_of_lt_of_eq t.isLt N_0
  rw [ent_eq _ (by omega) (by omega)]
  refine Eq.trans ?_ (congrFun (V_main_arg0 m c) _)
  blk_ext [iblk, idx t]

/-- The gain. -/
theorem tile1 (t : Fin cfg0.N) (j : Fin 1024) : (iblk m c 1 t : Vec Ideal S1x1024 .f32) (ix2 0 j) = ent (gain m c) 0 j.val := by
  rw [ent_eq _ (by omega) (by omega)]
  refine Eq.trans ?_ (congrFun (V_main_arg2 m c) _)
  blk_ext [iblk, idx t]

/-- The scale. -/
theorem tile2 (t : Fin cfg0.N) (j : Fin 1024) : (iblk m c 2 t : Vec Ideal S1x1024 .f32) (ix2 0 j)
    = ent (modu m c) 0 (1024 + j.val) := by
  rw [ent_eq _ (by omega) (by omega)]
  refine Eq.trans ?_ (congrFun (V_main_arg1 m c) _)
  blk_ext [iblk, idx t]

/-- The shift. -/
theorem tile3 (t : Fin cfg0.N) (j : Fin 1024) : (iblk m c 3 t : Vec Ideal S1x1024 .f32) (ix2 0 j) = ent (modu m c) 0 j.val := by
  rw [ent_eq _ (by omega) (by omega)]
  refine Eq.trans ?_ (congrFun (V_main_arg1 m c) _)
  blk_ext [iblk, idx t]

/-- The modulated norm of a point. -/
theorem pay1 (t : Fin cfg0.N) (i : Fin 512) (j : Fin 1024) :
    k0_pay1 (iblk m c 0 t) (iblk m c 1 t) (iblk m c 2 t) (iblk m c 3 t) (ix2 i j)
    = modNorm (ent (rows m c) (512 * t.val + i.val)) (ent (gain m c) 0 j.val) (ent (modu m c) 0 (1024 + j.val))
        (ent (modu m c) 0 j.val) j.val := by
  pointwise [k0_pay1]
  simp only [tile0, tile1, tile2, tile3]
  rfl

/-- The array of the modulated norm. -/
theorem arr4 : (dats m 0 c).arrAt 4 cfg0.N
    = (fun y => modNorm (ent (rows m c) (y 0).val) (ent (gain m c) 0 (y 1).val) (ent (modu m c) 0 (1024 + (y 1).val))
        (ent (modu m c) 0 (y 1).val) (y 1).val : Vec Ideal S2048x1024 .bf16) := by
  refine (dats m 0 c).arrAt_eq_of_covers 4 _ (by decide +kernel) fun t hf y => ?_
  blk_simp
  rw [after0_4]
  obtain ⟨i, j, rfl⟩ := exists_ix2 y
  frame_out
  refine (pay1 m c t i j).trans ?_
  blk_simp [idx t]
  rw [Nat.mul_comm]

end Cert.Kernel23Ideal.Gen

namespace Cert.Reference23Ideal.Read

/-- The reference's modulated norm. -/
theorem res4 (X : Vec Ideal S2048x1024 .f32) (M : Vec Ideal S1x9216 .f32) (w : Vec Ideal S1x1024 .f32) :
    val_main_v20 (F := Ideal) X M w = fun y => modNorm (ent X (y 0).val) (ent w 0 (y 1).val) (ent M 0 (1024 + (y 1).val))
      (ent M 0 (y 1).val) (y 1).val := by
  funext y
  obtain ⟨r, j, rfl⟩ := exists_ix2 y
  pointwise [val_main_v20, val_main_v19, val_main_v18, val_main_v17, val_main_v16, val_main_v15, val_main_v14, val_main_cst_2,
    val_main_v13, val_main_v12, val_main_v11, val_main_v10, val_main_v9, val_main_v8, val_main_v7, val_main_v6, val_main_v5,
    val_main_cst_1, val_main_v4, val_main_v3, val_main_cst_0, val_main_v2, val_main_v1, val_main_cst, val_main_v0]
  have row : ∀ k : Fin 1024, X (ix2 r k) = ent X r.val k.val := fun k => (ent_eq X r.isLt k.isLt).symm
  simp only [row]
  unfold modNorm
  rw [ent_eq w (by omega) j.isLt, ent_eq M (by omega) (by omega), ent_eq M (by omega) (by omega)]
  rfl

end Cert.Reference23Ideal.Read

namespace Cert.Reference23Ideal.Value

/-- The kernel computes the reference's first norm and modulation. -/
theorem algebraic : Cert.algebraic_Kernel23Ideal_Reference23Ideal := by
  intro m g m' g' _ ha
  refine ⟨fun c => (Cert.Kernel23Ideal.Gen.dats m 0 c).arrAt 4 Cert.Kernel23Ideal.cfg0.N, Cert.Kernel23Ideal.Value.run_blocks m g, ?_⟩
  refine (θ_run Cert.Reference23Ideal.defs _ _).mono (fun r h c => ⟨(h c).1.trans ?_, (h c).2⟩) (run (F := Ideal) m' g')
  obtain ⟨a0, a1, a2⟩ := ha c
  refine (Read.val_main_v20_eq _ _ _).trans ?_
  rw [a0, a1, a2]
  exact (Read.res4 _ _ _).trans (Cert.Kernel23Ideal.Gen.arr4 m c).symm

end Cert.Reference23Ideal.Value

end
-- ==== Proof.SiluForward.lean ====
/-
  The forward pass of the convolution module's layer norm and of the activation after it, a number times its logistic.
-/
module

public import proofs.«01_k».proof.Defs
public import proofs.«01_k».proof.Proof.Norm
public import proofs.«01_k».proof.Proof.Gen.Kernel24Ideal.Value
public import proofs.«01_k».proof.Proof.Gen.Reference24Ideal.Run
public import proofs.«01_k».proof.Proof.Gen.Reference24Ideal.Read
public import Idealize.ShloMosaic.Lib.Pointwise
public import Idealize.ShloMosaic.Lib.IdealHost
public import Idealize.ShloMosaic.Lib.Pipeline.ValueKit
public import Idealize.ShloMosaic.Lib.Pipeline.ReadBack

@[expose] public section

set_option maxHeartbeats 1000000

noncomputable section

open Idealize.ShloMosaic Idealize.ShloMosaic.TcCoe Cert.Product Cert.Gate

namespace Cert.Gate

/-- A row's layer norm with gain and bias, times its logistic. -/
def siluNorm (x : ℕ → EReal) (g b : EReal) (j : ℕ) : EReal := (nrm x j * g + b) * Ideal.logistic (nrm x j * g + b)

end Cert.Gate

namespace Cert.Kernel24Ideal.Gen

variable (m : (ℓ : Loc nD τ sig) → Buf (Elt Ideal) ℓ) (c : Dev nD)

/-- The convolution's output. -/
abbrev conv : Mat 2048 1024 := (m ((c : Thread nD τ).loc main_arg0) : Vec Ideal S2048x1024 .f32)
/-- The norm's gain. -/
abbrev gain : Mat 1 1024 := (m ((c : Thread nD τ).loc main_arg1) : Vec Ideal S1x1024 .f32)
/-- The norm's bias. -/
abbrev bias : Mat 1 1024 := (m ((c : Thread nD τ).loc main_arg2) : Vec Ideal S1x1024 .f32)

/-- The rows move with the point; gain and bias are whole. -/
theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- The rows of a point. -/
theorem tile0 (t : Fin cfg0.N) (i : Fin 512) (j : Fin 1024) : (iblk m c 0 t : Vec Ideal S512x1024 .f32) (ix2 i j)
    = ent (conv m c) (512 * t.val + i.val) j.val := by
  have hN : t.val < 4 := lt_of_lt_of_eq t.isLt N_0
  rw [ent_eq _ (by omega) (by omega)]
  refine Eq.trans ?_ (congrFun (V_main_arg0 m c) _)
  blk_ext [iblk, idx t]

/-- The gain. -/
theorem tile1 (t : Fin cfg0.N) (j : Fin 1024) : (iblk m c 1 t : Vec Ideal S1x1024 .f32) (ix2 0 j) = ent (gain m c) 0 j.val := by
  rw [ent_eq _ (by omega) (by omega)]
  refine Eq.trans ?_ (congrFun (V_main_arg1 m c) _)
  blk_ext [iblk, idx t]

/-- The bias. -/
theorem tile2 (t : Fin cfg0.N) (j : Fin 1024) : (iblk m c 2 t : Vec Ideal S1x1024 .f32) (ix2 0 j) = ent (bias m c) 0 j.val := by
  rw [ent_eq _ (by omega) (by omega)]
  refine Eq.trans ?_ (congrFun (V_main_arg2 m c) _)
  blk_ext [iblk, idx t]

/-- The activation of a point. -/
theorem pay1 (t : Fin cfg0.N) (i : Fin 512) (j : Fin 1024) :
    k0_pay1 (iblk m c 0 t) (iblk m c 1 t) (iblk m c 2 t) (ix2 i j)
    = siluNorm (ent (conv m c) (512 * t.val + i.val)) (ent (gain m c) 0 j.val) (ent (bias m c) 0 j.val) j.val := by
  pointwise [k0_pay1]
  simp only [tile0, tile1, tile2]
  rfl

/-- The array of the activation. -/
theorem arr3 : (dats m 0 c).arrAt 3 cfg0.N
    = (fun y => siluNorm (ent (conv m c) (y 0).val) (ent (gain m c) 0 (y 1).val) (ent (bias m c) 0 (y 1).val) (y 1).val
        : Vec Ideal S2048x1024 .bf16) := by
  refine (dats m 0 c).arrAt_eq_of_covers 3 _ (by decide +kernel) fun t hf y => ?_
  blk_simp
  rw [after0_3]
  obtain ⟨i, j, rfl⟩ := exists_ix2 y
  frame_out
  refine (pay1 m c t i j).trans ?_
  blk_simp [idx t]
  rw [Nat.mul_comm]

end Cert.Kernel24Ideal.Gen

namespace Cert.Reference24Ideal.Read

variable (Z : Vec Ideal S2048x1024 .f32) (g b : Vec Ideal S1x1024 .f32)

/-- The reference's deviations from a row's mean. -/
theorem ref12 (r : Fin 2048) (j : Fin 1024) : val_main_v12 (F := Ideal) Z (ix2 r j) = dev (ent Z r) j := by
  pointwise [val_main_v12, val_main_v11, val_main_v3, val_main_v2, val_main_cst_0, val_main_v1, val_main_v0, val_main_cst]
  have row : ∀ k : Fin 1024, Z (ix2 r k) = ent Z r.val k.val := fun k => (ent_eq Z r.isLt k.isLt).symm
  simp only [row]
  rfl

/-- The reference's deviations, as it computes them for the variance. -/
theorem ref5 (r : Fin 2048) (j : Fin 1024) : val_main_v5 (F := Ideal) Z (ix2 r j) = dev (ent Z r) j := by
  pointwise [val_main_v5, val_main_v4, val_main_v3, val_main_v2, val_main_cst_0, val_main_v1, val_main_v0, val_main_cst]
  have row : ∀ k : Fin 1024, Z (ix2 r k) = ent Z r.val k.val := fun k => (ent_eq Z r.isLt k.isLt).symm
  simp only [row]
  rfl

/-- The reference's normalised rows. -/
theorem ref17 (r : Fin 2048) (j : Fin 1024) : val_main_v17 (F := Ideal) Z (ix2 r j) = nrm (ent Z r) j := by
  pointwise [val_main_v17, val_main_v16, val_main_v15, val_main_v14, val_main_v13, val_main_cst_3, val_main_v10, val_main_v9,
    val_main_cst_2, val_main_v8, val_main_v7, val_main_cst_1, val_main_v6]
  simp only [ref12, ref5]
  rfl

/-- The reference's activation. -/
theorem res3 : val_main_v23 (F := Ideal) Z g b
    = fun y => siluNorm (ent Z (y 0).val) (ent g 0 (y 1).val) (ent b 0 (y 1).val) (y 1).val := by
  funext y
  obtain ⟨r, j, rfl⟩ := exists_ix2 y
  pointwise [val_main_v23, val_main_v22, val_main_call0_v5, val_main_call0_v4, val_main_call0_cst_0, val_main_call0_v3,
    val_main_call0_v2, val_main_call0_cst, val_main_call0_v1, val_main_call0_v0, val_main_v21, val_main_v20, val_main_v19,
    val_main_v18]
  rw [ref17]
  unfold siluNorm
  rw [ent_eq g (by omega) j.isLt, ent_eq b (by omega) j.isLt]
  rfl

end Cert.Reference24Ideal.Read

namespace Cert.Reference24Ideal.Value

/-- The kernel computes the reference's layer norm and activation. -/
theorem algebraic : Cert.algebraic_Kernel24Ideal_Reference24Ideal := by
  intro m g m' g' _ ha
  refine ⟨fun c => (Cert.Kernel24Ideal.Gen.dats m 0 c).arrAt 3 Cert.Kernel24Ideal.cfg0.N, Cert.Kernel24Ideal.Value.run_blocks m g, ?_⟩
  refine (θ_run Cert.Reference24Ideal.defs _ _).mono (fun r h c => ⟨(h c).1.trans ?_, (h c).2⟩) (run (F := Ideal) m' g')
  obtain ⟨a0, a1, a2⟩ := ha c
  refine (Read.val_main_v23_eq _ _ _).trans ?_
  rw [a0, a1, a2]
  exact (Read.res3 _ _ _).trans (Cert.Kernel24Ideal.Gen.arr3 m c).symm

end Cert.Reference24Ideal.Value

end
-- ==== Proof.lean ====
/-
  The proof of the certificate: twenty-four calls of the training step compute what their lines of the step, written plainly, say.

  The frames are the ones the launch facts give. The value claim of the spatial gating unit's backward pass, here, joins two
  readings of the same six arrays: the kernel's (Proof/Arrays.lean: the blocks of the eight grid points, and the accumulated
  blocks of the last one) and the reference's (Proof/Ref.lean). Both name the mathematics of Proof/Spec.lean. The value claims
  of the twelve products are each in a module of their own, over Proof/Products.lean and Proof/Partial.lean; those of the
  residuals, gates and norms, backward, forward and with the loss, are in modules over Proof/Spec.lean and Proof/Norm.lean.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Arrays
public import proofs.«01_k».proof.Proof.Ref
public import proofs.«01_k».proof.Proof.Pre
public import proofs.«01_k».proof.Proof.Glu
public import proofs.«01_k».proof.Proof.Pair
public import proofs.«01_k».proof.Proof.WGate
public import proofs.«01_k».proof.Proof.WDown
public import proofs.«01_k».proof.Proof.WProj
public import proofs.«01_k».proof.Proof.DIn
public import proofs.«01_k».proof.Proof.DOut
public import proofs.«01_k».proof.Proof.Up
public import proofs.«01_k».proof.Proof.Fwd
public import proofs.«01_k».proof.Proof.InProj
public import proofs.«01_k».proof.Proof.Merge
public import proofs.«01_k».proof.Proof.Residual
public import proofs.«01_k».proof.Proof.Half
public import proofs.«01_k».proof.Proof.First
public import proofs.«01_k».proof.Proof.Silu
public import proofs.«01_k».proof.Proof.Last
public import proofs.«01_k».proof.Proof.Forward
public import proofs.«01_k».proof.Proof.Modulated
public import proofs.«01_k».proof.Proof.SiluForward

@[expose] public section

noncomputable section

namespace Cert.Proof

open Idealize.ShloMosaic Idealize.SL.Sem Cert.Gate

/-- A run that ends with its results computed and its arguments kept, in a program that declares no counter, ends with its
    arguments kept and every counter at zero. -/
theorem kept {nD : ℕ} {τ : Topo} {sig : RefSig} {Λ : Labels} {defs : Defs nD τ sig (Elt Ideal) Λ}
    {p : (c : Thread nD τ) → Prog (TpuEff nD τ sig (Elt Ideal) Λ c.2) PUnit} {s : MemSt nD τ sig (Elt Ideal)}
    {Q : PUnit × MemSt nD τ sig (Elt Ideal) → Prop} (K : PUnit × MemSt nD τ sig (Elt Ideal) → Dev nD → Prop)
    (run : θ_run defs p s Q) (hK : ∀ r, Q r → ∀ c, K r c) (none : sig.nSem + sig.nDmaSem = 0) :
    θ_run defs p s fun r => (∀ c, K r c) ∧ r.2.sem = fun _ => 0 :=
  (θ_run defs _ _).mono (fun r h => ⟨hK r h, sem_eq_zero_of_no_sems none r.2⟩) run

variable [Cert.Pre_finite_inputs.Facts]

/-- The kernel's six results are the reference's, from the same arguments. -/
theorem algebraic : Cert.algebraic_KernelIdeal_ReferenceIdeal_pre_finite_inputs := by
  intro m g m' g' hp ha
  have hT := Cert.Pre_finite_inputs.tame m hp
  refine ⟨fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    fun c => (Cert.KernelIdeal.Gen.dats m 0 c).arrAt 11 Cert.KernelIdeal.cfg0.N,
    fun c => (Cert.KernelIdeal.Gen.dats m 0 c).arrAt 12 Cert.KernelIdeal.cfg0.N,
    fun c => (Cert.KernelIdeal.Gen.dats m 0 c).arrAt 13 Cert.KernelIdeal.cfg0.N,
    Cert.KernelIdeal.Value.run_blocks m g, ?_⟩
  refine (θ_run Cert.ReferenceIdeal.defs _ _).mono (fun r h c => ?_) (Cert.ReferenceIdeal.Value.run (F := Ideal) m' g')
  obtain ⟨r8, r9, r10, r11, r12, r13, kept⟩ := h c
  obtain ⟨a0, a1, a2, a3, a4, a5, a6⟩ := ha c
  have hd : Cert.ReferenceIdeal.Read.dataRef (m' ((c.tc : Thread _ _).loc Cert.ReferenceIdeal.main_arg0))
      (m' ((c.tc : Thread _ _).loc Cert.ReferenceIdeal.main_arg1)) (m' ((c.tc : Thread _ _).loc Cert.ReferenceIdeal.main_arg2))
      (m' ((c.tc : Thread _ _).loc Cert.ReferenceIdeal.main_arg3)) (m' ((c.tc : Thread _ _).loc Cert.ReferenceIdeal.main_arg4))
      (m' ((c.tc : Thread _ _).loc Cert.ReferenceIdeal.main_arg5)) (m' ((c.tc : Thread _ _).loc Cert.ReferenceIdeal.main_arg6))
      = Cert.KernelIdeal.Gen.dataAt m c := by
    rw [a0, a1, a2, a3, a4, a5, a6]
    rfl
  refine ⟨?_, ?_, ?_, ?_, ?_, ?_, kept⟩
  · refine (r8.trans (Cert.ReferenceIdeal.Read.val_main_v162_eq _)).trans ?_
    refine (Cert.ReferenceIdeal.Read.res8 (m' ((c.tc : Thread _ _).loc Cert.ReferenceIdeal.main_arg0)) (m' ((c.tc : Thread _ _).loc Cert.ReferenceIdeal.main_arg1))
      (m' ((c.tc : Thread _ _).loc Cert.ReferenceIdeal.main_arg2)) (m' ((c.tc : Thread _ _).loc Cert.ReferenceIdeal.main_arg3))
      (m' ((c.tc : Thread _ _).loc Cert.ReferenceIdeal.main_arg4)) (m' ((c.tc : Thread _ _).loc Cert.ReferenceIdeal.main_arg5))
      (m' ((c.tc : Thread _ _).loc Cert.ReferenceIdeal.main_arg6))).trans ?_
    exact (congrArg (fun D : Data => fun y : (⟨2, ![2048, 2048]⟩ : Shape).Idx => D.duv (y 0).val (y 1).val) hd).trans
      (Cert.KernelIdeal.Gen.arr8 m c (hT c)).symm
  · refine (r9.trans (Cert.ReferenceIdeal.Read.val_main_v161_eq _)).trans ?_
    refine (Cert.ReferenceIdeal.Read.res9 (m' ((c.tc : Thread _ _).loc Cert.ReferenceIdeal.main_arg0)) (m' ((c.tc : Thread _ _).loc Cert.ReferenceIdeal.main_arg1))
      (m' ((c.tc : Thread _ _).loc Cert.ReferenceIdeal.main_arg2)) (m' ((c.tc : Thread _ _).loc Cert.ReferenceIdeal.main_arg3))
      (m' ((c.tc : Thread _ _).loc Cert.ReferenceIdeal.main_arg4)) (m' ((c.tc : Thread _ _).loc Cert.ReferenceIdeal.main_arg5))
      (m' ((c.tc : Thread _ _).loc Cert.ReferenceIdeal.main_arg6))).trans ?_
    exact (congrArg (fun D : Data => fun y : (⟨2, ![1, 2048]⟩ : Shape).Idx => D.sumDuv (y 1).val) hd).trans
      (Cert.KernelIdeal.Gen.arr9 m c (hT c)).symm
  · refine (r10.trans (Cert.ReferenceIdeal.Read.val_main_v108_eq _)).trans ?_
    refine (Cert.ReferenceIdeal.Read.res10 (m' ((c.tc : Thread _ _).loc Cert.ReferenceIdeal.main_arg0)) (m' ((c.tc : Thread _ _).loc Cert.ReferenceIdeal.main_arg1))
      (m' ((c.tc : Thread _ _).loc Cert.ReferenceIdeal.main_arg2)) (m' ((c.tc : Thread _ _).loc Cert.ReferenceIdeal.main_arg3))
      (m' ((c.tc : Thread _ _).loc Cert.ReferenceIdeal.main_arg4)) (m' ((c.tc : Thread _ _).loc Cert.ReferenceIdeal.main_arg5))
      (m' ((c.tc : Thread _ _).loc Cert.ReferenceIdeal.main_arg6))).trans ?_
    exact (congrArg (fun D : Data => fun y : (⟨2, ![1, 1024]⟩ : Shape).Idx => D.dg (y 1).val) hd).trans
      (Cert.KernelIdeal.Gen.arr10 m c).symm
  · refine (r11.trans (Cert.ReferenceIdeal.Read.val_main_v105_eq _)).trans ?_
    refine (Cert.ReferenceIdeal.Read.res11 (m' ((c.tc : Thread _ _).loc Cert.ReferenceIdeal.main_arg0)) (m' ((c.tc : Thread _ _).loc Cert.ReferenceIdeal.main_arg1))
      (m' ((c.tc : Thread _ _).loc Cert.ReferenceIdeal.main_arg2)) (m' ((c.tc : Thread _ _).loc Cert.ReferenceIdeal.main_arg3))
      (m' ((c.tc : Thread _ _).loc Cert.ReferenceIdeal.main_arg4)) (m' ((c.tc : Thread _ _).loc Cert.ReferenceIdeal.main_arg5))
      (m' ((c.tc : Thread _ _).loc Cert.ReferenceIdeal.main_arg6))).trans ?_
    exact (congrArg (fun D : Data => fun y : (⟨2, ![1, 1024]⟩ : Shape).Idx => D.db (y 1).val) hd).trans
      (Cert.KernelIdeal.Gen.arr11 m c).symm
  · refine (r12.trans (Cert.ReferenceIdeal.Read.val_main_v102_eq _)).trans ?_
    refine (Cert.ReferenceIdeal.Read.res12 (m' ((c.tc : Thread _ _).loc Cert.ReferenceIdeal.main_arg0)) (m' ((c.tc : Thread _ _).loc Cert.ReferenceIdeal.main_arg1))
      (m' ((c.tc : Thread _ _).loc Cert.ReferenceIdeal.main_arg2)) (m' ((c.tc : Thread _ _).loc Cert.ReferenceIdeal.main_arg3))
      (m' ((c.tc : Thread _ _).loc Cert.ReferenceIdeal.main_arg4)) (m' ((c.tc : Thread _ _).loc Cert.ReferenceIdeal.main_arg5))
      (m' ((c.tc : Thread _ _).loc Cert.ReferenceIdeal.main_arg6))).trans ?_
    exact (congrArg (fun D : Data => fun y : (⟨3, ![8, 128, 128]⟩ : Shape).Idx => D.dws (y 0).val (y 1).val (y 2).val) hd).trans
      (Cert.KernelIdeal.Gen.arr12 m c).symm
  · refine (r13.trans (Cert.ReferenceIdeal.Read.val_main_v165_eq _)).trans ?_
    refine (Cert.ReferenceIdeal.Read.res13 (m' ((c.tc : Thread _ _).loc Cert.ReferenceIdeal.main_arg0)) (m' ((c.tc : Thread _ _).loc Cert.ReferenceIdeal.main_arg1))
      (m' ((c.tc : Thread _ _).loc Cert.ReferenceIdeal.main_arg2)) (m' ((c.tc : Thread _ _).loc Cert.ReferenceIdeal.main_arg3))
      (m' ((c.tc : Thread _ _).loc Cert.ReferenceIdeal.main_arg4)) (m' ((c.tc : Thread _ _).loc Cert.ReferenceIdeal.main_arg5))
      (m' ((c.tc : Thread _ _).loc Cert.ReferenceIdeal.main_arg6))).trans ?_
    exact (congrArg (fun D : Data => fun y : (⟨2, ![128, 1024]⟩ : Shape).Idx => D.dbs (y 0).val ((y 1).val / 128)) hd).trans
      (Cert.KernelIdeal.Gen.arr13 m c).symm

omit [Cert.Pre_finite_inputs.Facts] in
/-- The certificate. -/
theorem claim : Cert.Claim := by
  haveI := Cert.Pre_finite_inputs.facts
  haveI := Cert.Pre_finite_inputs2.facts
  haveI := Cert.Pre_finite_inputs18.facts
  have r1 : Cert.quiescent_ReferenceIdeal := fun m ρ _ =>
    kept _ (Cert.ReferenceIdeal.Value.run (F := Ideal) m ρ) (fun _ h c => (h c).2.2.2.2.2.2) (by decide)
  have r2 : Cert.quiescent_Reference2Ideal := fun m ρ _ =>
    kept _ (Cert.Reference2Ideal.Value.run (F := Ideal) m ρ) (fun _ h c => (h c).2.2) (by decide)
  have r18 : Cert.quiescent_Reference18Ideal := fun m ρ _ =>
    kept _ (Cert.Reference18Ideal.Value.run (F := Ideal) m ρ) (fun _ h c => (h c).2.2.2) (by decide)
  exact ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Pre_finite_inputs.facts, Cert.Pre_finite_inputs2.facts, Cert.Pre_finite_inputs18.facts,
    fun m ρ _ => Cert.Kernel.Gen.frame m ρ, fun m ρ _ => Cert.KernelIdeal.Gen.frame m ρ,
    fun m ρ _ => Cert.KernelIdeal.Gen.frame m ρ, r1, fun m ρ _ => r1 m ρ trivial,
    fun m ρ _ => Cert.Kernel2.Gen.frame m ρ, fun m ρ _ => Cert.Kernel2Ideal.Gen.frame m ρ,
    fun m ρ _ => Cert.Kernel2Ideal.Gen.frame m ρ, r2, fun m ρ _ => r2 m ρ trivial,
    fun m ρ _ => Cert.Kernel3.Gen.frame m ρ, fun m ρ _ => Cert.Kernel3Ideal.Gen.frame m ρ,
    fun m ρ _ => kept _ (Cert.Reference3Ideal.Value.run (F := Ideal) m ρ) (fun _ h c => (h c).2) (by decide),
    fun m ρ _ => Cert.Kernel4.Gen.frame m ρ, fun m ρ _ => Cert.Kernel4Ideal.Gen.frame m ρ,
    fun m ρ _ => kept _ (Cert.Reference4Ideal.Value.run (F := Ideal) m ρ) (fun _ h c => (h c).2) (by decide),
    fun m ρ _ => Cert.Kernel5.Gen.frame m ρ, fun m ρ _ => Cert.Kernel5Ideal.Gen.frame m ρ,
    fun m ρ _ => kept _ (Cert.Reference5Ideal.Value.run (F := Ideal) m ρ) (fun _ h c => (h c).2) (by decide),
    fun m ρ _ => Cert.Kernel6.Gen.frame m ρ, fun m ρ _ => Cert.Kernel6Ideal.Gen.frame m ρ,
    fun m ρ _ => kept _ (Cert.Reference6Ideal.Value.run (F := Ideal) m ρ) (fun _ h c => (h c).2) (by decide),
    fun m ρ _ => Cert.Kernel7.Gen.frame m ρ, fun m ρ _ => Cert.Kernel7Ideal.Gen.frame m ρ,
    fun m ρ _ => kept _ (Cert.Reference7Ideal.Value.run (F := Ideal) m ρ) (fun _ h c => (h c).2) (by decide),
    fun m ρ _ => Cert.Kernel8.Gen.frame m ρ, fun m ρ _ => Cert.Kernel8Ideal.Gen.frame m ρ,
    fun m ρ _ => kept _ (Cert.Reference8Ideal.Value.run (F := Ideal) m ρ) (fun _ h c => (h c).2) (by decide),
    fun m ρ _ => Cert.Kernel9.Gen.frame m ρ, fun m ρ _ => Cert.Kernel9Ideal.Gen.frame m ρ,
    fun m ρ _ => kept _ (Cert.Reference9Ideal.Value.run (F := Ideal) m ρ) (fun _ h c => (h c).2) (by decide),
    fun m ρ _ => Cert.Kernel10.Gen.frame m ρ, fun m ρ _ => Cert.Kernel10Ideal.Gen.frame m ρ,
    fun m ρ _ => kept _ (Cert.Reference10Ideal.Value.run (F := Ideal) m ρ) (fun _ h c => (h c).2.2.2) (by decide),
    fun m ρ _ => Cert.Kernel11.Gen.frame m ρ, fun m ρ _ => Cert.Kernel11Ideal.Gen.frame m ρ,
    fun m ρ _ => kept _ (Cert.Reference11Ideal.Value.run (F := Ideal) m ρ) (fun _ h c => (h c).2) (by decide),
    fun m ρ _ => Cert.Kernel12.Gen.frame m ρ, fun m ρ _ => Cert.Kernel12Ideal.Gen.frame m ρ,
    fun m ρ _ => kept _ (Cert.Reference12Ideal.Value.run (F := Ideal) m ρ) (fun _ h c => (h c).2) (by decide),
    fun m ρ _ => Cert.Kernel13.Gen.frame m ρ, fun m ρ _ => Cert.Kernel13Ideal.Gen.frame m ρ,
    fun m ρ _ => kept _ (Cert.Reference13Ideal.Value.run (F := Ideal) m ρ) (fun _ h c => (h c).2) (by decide),
    fun m ρ _ => Cert.Kernel14.Gen.frame m ρ, fun m ρ _ => Cert.Kernel14Ideal.Gen.frame m ρ,
    fun m ρ _ => kept _ (Cert.Reference14Ideal.Value.run (F := Ideal) m ρ) (fun _ h c => (h c).2.2.2.2) (by decide),
    fun m ρ _ => Cert.Kernel15.Gen.frame m ρ, fun m ρ _ => Cert.Kernel15Ideal.Gen.frame m ρ,
    fun m ρ _ => kept _ (Cert.Reference15Ideal.Value.run (F := Ideal) m ρ) (fun _ h c => (h c).2.2.2.2.2.2) (by decide),
    fun m ρ _ => Cert.Kernel16.Gen.frame m ρ, fun m ρ _ => Cert.Kernel16Ideal.Gen.frame m ρ,
    fun m ρ _ => kept _ (Cert.Reference16Ideal.Value.run (F := Ideal) m ρ) (fun _ h c => (h c).2.2.2.2.2.2) (by decide),
    fun m ρ _ => Cert.Kernel17.Gen.frame m ρ, fun m ρ _ => Cert.Kernel17Ideal.Gen.frame m ρ,
    fun m ρ _ => kept _ (Cert.Reference17Ideal.Value.run (F := Ideal) m ρ) (fun _ h c => (h c).2.2.2.2) (by decide),
    fun m ρ _ => Cert.Kernel18.Gen.frame m ρ, fun m ρ _ => Cert.Kernel18Ideal.Gen.frame m ρ,
    fun m ρ _ => Cert.Kernel18Ideal.Gen.frame m ρ, r18, fun m ρ _ => r18 m ρ trivial,
    fun m ρ _ => Cert.Kernel19.Gen.frame m ρ, fun m ρ _ => Cert.Kernel19Ideal.Gen.frame m ρ,
    fun m ρ _ => kept _ (Cert.Reference19Ideal.Value.run (F := Ideal) m ρ) (fun _ h c => (h c).2.2.2.2.2) (by decide),
    fun m ρ _ => Cert.Kernel20.Gen.frame m ρ, fun m ρ _ => Cert.Kernel20Ideal.Gen.frame m ρ,
    fun m ρ _ => kept _ (Cert.Reference20Ideal.Value.run (F := Ideal) m ρ) (fun _ h c => (h c).2) (by decide),
    fun m ρ _ => Cert.Kernel21.Gen.frame m ρ, fun m ρ _ => Cert.Kernel21Ideal.Gen.frame m ρ,
    fun m ρ _ => kept _ (Cert.Reference21Ideal.Value.run (F := Ideal) m ρ) (fun _ h c => (h c).2.2) (by decide),
    fun m ρ _ => Cert.Kernel22.Gen.frame m ρ, fun m ρ _ => Cert.Kernel22Ideal.Gen.frame m ρ,
    fun m ρ _ => kept _ (Cert.Reference22Ideal.Value.run (F := Ideal) m ρ) (fun _ h c => (h c).2.2) (by decide),
    fun m ρ _ => Cert.Kernel23.Gen.frame m ρ, fun m ρ _ => Cert.Kernel23Ideal.Gen.frame m ρ,
    fun m ρ _ => kept _ (Cert.Reference23Ideal.Value.run (F := Ideal) m ρ) (fun _ h c => (h c).2) (by decide),
    fun m ρ _ => Cert.Kernel24.Gen.frame m ρ, fun m ρ _ => Cert.Kernel24Ideal.Gen.frame m ρ,
    fun m ρ _ => kept _ (Cert.Reference24Ideal.Value.run (F := Ideal) m ρ) (fun _ h c => (h c).2) (by decide),
    trivial, algebraic, trivial, Cert.Reference2Ideal.Value.algebraic, trivial, Cert.Reference3Ideal.Value.algebraic,
    trivial, Cert.Reference4Ideal.Value.algebraic, trivial, Cert.Reference5Ideal.Value.algebraic,
    trivial, Cert.Reference6Ideal.Value.algebraic, trivial, Cert.Reference7Ideal.Value.algebraic,
    trivial, Cert.Reference8Ideal.Value.algebraic, trivial, Cert.Reference9Ideal.Value.algebraic,
    trivial, Cert.Reference10Ideal.Value.algebraic, trivial, Cert.Reference11Ideal.Value.algebraic,
    trivial, Cert.Reference12Ideal.Value.algebraic, trivial, Cert.Reference13Ideal.Value.algebraic,
    trivial, Cert.Reference14Ideal.Value.algebraic, trivial, Cert.Reference15Ideal.Value.algebraic,
    trivial, Cert.Reference16Ideal.Value.algebraic, trivial, Cert.Reference17Ideal.Value.algebraic,
    trivial, Cert.Reference18Ideal.Value.algebraic, trivial, Cert.Reference19Ideal.Value.algebraic,
    trivial, Cert.Reference20Ideal.Value.algebraic, trivial, Cert.Reference21Ideal.Value.algebraic,
    trivial, Cert.Reference22Ideal.Value.algebraic, trivial, Cert.Reference23Ideal.Value.algebraic,
    trivial, Cert.Reference24Ideal.Value.algebraic⟩

end Cert.Proof

end
